-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12)
      ∧ r.2.mem ((c.tc : Thread Cert.Proj.nD Cert.Proj.τ).loc Cert.Proj.main_arg13) = m ((c.tc : Thread Cert.Proj.nD Cert.Proj.τ).loc Cert.Proj.main_arg13)
      ∧ r.2.mem ((c.tc : Thread Cert.Proj.nD Cert.Proj.τ).loc Cert.Proj.main_arg14) = m ((c.tc : Thread Cert.Proj.nD Cert.Proj.τ).loc Cert.Proj.main_arg14))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11)
      ∧ r.2.mem ((c.tc : Thread Cert.ProjRefIdeal.nD Cert.ProjRefIdeal.τ).loc Cert.ProjRefIdeal.main_arg12) = m ((c.tc : Thread Cert.ProjRefIdeal.nD Cert.ProjRefIdeal.τ).loc Cert.ProjRefIdeal.main_arg12)
      ∧ r.2.mem ((c.tc : Thread Cert.ProjRefIdeal.nD Cert.ProjRefIdeal.τ).loc Cert.ProjRefIdeal.main_arg13) = m ((c.tc : Thread Cert.ProjRefIdeal.nD Cert.ProjRefIdeal.τ).loc Cert.ProjRefIdeal.main_arg13)
      ∧ r.2.mem ((c.tc : Thread Cert.ProjRefIdeal.nD Cert.ProjRefIdeal.τ).loc Cert.ProjRefIdeal.main_arg14) = m ((c.tc : Thread Cert.ProjRefIdeal.nD Cert.ProjRefIdeal.τ).loc Cert.ProjRefIdeal.main_arg14))
      ∧ r.2.sem = fun _ => 0)

def preserves_Mlp_MlpIdeal : Prop :=
  IdealRules.named_const.Statement Cert.MlpIdeal.κ "gelu_c" .f32 0x3F4C422A#32 ((3989422804014327 / 5000000000000000 : ℝ) : EReal)
  ∧ IdealRules.named_const.Statement Cert.MlpIdeal.κ "gelu_a_c2" .f32 0x3D8FD906#32 ((372625000000000000000000000000 / 5305164769729845112342007087643 : ℝ) : EReal)

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v4_0)) (v1 : (c : Dev Cert.MlpIdeal.nD) → Buf (Elt Ideal) ((c.tc : Thread Cert.MlpIdeal.nD Cert.MlpIdeal.τ).loc Cert.MlpIdeal.main_v4_1)) (v2 : (c : Dev Cert.MlpIdeal.nD) → Buf (Elt Ideal) ((c.tc : Thread Cert.MlpIdeal.nD Cert.MlpIdeal.τ).loc Cert.MlpIdeal.main_v4_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4_0) = v0 c
          ∧ r.2.mem ((c.tc : Thread Cert.MlpIdeal.nD Cert.MlpIdeal.τ).loc Cert.MlpIdeal.main_v4_1) = v1 c
          ∧ r.2.mem ((c.tc : Thread Cert.MlpIdeal.nD Cert.MlpIdeal.τ).loc Cert.MlpIdeal.main_v4_2) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v4_0) = v0 c
          ∧ r.2.mem ((c.tc : Thread Cert.MlpRefIdeal.nD Cert.MlpRefIdeal.τ).loc Cert.MlpRefIdeal.main_v4_1) = v1 c
          ∧ r.2.mem ((c.tc : Thread Cert.MlpRefIdeal.nD Cert.MlpRefIdeal.τ).loc Cert.MlpRefIdeal.main_v4_2) = v2 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)
      ∧ m' ((c.tc : Thread Cert.ProjRefIdeal.nD Cert.ProjRefIdeal.τ).loc Cert.ProjRefIdeal.main_arg12) = m ((c.tc : Thread Cert.ProjIdeal.nD Cert.ProjIdeal.τ).loc Cert.ProjIdeal.main_arg12)
      ∧ m' ((c.tc : Thread Cert.ProjRefIdeal.nD Cert.ProjRefIdeal.τ).loc Cert.ProjRefIdeal.main_arg13) = m ((c.tc : Thread Cert.ProjIdeal.nD Cert.ProjIdeal.τ).loc Cert.ProjIdeal.main_arg13)
      ∧ m' ((c.tc : Thread Cert.ProjRefIdeal.nD Cert.ProjRefIdeal.τ).loc Cert.ProjRefIdeal.main_arg14) = m ((c.tc : Thread Cert.ProjIdeal.nD Cert.ProjIdeal.τ).loc Cert.ProjIdeal.main_arg14)) →
    ∃ (v0 : (c : Dev Cert.ProjIdeal.nD) → Buf (Elt Ideal) ((c.tc : Thread Cert.ProjIdeal.nD Cert.ProjIdeal.τ).loc Cert.ProjIdeal.main_v8_0)) (v1 : (c : Dev Cert.ProjIdeal.nD) → Buf (Elt Ideal) ((c.tc : Thread Cert.ProjIdeal.nD Cert.ProjIdeal.τ).loc Cert.ProjIdeal.main_v8_1)) (v2 : (c : Dev Cert.ProjIdeal.nD) → Buf (Elt Ideal) ((c.tc : Thread Cert.ProjIdeal.nD Cert.ProjIdeal.τ).loc Cert.ProjIdeal.main_v8_2)) (v3 : (c : Dev Cert.ProjIdeal.nD) → Buf (Elt Ideal) ((c.tc : Thread Cert.ProjIdeal.nD Cert.ProjIdeal.τ).loc Cert.ProjIdeal.main_v8_3)) (v4 : (c : Dev Cert.ProjIdeal.nD) → Buf (Elt Ideal) ((c.tc : Thread Cert.ProjIdeal.nD Cert.ProjIdeal.τ).loc Cert.ProjIdeal.main_v8_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v8_0) = v0 c
          ∧ r.2.mem ((c.tc : Thread Cert.ProjIdeal.nD Cert.ProjIdeal.τ).loc Cert.ProjIdeal.main_v8_1) = v1 c
          ∧ r.2.mem ((c.tc : Thread Cert.ProjIdeal.nD Cert.ProjIdeal.τ).loc Cert.ProjIdeal.main_v8_2) = v2 c
          ∧ r.2.mem ((c.tc : Thread Cert.ProjIdeal.nD Cert.ProjIdeal.τ).loc Cert.ProjIdeal.main_v8_3) = v3 c
          ∧ r.2.mem ((c.tc : Thread Cert.ProjIdeal.nD Cert.ProjIdeal.τ).loc Cert.ProjIdeal.main_v8_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
          ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
          ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v8_0) = v0 c
          ∧ r.2.mem ((c.tc : Thread Cert.ProjRefIdeal.nD Cert.ProjRefIdeal.τ).loc Cert.ProjRefIdeal.main_v8_1) = v1 c
          ∧ r.2.mem ((c.tc : Thread Cert.ProjRefIdeal.nD Cert.ProjRefIdeal.τ).loc Cert.ProjRefIdeal.main_v8_2) = v2 c
          ∧ r.2.mem ((c.tc : Thread Cert.ProjRefIdeal.nD Cert.ProjRefIdeal.τ).loc Cert.ProjRefIdeal.main_v8_3) = v3 c
          ∧ r.2.mem ((c.tc : Thread Cert.ProjRefIdeal.nD Cert.ProjRefIdeal.τ).loc Cert.ProjRefIdeal.main_v8_4) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11)
          ∧ r.2.mem ((c.tc : Thread Cert.ProjRefIdeal.nD Cert.ProjRefIdeal.τ).loc Cert.ProjRefIdeal.main_arg12) = m' ((c.tc : Thread Cert.ProjRefIdeal.nD Cert.ProjRefIdeal.τ).loc Cert.ProjRefIdeal.main_arg12)
          ∧ r.2.mem ((c.tc : Thread Cert.ProjRefIdeal.nD Cert.ProjRefIdeal.τ).loc Cert.ProjRefIdeal.main_arg13) = m' ((c.tc : Thread Cert.ProjRefIdeal.nD Cert.ProjRefIdeal.τ).loc Cert.ProjRefIdeal.main_arg13)
          ∧ r.2.mem ((c.tc : Thread Cert.ProjRefIdeal.nD Cert.ProjRefIdeal.τ).loc Cert.ProjRefIdeal.main_arg14) = m' ((c.tc : Thread Cert.ProjRefIdeal.nD Cert.ProjRefIdeal.τ).loc Cert.ProjRefIdeal.main_arg14))

def Claim : Prop :=
  ∃ (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts),
    quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
-- ==== Mlp.lean ====
abbrev S1x1024x2048 : Shape := ⟨3, ![1, 1024, 2048]⟩
abbrev S1x1024 : Shape := ⟨2, ![1, 1024]⟩
abbrev S1x1024x5632 : Shape := ⟨3, ![1, 1024, 5632]⟩
abbrev S5632x2048 : Shape := ⟨2, ![5632, 2048]⟩
abbrev S2048 : Shape := ⟨1, ![2048]⟩
abbrev S1024x2048 : Shape := ⟨2, ![1024, 2048]⟩
abbrev S1024x5632 : Shape := ⟨2, ![1024, 5632]⟩
abbrev S1x2048 : Shape := ⟨2, ![1, 2048]⟩
abbrev S512x2048 : Shape := ⟨2, ![512, 2048]⟩
abbrev S1024x512 : Shape := ⟨2, ![1024, 512]⟩
abbrev S1024x128 : Shape := ⟨2, ![1024, 128]⟩
abbrev S128x1024 : Shape := ⟨2, ![128, 1024]⟩
abbrev S512x1024 : Shape := ⟨2, ![512, 1024]⟩
abbrev S1024 : Shape := ⟨1, ![1024]⟩
abbrev S1024x1 : Shape := ⟨2, ![1024, 1]⟩

abbrev nBuf : Space → Nat
  | .hbm => 15
  | .vmem => 20
  | .smem => 0
  | _ => 0

abbrev bufTy : (tb : Table) → Fin (tcTables nBuf tb) → BufTy
  | .hbm, ⟨0, _⟩ => ⟨S1x1024x2048, .fp8e5m2⟩
  | .hbm, ⟨1, _⟩ => ⟨S1x1024, .f32⟩
  | .hbm, ⟨2, _⟩ => ⟨S1x1024x5632, .fp8e4m3⟩
  | .hbm, ⟨3, _⟩ => ⟨S1x1024, .f32⟩
  | .hbm, ⟨4, _⟩ => ⟨S1x1024x5632, .fp8e4m3⟩
  | .hbm, ⟨5, _⟩ => ⟨S1x1024, .f32⟩
  | .hbm, ⟨6, _⟩ => ⟨S5632x2048, .fp8e4m3⟩
  | .hbm, ⟨7, _⟩ => ⟨S2048, .f32⟩
  | .hbm, ⟨8, _⟩ => ⟨S1024x2048, .fp8e5m2⟩
  | .hbm, ⟨9, _⟩ => ⟨S1024x5632, .fp8e4m3⟩
  | .hbm, ⟨10, _⟩ => ⟨S1024x5632, .fp8e4m3⟩
  | .hbm, ⟨11, _⟩ => ⟨S1x2048, .f32⟩
  | .hbm, ⟨12, _⟩ => ⟨S5632x2048, .bf16⟩
  | .hbm, ⟨13, _⟩ => ⟨S1024x5632, .fp8e5m2⟩
  | .hbm, ⟨14, _⟩ => ⟨S1x1024, .f32⟩
  | .local _ .vmem, ⟨0, _⟩ => ⟨S1024x2048, .fp8e5m2⟩
  | .local _ .vmem, ⟨1, _⟩ => ⟨S512x2048, .fp8e4m3⟩
  | .local _ .vmem, ⟨2, _⟩ => ⟨S512x2048, .fp8e4m3⟩
  | .local _ .vmem, ⟨3, _⟩ => ⟨S1024x512, .fp8e4m3⟩
  | .local _ .vmem, ⟨4, _⟩ => ⟨S1024x512, .fp8e4m3⟩
  | .local _ .vmem, ⟨5, _⟩ => ⟨S1024x512, .fp8e4m3⟩
  | .local _ .vmem, ⟨6, _⟩ => ⟨S1024x512, .fp8e4m3⟩
  | .local _ .vmem, ⟨7, _⟩ => ⟨S1x2048, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x2048, .bf16⟩
  | .local _ .vmem, ⟨12, _⟩ => ⟨S512x2048, .bf16⟩
  | .local _ .vmem, ⟨13, _⟩ => ⟨S1024x5632, .fp8e5m2⟩
  | .local _ .vmem, ⟨14, _⟩ => ⟨S1x1024, .f32⟩
  | .local _ .vmem, ⟨15, _⟩ => ⟨S1024x5632, .f32⟩
  | .local _ .vmem, ⟨16, _⟩ => ⟨S1024x128, .f32⟩
  | .local _ .vmem, ⟨17, _⟩ => ⟨S1024x2048, .bf16⟩
  | .local _ .vmem, ⟨18, _⟩ => ⟨S1024x128, .f32⟩
  | .local _ .vmem, ⟨19, _⟩ => ⟨S1024x128, .f32⟩
  | _, _ => ⟨S1x1024x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![11], ![false]⟩

def k0_mult1 (i : grid0.Coords) : BitVec 32 :=
  let arg0 : BitVec 32 := BitVec.ofNat 32 (i 0).val
  let c512_i32 : BitVec 32 := 512#32
  let v40 : BitVec 32 := Scalar.muli arg0 c512_i32
  let c0_i32_18 : BitVec 32 := 0#32
  let v41 : BitVec 32 := Scalar.addi v40 c0_i32_18
  v41
def k0_off1 (i : grid0.Coords) (c0_i32_18 : BitVec 32) : Fin 2 → Nat :=
  let c0_19 : Index := 0#32
  let arg0 : BitVec 32 := BitVec.ofNat 32 (i 0).val
  let c512_i32 : BitVec 32 := 512#32
  let v40 : BitVec 32 := Scalar.muli arg0 c512_i32
  let v41 : BitVec 32 := Scalar.addi v40 c0_i32_18
  let v42 : BitVec 32 := v41
  let v43 : Index := Scalar.indexCast v42
  ![0, v43.toNat]
def k0_mult2 (i : grid0.Coords) : BitVec 32 :=
  let arg0 : BitVec 32 := BitVec.ofNat 32 (i 0).val
  let c512_i32_25 : BitVec 32 := 512#32
  let v72 : BitVec 32 := Scalar.muli arg0 c512_i32_25
  let c128_i32 : BitVec 32 := 128#32
  let v73 : BitVec 32 := Scalar.addi v72 c128_i32
  v73
def k0_mult3 (i : grid0.Coords) : BitVec 32 :=
  let arg0 : BitVec 32 := BitVec.ofNat 32 (i 0).val
  let c512_i32_32 : BitVec 32 := 512#32
  let v104 : BitVec 32 := Scalar.muli arg0 c512_i32_32
  let c256_i32 : BitVec 32 := 256#32
  let v105 : BitVec 32 := Scalar.addi v104 c256_i32
  v105
def k0_mult4 (i : grid0.Coords) : BitVec 32 :=
  let arg0 : BitVec 32 := BitVec.ofNat 32 (i 0).val
  let c512_i32_39 : BitVec 32 := 512#32
  let v136 : BitVec 32 := Scalar.muli arg0 c512_i32_39
  let c384_i32 : BitVec 32 := 384#32
  let v137 : BitVec 32 := Scalar.addi v136 c384_i32
  v137
def k0_cond2 (i : grid0.Coords) : BitVec 1 :=
  let arg0 : BitVec 32 := BitVec.ofNat 32 (i 0).val
  let c10_i32 : BitVec 32 := 10#32
  let v163 : BitVec 1 := Scalar.cmpi .eq arg0 c10_i32
  let v164 : BitVec 32 := Scalar.extui v163
  let c0_i32_54 : BitVec 32 := 0#32
  let v165 : BitVec 1 := Scalar.cmpi .ne v164 c0_i32_54
  v165

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2048 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x5632 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MlpIdeal.lean ====
variable {F : FTy → Type} [FloatOps F] [Named F]
def κ : String → Option EReal := fun
  | "gelu_a_c2" => some ((372625000000000000000000000000 / 5305164769729845112342007087643 : ℝ) : EReal)
  | "gelu_c" => some ((3989422804014327 / 5000000000000000 : ℝ) : EReal)
  | _ => none
-- ==== MlpRefIdeal.lean ====
abbrev S1x1024x2048 : Shape := ⟨3, ![1, 1024, 2048]⟩
abbrev S1x1024 : Shape := ⟨2, ![1, 1024]⟩
abbrev S1x1024x5632 : Shape := ⟨3, ![1, 1024, 5632]⟩
abbrev S5632x2048 : Shape := ⟨2, ![5632, 2048]⟩
abbrev S2048 : Shape := ⟨1, ![2048]⟩
abbrev S1024x2048 : Shape := ⟨2, ![1024, 2048]⟩
abbrev S1024x5632 : Shape := ⟨2, ![1024, 5632]⟩
abbrev S1x2048 : Shape := ⟨2, ![1, 2048]⟩
abbrev S1024x1 : Shape := ⟨2, ![1024, 1]⟩
abbrev S1024 : Shape := ⟨1, ![1024]⟩
abbrev S1x252 : Shape := ⟨2, ![1, 252]⟩
abbrev S1024x252 : Shape := ⟨2, ![1024, 252]⟩

abbrev nBuf : Space → Nat
  | .hbm => 15
  | .vmem => 11
  | .smem => 0
  | _ => 0

abbrev bufTy : (tb : Table) → Fin (tcTables nBuf tb) → BufTy
  | .hbm, ⟨0, _⟩ => ⟨S1x1024x2048, .fp8e5m2⟩
  | .hbm, ⟨1, _⟩ => ⟨S1x1024, .f32⟩
  | .hbm, ⟨2, _⟩ => ⟨S1x1024x5632, .fp8e4m3⟩
  | .hbm, ⟨3, _⟩ => ⟨S1x1024, .f32⟩
  | .hbm, ⟨4, _⟩ => ⟨S1x1024x5632, .fp8e4m3⟩
  | .hbm, ⟨5, _⟩ => ⟨S1x1024, .f32⟩
  | .hbm, ⟨6, _⟩ => ⟨S5632x2048, .fp8e4m3⟩
  | .hbm, ⟨7, _⟩ => ⟨S2048, .f32⟩
  | .hbm, ⟨8, _⟩ => ⟨S1024x2048, .fp8e5m2⟩
  | .hbm, ⟨9, _⟩ => ⟨S1024x5632, .fp8e4m3⟩
  | .hbm, ⟨10, _⟩ => ⟨S1024x5632, .fp8e4m3⟩
  | .hbm, ⟨11, _⟩ => ⟨S1x2048, .f32⟩
  | .hbm, ⟨12, _⟩ => ⟨S5632x2048, .bf16⟩
  | .hbm, ⟨13, _⟩ => ⟨S1024x5632, .fp8e5m2⟩
  | .hbm, ⟨14, _⟩ => ⟨S1x1024, .f32⟩
  | .local _ .vmem, ⟨0, _⟩ => ⟨S1024x2048, .fp8e5m2⟩
  | .local _ .vmem, ⟨1, _⟩ => ⟨S1x1024, .f32⟩
  | .local _ .vmem, ⟨2, _⟩ => ⟨S1024x5632, .fp8e4m3⟩
  | .local _ .vmem, ⟨3, _⟩ => ⟨S1x1024, .f32⟩
  | .local _ .vmem, ⟨4, _⟩ => ⟨S1024x5632, .fp8e4m3⟩
  | .local _ .vmem, ⟨5, _⟩ => ⟨S1x1024, .f32⟩
  | .local _ .vmem, ⟨6, _⟩ => ⟨S5632x2048, .fp8e4m3⟩
  | .local _ .vmem, ⟨7, _⟩ => ⟨S1x2048, .f32⟩
  | .local _ .vmem, ⟨8, _⟩ => ⟨S5632x2048, .bf16⟩
  | .local _ .vmem, ⟨9, _⟩ => ⟨S1024x5632, .fp8e5m2⟩
  | .local _ .vmem, ⟨10, _⟩ => ⟨S1x1024, .f32⟩
  | _, _ => ⟨S1x1024x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "gelu_3a" => some ((26829 / 200000 : ℝ) : EReal)
  | "gelu_a" => some ((8943 / 200000 : ℝ) : EReal)
  | "gelu_c" => some ((3989422804014327 / 5000000000000000 : ℝ) : EReal)
  | _ => none

abbrev grid0 : Pipeline.Grid := .none

abbrev stage0_0 : Fin 1 → Memref sig .tc .vmem S1024x2048 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x5632 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5632x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5632x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x5632 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proj.lean ====
abbrev S1024x5632 : Shape := ⟨2, ![1024, 5632]⟩
abbrev S1x1024 : Shape := ⟨2, ![1, 1024]⟩
abbrev S1x1024x2048 : Shape := ⟨3, ![1, 1024, 2048]⟩
abbrev S1x1024x3x16x128 : Shape := ⟨5, ![1, 1024, 3, 16, 128]⟩
abbrev S2048 : Shape := ⟨1, ![2048]⟩
abbrev S2048x5632 : Shape := ⟨2, ![2048, 5632]⟩
abbrev S5632 : Shape := ⟨1, ![5632]⟩
abbrev S2048x3x16x128 : Shape := ⟨4, ![2048, 3, 16, 128]⟩
abbrev S3x16x128 : Shape := ⟨3, ![3, 16, 128]⟩
abbrev S1024x2048 : Shape := ⟨2, ![1024, 2048]⟩
abbrev S1024x6144 : Shape := ⟨2, ![1024, 6144]⟩
abbrev S2048x6144 : Shape := ⟨2, ![2048, 6144]⟩
abbrev S1x5632 : Shape := ⟨2, ![1, 5632]⟩
abbrev S1x6144 : Shape := ⟨2, ![1, 6144]⟩
abbrev S1x2048 : Shape := ⟨2, ![1, 2048]⟩
abbrev S256x5632 : Shape := ⟨2, ![256, 5632]⟩
abbrev S256x6144 : Shape := ⟨2, ![256, 6144]⟩
abbrev S1024x256 : Shape := ⟨2, ![1024, 256]⟩
abbrev S1x256 : Shape := ⟨2, ![1, 256]⟩
abbrev S1024x128 : Shape := ⟨2, ![1024, 128]⟩
abbrev S128x1024 : Shape := ⟨2, ![128, 1024]⟩
abbrev S128 : Shape := ⟨1, ![128]⟩
abbrev S1x128 : Shape := ⟨2, ![1, 128]⟩
abbrev S256x1024 : Shape := ⟨2, ![256, 1024]⟩
abbrev S128x256 : Shape := ⟨2, ![128, 256]⟩
abbrev S256x128 : Shape := ⟨2, ![256, 128]⟩
abbrev S256x1 : Shape := ⟨2, ![256, 1]⟩
abbrev S1024 : Shape := ⟨1, ![1024]⟩
abbrev S1024x1 : Shape := ⟨2, ![1024, 1]⟩

abbrev nBuf : Space → Nat
  | .hbm => 28
  | .vmem => 36
  | .smem => 0
  | _ => 0

abbrev bufTy : (tb : Table) → Fin (tcTables nBuf tb) → BufTy
  | .hbm, ⟨0, _⟩ => ⟨S1024x5632, .fp8e5m2⟩
  | .hbm, ⟨1, _⟩ => ⟨S1x1024, .f32⟩
  | .hbm, ⟨2, _⟩ => ⟨S1x1024x2048, .fp8e5m2⟩
  | .hbm, ⟨3, _⟩ => ⟨S1x1024, .f32⟩
  | .hbm, ⟨4, _⟩ => ⟨S1x1024x3x16x128, .fp8e5m2⟩
  | .hbm, ⟨5, _⟩ => ⟨S1x1024, .f32⟩
  | .hbm, ⟨6, _⟩ => ⟨S1x1024x2048, .fp8e4m3⟩
  | .hbm, ⟨7, _⟩ => ⟨S1x1024, .f32⟩
  | .hbm, ⟨8, _⟩ => ⟨S1x1024, .f32⟩
  | .hbm, ⟨9, _⟩ => ⟨S2048, .f32⟩
  | .hbm, ⟨10, _⟩ => ⟨S2048, .f32⟩
  | .hbm, ⟨11, _⟩ => ⟨S2048x5632, .fp8e4m3⟩
  | .hbm, ⟨12, _⟩ => ⟨S5632, .f32⟩
  | .hbm, ⟨13, _⟩ => ⟨S2048x3x16x128, .fp8e4m3⟩
  | .hbm, ⟨14, _⟩ => ⟨S3x16x128, .f32⟩
  | .hbm, ⟨15, _⟩ => ⟨S1024x2048, .fp8e5m2⟩
  | .hbm, ⟨16, _⟩ => ⟨S1024x2048, .fp8e4m3⟩
  | .hbm, ⟨17, _⟩ => ⟨S1024x6144, .fp8e5m2⟩
  | .hbm, ⟨18, _⟩ => ⟨S2048x6144, .fp8e4m3⟩
  | .hbm, ⟨19, _⟩ => ⟨S1x5632, .f32⟩
  | .hbm, ⟨20, _⟩ => ⟨S1x6144, .f32⟩
  | .hbm, ⟨21, _⟩ => ⟨S1x2048, .f32⟩
  | .hbm, ⟨22, _⟩ => ⟨S1x2048, .f32⟩
  | .hbm, ⟨23, _⟩ => ⟨S2048x5632, .bf16⟩
  | .hbm, ⟨24, _⟩ => ⟨S2048x6144, .bf16⟩
  | .hbm, ⟨25, _⟩ => ⟨S1x2048, .f32⟩
  | .hbm, ⟨26, _⟩ => ⟨S1x2048, .f32⟩
  | .hbm, ⟨27, _⟩ => ⟨S1024x2048, .bf16⟩
  | .local _ .vmem, ⟨0, _⟩ => ⟨S1024x5632, .fp8e5m2⟩
  | .local _ .vmem, ⟨1, _⟩ => ⟨S1024x6144, .fp8e5m2⟩
  | .local _ .vmem, ⟨2, _⟩ => ⟨S256x5632, .fp8e4m3⟩
  | .local _ .vmem, ⟨3, _⟩ => ⟨S256x5632, .fp8e4m3⟩
  | .local _ .vmem, ⟨4, _⟩ => ⟨S256x6144, .fp8e4m3⟩
  | .local _ .vmem, ⟨5, _⟩ => ⟨S256x6144, .fp8e4m3⟩
  | .local _ .vmem, ⟨6, _⟩ => ⟨S1024x256, .fp8e4m3⟩
  | .local _ .vmem, ⟨7, _⟩ => ⟨S1024x256, .fp8e4m3⟩
  | .local _ .vmem, ⟨8, _⟩ => ⟨S1x5632, .f32⟩
  | .local _ .vmem, ⟨9, _⟩ => ⟨S1x6144, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1024x2048, .fp8e5m2⟩
  | .local _ .vmem, ⟨20, _⟩ => ⟨S1024x2048, .fp8e4m3⟩
  | .local _ .vmem, ⟨21, _⟩ => ⟨S256x5632, .bf16⟩
  | .local _ .vmem, ⟨22, _⟩ => ⟨S256x5632, .bf16⟩
  | .local _ .vmem, ⟨23, _⟩ => ⟨S256x6144, .bf16⟩
  | .local _ .vmem, ⟨24, _⟩ => ⟨S256x6144, .bf16⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1024x2048, .bf16⟩
  | .local _ .vmem, ⟨30, _⟩ => ⟨S1024x2048, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | _, _ => ⟨S1024x5632, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v8_4 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c256_i32 : BitVec 32 := 256#32
  let v58 : BitVec 32 := Scalar.muli arg0 c256_i32
  let c0_i32_35 : BitVec 32 := 0#32
  let v59 : BitVec 32 := Scalar.addi v58 c0_i32_35
  v59
def k0_off1 (i : grid0.Coords) (c0_i32_35 : BitVec 32) : Fin 2 → Nat :=
  let c0_36 : Index := 0#32
  let arg0 : BitVec 32 := BitVec.ofNat 32 (i 0).val
  let c256_i32 : BitVec 32 := 256#32
  let v58 : BitVec 32 := Scalar.muli arg0 c256_i32
  let v59 : BitVec 32 := Scalar.addi v58 c0_i32_35
  let v60 : BitVec 32 := v59
  let v61 : Index := Scalar.indexCast v60
  ![0, v61.toNat]
def k0_mult2 (i : grid0.Coords) : BitVec 32 :=
  let arg0 : BitVec 32 := BitVec.ofNat 32 (i 0).val
  let c256_i32_48 : BitVec 32 := 256#32
  let v93 : BitVec 32 := Scalar.muli arg0 c256_i32_48
  let c128_i32 : BitVec 32 := 128#32
  let v94 : BitVec 32 := Scalar.addi v93 c128_i32
  v94
def k0_cond2 (i : grid0.Coords) : BitVec 1 :=
  let arg0 : BitVec 32 := BitVec.ofNat 32 (i 0).val
  let c7_i32 : BitVec 32 := 7#32
  let v147 : BitVec 1 := Scalar.cmpi .eq arg0 c7_i32
  let v148 : BitVec 32 := Scalar.extui v147
  let c0_i32_76 : BitVec 32 := 0#32
  let v149 : BitVec 1 := Scalar.cmpi .ne v148 c0_i32_76
  v149

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x5632 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x6144 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6144 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x2048 .fp8e5m2 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x2048 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x5632 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x6144 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1024x2048 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ProjRefIdeal.lean ====
abbrev S1024x5632 : Shape := ⟨2, ![1024, 5632]⟩
abbrev S1x1024 : Shape := ⟨2, ![1, 1024]⟩
abbrev S1x1024x2048 : Shape := ⟨3, ![1, 1024, 2048]⟩
abbrev S1x1024x3x16x128 : Shape := ⟨5, ![1, 1024, 3, 16, 128]⟩
abbrev S2048 : Shape := ⟨1, ![2048]⟩
abbrev S2048x5632 : Shape := ⟨2, ![2048, 5632]⟩
abbrev S5632 : Shape := ⟨1, ![5632]⟩
abbrev S2048x3x16x128 : Shape := ⟨4, ![2048, 3, 16, 128]⟩
abbrev S3x16x128 : Shape := ⟨3, ![3, 16, 128]⟩
abbrev S1024x2048 : Shape := ⟨2, ![1024, 2048]⟩
abbrev S1024x6144 : Shape := ⟨2, ![1024, 6144]⟩
abbrev S1x2048 : Shape := ⟨2, ![1, 2048]⟩
abbrev S1x5632 : Shape := ⟨2, ![1, 5632]⟩
abbrev S2048x6144 : Shape := ⟨2, ![2048, 6144]⟩
abbrev S1x6144 : Shape := ⟨2, ![1, 6144]⟩
abbrev S1024x1 : Shape := ⟨2, ![1024, 1]⟩
abbrev S2048x1 : Shape := ⟨2, ![2048, 1]⟩
abbrev S1024 : Shape := ⟨1, ![1024]⟩

abbrev nBuf : Space → Nat
  | .hbm => 28
  | .vmem => 20
  | .smem => 0
  | _ => 0

abbrev bufTy : (tb : Table) → Fin (tcTables nBuf tb) → BufTy
  | .hbm, ⟨0, _⟩ => ⟨S1024x5632, .fp8e5m2⟩
  | .hbm, ⟨1, _⟩ => ⟨S1x1024, .f32⟩
  | .hbm, ⟨2, _⟩ => ⟨S1x1024x2048, .fp8e5m2⟩
  | .hbm, ⟨3, _⟩ => ⟨S1x1024, .f32⟩
  | .hbm, ⟨4, _⟩ => ⟨S1x1024x3x16x128, .fp8e5m2⟩
  | .hbm, ⟨5, _⟩ => ⟨S1x1024, .f32⟩
  | .hbm, ⟨6, _⟩ => ⟨S1x1024x2048, .fp8e4m3⟩
  | .hbm, ⟨7, _⟩ => ⟨S1x1024, .f32⟩
  | .hbm, ⟨8, _⟩ => ⟨S1x1024, .f32⟩
  | .hbm, ⟨9, _⟩ => ⟨S2048, .f32⟩
  | .hbm, ⟨10, _⟩ => ⟨S2048, .f32⟩
  | .hbm, ⟨11, _⟩ => ⟨S2048x5632, .fp8e4m3⟩
  | .hbm, ⟨12, _⟩ => ⟨S5632, .f32⟩
  | .hbm, ⟨13, _⟩ => ⟨S2048x3x16x128, .fp8e4m3⟩
  | .hbm, ⟨14, _⟩ => ⟨S3x16x128, .f32⟩
  | .hbm, ⟨15, _⟩ => ⟨S1024x2048, .fp8e5m2⟩
  | .hbm, ⟨16, _⟩ => ⟨S1024x6144, .fp8e5m2⟩
  | .hbm, ⟨17, _⟩ => ⟨S1024x2048, .fp8e4m3⟩
  | .hbm, ⟨18, _⟩ => ⟨S1x2048, .f32⟩
  | .hbm, ⟨19, _⟩ => ⟨S1x2048, .f32⟩
  | .hbm, ⟨20, _⟩ => ⟨S1x5632, .f32⟩
  | .hbm, ⟨21, _⟩ => ⟨S2048x6144, .fp8e4m3⟩
  | .hbm, ⟨22, _⟩ => ⟨S1x6144, .f32⟩
  | .hbm, ⟨23, _⟩ => ⟨S2048x5632, .bf16⟩
  | .hbm, ⟨24, _⟩ => ⟨S2048x6144, .bf16⟩
  | .hbm, ⟨25, _⟩ => ⟨S1x2048, .f32⟩
  | .hbm, ⟨26, _⟩ => ⟨S1x2048, .f32⟩
  | .hbm, ⟨27, _⟩ => ⟨S1024x2048, .bf16⟩
  | .local _ .vmem, ⟨0, _⟩ => ⟨S1024x5632, .fp8e5m2⟩
  | .local _ .vmem, ⟨1, _⟩ => ⟨S1x1024, .f32⟩
  | .local _ .vmem, ⟨2, _⟩ => ⟨S1024x2048, .fp8e5m2⟩
  | .local _ .vmem, ⟨3, _⟩ => ⟨S1x1024, .f32⟩
  | .local _ .vmem, ⟨4, _⟩ => ⟨S1024x6144, .fp8e5m2⟩
  | .local _ .vmem, ⟨5, _⟩ => ⟨S1x1024, .f32⟩
  | .local _ .vmem, ⟨6, _⟩ => ⟨S1024x2048, .fp8e4m3⟩
  | .local _ .vmem, ⟨7, _⟩ => ⟨S1x1024, .f32⟩
  | .local _ .vmem, ⟨8, _⟩ => ⟨S1x1024, .f32⟩
  | .local _ .vmem, ⟨9, _⟩ => ⟨S1x2048, .f32⟩
  | .local _ .vmem, ⟨10, _⟩ => ⟨S1x2048, .f32⟩
  | .local _ .vmem, ⟨11, _⟩ => ⟨S2048x5632, .fp8e4m3⟩
  | .local _ .vmem, ⟨12, _⟩ => ⟨S1x5632, .f32⟩
  | .local _ .vmem, ⟨13, _⟩ => ⟨S2048x6144, .fp8e4m3⟩
  | .local _ .vmem, ⟨14, _⟩ => ⟨S1x6144, .f32⟩
  | .local _ .vmem, ⟨15, _⟩ => ⟨S2048x5632, .bf16⟩
  | .local _ .vmem, ⟨16, _⟩ => ⟨S2048x6144, .bf16⟩
  | .local _ .vmem, ⟨17, _⟩ => ⟨S1x2048, .f32⟩
  | .local _ .vmem, ⟨18, _⟩ => ⟨S1x2048, .f32⟩
  | .local _ .vmem, ⟨19, _⟩ => ⟨S1024x2048, .bf16⟩
  | _, _ => ⟨S1024x5632, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v8_4 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S1024x5632 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x6144 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x5632 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x6144 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2048x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2048x6144 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1024x2048 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Proof.MlpBits.Conds.lean ====
module

public import proofs.«01_k».proof.Proof.Gen.Mlp.Frame

public import proofs.«01_k».proof.Proof.Gen.Mlp.Skeleton

@[expose] public section

set_option maxRecDepth 16384

noncomputable section

namespace Cert.Mlp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp.Gen

variable {F : FTy → Type} [FloatOps F]

local notation "𝕄" => MT nD τ sig Unit (Elt F) ℕ (UR sig nD τ) ℕ

/-- The condition of the body's first `if`, from the grid coordinates. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (fun t => by
    have ht : t.val < 11 := Nat.lt_of_lt_of_eq t.isLt N_0
    have e0 : (grid0.coords t 0).val = t.val / 1 % 11 := Pipeline.Grid.coords_val t 0 (by decide) rfl
    rw [show t.val = 0 ↔ t.val % 11 = 0 by omega]
    simp only [cond0, e0]
    word_cmp
   : ∀ t : Fin grid0.N, cond0 (grid0.coords t) ↔ t.val = 0)

/-- The condition of the body's second `if`, from the grid coordinates. -/
abbrev cond1 (i : grid0.Coords) : Prop := k0_cond2 i = 1#1
/-- It holds at the last point only. -/
theorem hcond1 : ∀ t : Fin cfg0.N, cond1 (grid0.coords t) ↔ t.val = 10 :=
  (fun t => by
    have ht : t.val < 11 := Nat.lt_of_lt_of_eq t.isLt N_0
    have e0 : (grid0.coords t 0).val = t.val / 1 % 11 := Pipeline.Grid.coords_val t 0 (by decide) rfl
    rw [show t.val = 10 ↔ t.val % 11 = 10 by omega]
    simp only [cond1, k0_cond2, e0]
    word_cmp
   : ∀ t : Fin grid0.N, cond1 (grid0.coords t) ↔ t.val = 10)

end Cert.Mlp.Hand

end
-- ==== Proof.MlpBits.RunA.lean ====
module

public import proofs.«01_k».proof.Proof.MlpBits.Conds

@[expose] public section

set_option maxRecDepth 16384

noncomputable section

namespace Cert.Mlp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp.Gen

variable {F : FTy → Type} [FloatOps F]

local notation "𝕄" => MT nD τ sig Unit (Elt F) ℕ (UR sig nD τ) ℕ

set_option maxHeartbeats 6400000 in
/-- The body at the first point: the running maximum and the three columns start here. The pieces each buffer ends with are the witness the run finds. -/
noncomputable def runA (c : Dev nD) (i : grid0.Coords)
    (arg1 : Memref sig .tc .vmem S1024x2048 .fp8e5m2) (harg1 : arg1.IsWhole) (arg2 : Memref sig .tc .vmem S512x2048 .fp8e4m3) (harg2 : arg2.IsWhole) (arg3 : Memref sig .tc .vmem S1024x512 .fp8e4m3) (harg3 : arg3.IsWhole) (arg4 : Memref sig .tc .vmem S1024x512 .fp8e4m3) (harg4 : arg4.IsWhole)
    (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole)
    (arg9 : Memref sig .tc .vmem S512x2048 .bf16) (harg9 : arg9.IsWhole) (arg10 : Memref sig .tc .vmem S1024x5632 .fp8e5m2) (harg10 : arg10.IsWhole) (arg11 : Memref sig .tc .vmem S1x1024 .f32) (harg11 : arg11.IsWhole) (arg12 : Memref sig .tc .vmem S1024x5632 .f32) (harg12 : arg12.IsWhole)
    (arg13 : Memref sig .tc .vmem S1024x128 .f32) (harg13 : arg13.IsWhole) (arg14 : Memref sig .tc .vmem S1024x2048 .bf16) (harg14 : arg14.IsWhole) (arg15 : Memref sig .tc .vmem S1024x128 .f32) (harg15 : arg15.IsWhole) (arg16 : Memref sig .tc .vmem S1024x128 .f32) (harg16 : arg16.IsWhole) (hc0 : cond0 i) (hc1 : ¬cond1 i)
    (x0 : Vec F S1024x2048 .fp8e5m2) (x1 : Vec F S512x2048 .fp8e4m3) (x2 : Vec F S1024x512 .fp8e4m3) (x3 : Vec F S1024x512 .fp8e4m3) (x4 : Vec F S1x2048 .f32) (x5 : Vec F S1x1024 .f32) (x6 : Vec F S1x1024 .f32) (x7 : Vec F S1x1024 .f32) (xs0 : Vec F S1024x5632 .f32) :
    Σ' (L9 : List (View.Piece (Elt F) S512x2048 .bf16)), Σ' (L12 : List (View.Piece (Elt F) S1024x5632 .f32)), Σ' (L13 : List (View.Piece (Elt F) S1024x128 .f32)), Σ' (L14 : List (View.Piece (Elt F) S1024x2048 .bf16)), Σ' (L15 : List (View.Piece (Elt F) S1024x128 .f32)), { L16 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (arg12.view.loc (c : Thread nD τ) ↦[arg12.view.set]{fullShare} arg12.view.writes (Elt F) (harg12.unread xs0) L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16)) -∗ K ⟨⟩))
          ⊢ wp frame (wpE (defs₀ (F := F)) Variants.none c none) E (cc0_mlp_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_mlp_out_eq_skeleton]; unfold cc0_mlp_out_skel
    simp only [k0_part14_eq_skeleton, k0_part15_eq_skeleton, k0_part16_eq_skeleton, k0_part17_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f12, %hf12, H12⟩, ⟨%d13, %f13, -, H13⟩, ⟨%d14, %f14, -, H14⟩, ⟨%d15, %f15, -, H15⟩, ⟨%d16, %f16, -, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H12]
    · iexact H12
    isplitl [H13]
    · iexists _; iexact H13
    isplitl [H14]
    · iexists _; iexact H14
    isplitl [H15]
    · iexists _; iexact H15
    iexists _; iexact H16

end Cert.Mlp.Hand

end
-- ==== Proof.MlpBits.Point.lean ====
module

public import proofs.«01_k».proof.Proof.MlpBits.Conds

public import Idealize.ShloMosaic.Lib.Pipeline.ValueKit
public import Idealize.ShloMosaic.Lib.WritesUnit

@[expose] public section

set_option maxRecDepth 16384

noncomputable section

namespace Cert.Mlp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp.Gen

variable {F : FTy → Type} [FloatOps F]

local notation "𝕄" => MT nD τ sig Unit (Elt F) ℕ (UR sig nD τ) ℕ

/-- What a point stores in its block of `dw_out`. -/
def dwOut (x0 : Vec F S1024x2048 .fp8e5m2) (x3 : Vec F S1024x512 .fp8e4m3) (x5 : Vec F S1x1024 .f32) (x7 : Vec F S1x1024 .f32) : Vec F S512x2048 .bf16 := k0_pay91 x3 x7 x5 x0
/-- The four pieces of 128 columns of a point's block of `da`. -/
def daPiece (x1 : Vec F S512x2048 .fp8e4m3) (x2 : Vec F S1024x512 .fp8e4m3) (x4 : Vec F S1x2048 .f32) (xs2 : Vec F S1024x2048 .bf16) (xs3 : Vec F S1024x128 .f32) (xs4 : Vec F S1024x128 .f32) (k : Fin 4) : Vec F S1024x128 .f32 := match k with
  | 0 => k0_pay72 (k0_pay69 xs2 x1 x4 xs3) (k0_pay70 xs4 (View.ld x2 (Rect.unit ![0, 0] ![1024, 128] inb_S1024x512_S1024x128_0_0)))
  | 1 => k0_pay75 (k0_pay68 xs2 x1 x4) xs3 xs4 (View.ld x2 (Rect.unit ![0, 128] ![1024, 128] inb_S1024x512_S1024x128_0_128))
  | 2 => k0_pay79 (k0_pay68 xs2 x1 x4) xs3 xs4 (k0_pay76 (View.ld x2 (Rect.unit ![0, 256] ![1024, 128] inb_S1024x512_S1024x128_0_256)))
  | 3 => k0_pay89 (k0_pay83 xs4 (View.ld x2 (Rect.unit ![0, 384] ![1024, 128] inb_S1024x512_S1024x128_0_384))) (k0_pay84 (k0_pay68 xs2 x1 x4) xs3) (k0_pay85 xs4 (View.ld x2 (Rect.unit ![0, 384] ![1024, 128] inb_S1024x512_S1024x128_0_384))) (k0_pay86 xs4 (View.ld x2 (Rect.unit ![0, 384] ![1024, 128] inb_S1024x512_S1024x128_0_384))) k0_pay87
/-- The running maximum of `|da|` in each lane after a point. -/
def amStep (x1 : Vec F S512x2048 .fp8e4m3) (x2 : Vec F S1024x512 .fp8e4m3) (x4 : Vec F S1x2048 .f32) (xs1 : Vec F S1024x128 .f32) (xs2 : Vec F S1024x2048 .bf16) (xs3 : Vec F S1024x128 .f32) (xs4 : Vec F S1024x128 .f32) : Vec F S1024x128 .f32 :=
  k0_pay90 (k0_pay78 (k0_pay68 xs2 x1 x4) xs3 xs4 (k0_pay74 (k0_pay68 xs2 x1 x4) xs3 xs4 xs1 (k0_pay69 xs2 x1 x4 xs3) (k0_pay70 xs4 (View.ld x2 (Rect.unit ![0, 0] ![1024, 128] inb_S1024x512_S1024x128_0_0))) (View.ld x2 (Rect.unit ![0, 128] ![1024, 128] inb_S1024x512_S1024x128_0_128))) (k0_pay76 (View.ld x2 (Rect.unit ![0, 256] ![1024, 128] inb_S1024x512_S1024x128_0_256)))) (k0_pay83 xs4 (View.ld x2 (Rect.unit ![0, 384] ![1024, 128] inb_S1024x512_S1024x128_0_384))) (k0_pay84 (k0_pay68 xs2 x1 x4) xs3) (k0_pay85 xs4 (View.ld x2 (Rect.unit ![0, 384] ![1024, 128] inb_S1024x512_S1024x128_0_384))) (k0_pay86 xs4 (View.ld x2 (Rect.unit ![0, 384] ![1024, 128] inb_S1024x512_S1024x128_0_384))) k0_pay87
/-- An array with the columns `[n, n + 512)` replaced by four pieces of 128 columns. -/
def upd (n : ℕ) (X : Vec F S1024x5632 .f32) (p : Fin 4 → Vec F S1024x128 .f32) : Vec F S1024x5632 .f32 := fun y =>
  if n ≤ (y 1).val ∧ (y 1).val < n + 512 then
    p ⟨((y 1).val - n) / 128 % 4, Nat.mod_lt _ (by decide)⟩ (ix2 (y 0) ⟨((y 1).val - n) % 128, Nat.mod_lt _ (by decide)⟩)
  else X y
/-- The scale row of the codes, from the largest `|da|` of each lane. -/
def scaleRow (M : Vec F S1024x128 .f32) : Vec F S1x1024 .f32 := k0_pay7 (k0_pay2 M) (k0_pay3 M) k0_pay4
/-- The codes of 128 columns of `da`, given the reciprocals of the scales. -/
def codePiece (inv w : Vec F S1024x128 .f32) : Vec F S1024x128 .fp8e5m2 := k0_pay10 inv w
theorem inb (k : Fin 44) : ∀ a, (![0, 128 * k.val] : Fin 2 → ℕ) a + (![1024, 128] : Fin 2 → ℕ) a ≤ S1024x5632.size a := by
  have := k.isLt
  exact Fin.forall_fin_two.mpr ⟨by show 0 + 1024 ≤ 1024; omega, by show 128 * k.val + 128 ≤ 5632; omega⟩
/-- The forty-four stores of the last point into the codes, from the whole `da` (`D`) and the largest `|da|` of each lane. -/
def codePieces (M : Vec F S1024x128 .f32) (D : Vec F S1024x5632 .f32) : List (View.Piece (Elt F) S1024x5632 .fp8e5m2) :=
  (List.finRange 44).reverse.map fun k => ⟨Rect.unit ![0, 128 * k.val] ![1024, 128] (inb k),
    codePiece (k0_pay6 (k0_pay2 M) (k0_pay3 M) k0_pay4) (View.ld D (Rect.unit ![0, 128 * k.val] ![1024, 128] (inb k)))⟩
/-- The codes of the whole `da`, each 128 columns by themselves. -/
def codesOf (M : Vec F S1024x128 .f32) (D : Vec F S1024x5632 .f32) : Vec F S1024x5632 .fp8e5m2 := View.canon (codePieces M D)

/-- Four stores of 128 columns each, at `n`, `n + 128`, `n + 256` and `n + 384`, leave `upd`. -/
theorem read_four {sig' : RefSig} {κ : Kind} {sp : Space} (v : View sig' κ sp S1024x5632 .f32) (f : v.ty.Contents (Elt F)) (n : ℕ) (o0 o1 o2 o3 : Fin 2 → ℕ)
    (h0 : o0 = ![0, n]) (h1 : o1 = ![0, n + 128]) (h2 : o2 = ![0, n + 256]) (h3 : o3 = ![0, n + 384])
    (inb0 : ∀ a, o0 a + (![1024, 128] : Fin 2 → ℕ) a ≤ S1024x5632.size a) (inb1 : ∀ a, o1 a + (![1024, 128] : Fin 2 → ℕ) a ≤ S1024x5632.size a)
    (inb2 : ∀ a, o2 a + (![1024, 128] : Fin 2 → ℕ) a ≤ S1024x5632.size a) (inb3 : ∀ a, o3 a + (![1024, 128] : Fin 2 → ℕ) a ≤ S1024x5632.size a)
    (p : Fin 4 → Vec F S1024x128 .f32) :
    v.read (Elt F) (v.writes (Elt F) f [⟨Rect.unit (s := S1024x5632) o3 ![1024, 128] inb3, p 3⟩, ⟨Rect.unit (s := S1024x5632) o2 ![1024, 128] inb2, p 2⟩,
        ⟨Rect.unit (s := S1024x5632) o1 ![1024, 128] inb1, p 1⟩, ⟨Rect.unit (s := S1024x5632) o0 ![1024, 128] inb0, p 0⟩])
      = upd n (v.read (Elt F) f) p := by
  funext y
  unfold upd
  have step : ∀ (q : Fin 4) (o : Fin 2 → ℕ) (inb : ∀ a, o a + (![1024, 128] : Fin 2 → ℕ) a ≤ S1024x5632.size a) (L : List (View.Piece (Elt F) S1024x5632 .f32)) (z : Elt F .f32),
      o = ![0, n + 128 * q.val] →
      (¬(n + 128 * q.val ≤ (y 1).val ∧ (y 1).val < n + 128 * q.val + 128) → v.read (Elt F) (v.writes (Elt F) f L) y = z) →
      ((n + 128 * q.val ≤ (y 1).val ∧ (y 1).val < n + 128 * q.val + 128) → z = p q (ix2 (y 0) ⟨((y 1).val - n) % 128, Nat.mod_lt _ (by decide)⟩)) →
      v.read (Elt F) (v.writes (Elt F) f (⟨Rect.unit (s := S1024x5632) o ![1024, 128] inb, p q⟩ :: L)) y = z := by
    intro q o inb L z ho hn hy
    by_cases cq : n + 128 * q.val ≤ (y 1).val ∧ (y 1).val < n + 128 * q.val + 128
    · rw [hy cq]
      refine View.read_writes_cons_unit_of_mem v f inb (p q) _ y _ ho (Fin.forall_fin_two.mpr ⟨?_, ?_⟩)
      · show (y 0).val = 0 + (y 0).val
        omega
      · show (y 1).val = n + 128 * q.val + ((y 1).val - n) % 128
        omega
    · rw [View.read_writes_cons_unit_of_not_mem v f inb (p q) _ y ho (1 : Fin 2) (by
        show (y 1).val < n + 128 * q.val ∨ n + 128 * q.val + 128 ≤ (y 1).val
        omega)]
      exact hn cq
  have val : ∀ q : Fin 4, (n + 128 * q.val ≤ (y 1).val ∧ (y 1).val < n + 128 * q.val + 128) →
      (if n ≤ (y 1).val ∧ (y 1).val < n + 512 then
        p ⟨((y 1).val - n) / 128 % 4, Nat.mod_lt _ (by decide)⟩ (ix2 (y 0) ⟨((y 1).val - n) % 128, Nat.mod_lt _ (by decide)⟩)
      else v.read (Elt F) f y) = p q (ix2 (y 0) ⟨((y 1).val - n) % 128, Nat.mod_lt _ (by decide)⟩) := by
    intro q hq
    have := q.isLt
    rw [if_pos (by omega), show (⟨((y 1).val - n) / 128 % 4, Nat.mod_lt _ (by decide)⟩ : Fin 4) = q from Fin.ext (by show ((y 1).val - n) / 128 % 4 = q.val; omega)]
  refine step 3 o3 inb3 _ _ h3 (fun n3 => ?_) (val 3)
  refine step 2 o2 inb2 _ _ h2 (fun n2 => ?_) (val 2)
  refine step 1 o1 inb1 _ _ h1 (fun n1 => ?_) (val 1)
  refine step 0 o0 inb0 _ _ h0 (fun n0 => ?_) (val 0)
  have e3 : ((3 : Fin 4)).val = 3 := rfl
  have e2 : ((2 : Fin 4)).val = 2 := rfl
  have e1 : ((1 : Fin 4)).val = 1 := rfl
  have e0 : ((0 : Fin 4)).val = 0 := rfl
  rw [if_neg (by rw [e3] at n3; rw [e2] at n2; rw [e1] at n1; rw [e0] at n0; omega)]
  rfl

/-- The columns at which a point stores the pieces of its block. -/
theorem off (i : grid0.Coords) (k : Fin 4) : (![0, BitVec.toNat (Scalar.indexCast (Scalar.addi (Scalar.muli (BitVec.ofNat 32 ↑(i 0)) 512#32) (BitVec.ofNat 32 (128 * k.val))))] : Fin 2 → ℕ)
    = ![0, 512 * (i 0).val + 128 * k.val] :=
  congrArg (fun n => (![0, n] : Fin 2 → ℕ)) ((by decide +kernel : ∀ (k : Fin 4) (j : Fin 11), BitVec.toNat (Scalar.indexCast (Scalar.addi (Scalar.muli (BitVec.ofNat 32 j.val) 512#32) (BitVec.ofNat 32 (128 * k.val)))) = 512 * j.val + 128 * k.val) k (i 0))

/-- A store of the whole buffer leaves its payload. -/
theorem read_whole {sig' : RefSig} {κ : Kind} {sp : Space} {S : Shape} {e : EltTy} (v : View sig' κ sp S e) (f : v.ty.Contents (Elt F))
    {off : Fin S.rank → Nat} (inb : ∀ a, off a + S.size a ≤ S.size a) (w : S.Idx → Elt F e) (L : List (View.Piece (Elt F) S e)) (h : ∀ a, off a = 0) :
    v.read (Elt F) (v.writes (Elt F) f ((⟨Rect.unit off (no_index S.size) inb, w⟩ : View.Piece (Elt F) S e) :: L)) = w := by
  funext y
  exact View.read_writes_cons_unit_of_mem v f inb w L y y rfl (fun a => by rw [h a, Nat.zero_add])

end Cert.Mlp.Hand

end
-- ==== Proof.MlpBits.ReadsA.lean ====
module

public import proofs.«01_k».proof.Proof.MlpBits.RunA

public import proofs.«01_k».proof.Proof.MlpBits.Point

@[expose] public section

set_option maxRecDepth 16384

noncomputable section

namespace Cert.Mlp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp.Gen

variable {F : FTy → Type} [FloatOps F]

local notation "𝕄" => MT nD τ sig Unit (Elt F) ℕ (UR sig nD τ) ℕ

variable (c : Dev nD) (i : grid0.Coords)
    (arg1 : Memref sig .tc .vmem S1024x2048 .fp8e5m2) (harg1 : arg1.IsWhole) (arg2 : Memref sig .tc .vmem S512x2048 .fp8e4m3) (harg2 : arg2.IsWhole) (arg3 : Memref sig .tc .vmem S1024x512 .fp8e4m3) (harg3 : arg3.IsWhole) (arg4 : Memref sig .tc .vmem S1024x512 .fp8e4m3) (harg4 : arg4.IsWhole)
    (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole)
    (arg9 : Memref sig .tc .vmem S512x2048 .bf16) (harg9 : arg9.IsWhole) (arg10 : Memref sig .tc .vmem S1024x5632 .fp8e5m2) (harg10 : arg10.IsWhole) (arg11 : Memref sig .tc .vmem S1x1024 .f32) (harg11 : arg11.IsWhole) (arg12 : Memref sig .tc .vmem S1024x5632 .f32) (harg12 : arg12.IsWhole)
    (arg13 : Memref sig .tc .vmem S1024x128 .f32) (harg13 : arg13.IsWhole) (arg14 : Memref sig .tc .vmem S1024x2048 .bf16) (harg14 : arg14.IsWhole) (arg15 : Memref sig .tc .vmem S1024x128 .f32) (harg15 : arg15.IsWhole) (arg16 : Memref sig .tc .vmem S1024x128 .f32) (harg16 : arg16.IsWhole)
    (hc0 : cond0 i) (hc1 : ¬cond1 i)
    (x0 : Vec F S1024x2048 .fp8e5m2) (x1 : Vec F S512x2048 .fp8e4m3) (x2 : Vec F S1024x512 .fp8e4m3) (x3 : Vec F S1024x512 .fp8e4m3) (x4 : Vec F S1x2048 .f32) (x5 : Vec F S1x1024 .f32) (x6 : Vec F S1x1024 .f32) (x7 : Vec F S1x1024 .f32) (xs0 : Vec F S1024x5632 .f32)

/-- What the first point leaves in dw_out. -/
theorem runA_9 : ∀ f, arg9.view.read (Elt F) (arg9.view.writes (Elt F) f
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).1)
    = dwOut x0 x3 x5 x7 := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the scratch of da. -/
theorem runA_12 : arg12.view.read (Elt F) (arg12.view.writes (Elt F) (harg12.unread xs0)
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.1)
    = upd (512 * (i 0).val) xs0 (daPiece x1 x2 x4 (k0_pay64 x0) (k0_pay65 x5) (k0_pay66 x6)) := by
  unfold runA; dsimp only; sl_unfold_words; simp (disch := decide) only [View.readAt_eq_ld, Memref.IsWhole.read_unread, View.ld_unit_lit, View.canon_cons_unit_lit, View.readCov_unit_lit, View.readCov_cons_unit_lit', read_whole]
  exact (read_four arg12.view (harg12.unread xs0) (512 * (i 0).val) _ _ _ _ (off i 0) (off i 1) (off i 2) (off i 3) _ _ _ _ (daPiece x1 x2 x4 (k0_pay64 x0) (k0_pay65 x5) (k0_pay66 x6))).trans (by rw [harg12.read_unread])

/-- What the first point leaves in the running maximum. -/
theorem runA_13 : ∀ f, arg13.view.read (Elt F) (arg13.view.writes (Elt F) f
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.1)
    = (amStep x1 x2 x4 k0_pay67 (k0_pay64 x0) (k0_pay65 x5) (k0_pay66 x6)) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the copy of dy. -/
theorem runA_14 : ∀ f, arg14.view.read (Elt F) (arg14.view.writes (Elt F) f
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.2.1)
    = (k0_pay64 x0) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the column of half of dy_scale. -/
theorem runA_15 : ∀ f, arg15.view.read (Elt F) (arg15.view.writes (Elt F) f
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.2.2.1)
    = (k0_pay65 x5) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the column of a_scale. -/
theorem runA_16 : ∀ f, arg16.view.read (Elt F) (arg16.view.writes (Elt F) f
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.2.2.2.1)
    = (k0_pay66 x6) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

end Cert.Mlp.Hand

end
-- ==== Proof.MlpBits.Data.lean ====
module

public import proofs.«01_k».proof.Proof.MlpBits.Point

@[expose] public section

set_option maxRecDepth 16384

noncomputable section

namespace Cert.Mlp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The copy of `dy`. -/
def cY (c : Dev nD) : Vec F S1024x2048 .bf16 := k0_pay64 (iblk m c 0 t0_0)
/-- The column of half of `dy_scale`, in 128 lanes. -/
def cH (c : Dev nD) : Vec F S1024x128 .f32 := k0_pay65 (iblk m c 5 t0_0)
/-- The column of `a_scale` times the constant of the tanh, in 128 lanes. -/
def cV (c : Dev nD) : Vec F S1024x128 .f32 := k0_pay66 (iblk m c 6 t0_0)
/-- The pieces of point `t`'s block of `da`. -/
def dP (c : Dev nD) (t : Fin cfg0.N) : Fin 4 → Vec F S1024x128 .f32 := daPiece (iblk m c 1 t) (iblk m c 2 t) (iblk m c 4 t) (cY m c) (cH m c) (cV m c)
/-- The running maximum of `|da|` in each lane after `n` points. -/
def MX (c : Dev nD) : ℕ → Vec F S1024x128 .f32
  | 0 => k0_pay67
  | n + 1 => if h : n < cfg0.N then amStep (iblk m c 1 ⟨n, h⟩) (iblk m c 2 ⟨n, h⟩) (iblk m c 4 ⟨n, h⟩) (MX c n) (cY m c) (cH m c) (cV m c) else MX c n
theorem MX_succ (c : Dev nD) (t : Fin cfg0.N) : MX m c (t.val + 1) = amStep (iblk m c 1 t) (iblk m c 2 t) (iblk m c 4 t) (MX m c t.val) (cY m c) (cH m c) (cV m c) := by
  rw [MX, dif_pos t.isLt]
/-- The point whose block holds a column. -/
def ptOf (y : S1024x5632.Idx) : Fin cfg0.N := ⟨(y 1).val / 512, by
  have h : (y 1).val < 5632 := (y 1).isLt
  rw [show cfg0.N = 11 from N_0]; omega⟩
/-- The whole `da`: each point's four pieces side by side. -/
def DA (c : Dev nD) : Vec F S1024x5632 .f32 := fun y =>
  dP m c (ptOf y) ⟨(y 1).val / 128 % 4, Nat.mod_lt _ (by decide)⟩ (ix2 (y 0) ⟨(y 1).val % 128, Nat.mod_lt _ (by decide)⟩)
/-- The scratch holds `da` on the columns of the first `n` points. -/
def Agree (c : Dev nD) (n : ℕ) (X : Vec F S1024x5632 .f32) : Prop := ∀ y, (y 1).val < 512 * n → X y = DA m c y

theorem coord (t : Fin cfg0.N) : (grid0.coords t 0).val = t.val := by
  have ht : t.val < 11 := Nat.lt_of_lt_of_eq t.isLt N_0
  have e0 : (grid0.coords t 0).val = t.val / 1 % 11 := Pipeline.Grid.coords_val t 0 (by decide) rfl
  omega

/-- A point extends the agreement by its 512 columns. -/
theorem agree_upd (c : Dev nD) (t : Fin cfg0.N) (X : Vec F S1024x5632 .f32) (h : Agree m c t.val X) :
    Agree m c (t.val + 1) (upd (512 * (grid0.coords t 0).val) X (dP m c t)) := by
  intro y hy
  rw [coord t]
  have ey : ∀ z : ℕ, z = (y 1).val % 128 → ∀ hz : z < 128, (⟨z, hz⟩ : Fin 128) = ⟨(y 1).val % 128, Nat.mod_lt _ (by decide)⟩ := fun z e _ => Fin.ext e
  have eq : ∀ z : ℕ, z = (y 1).val / 128 % 4 → ∀ hz : z < 4, (⟨z, hz⟩ : Fin 4) = ⟨(y 1).val / 128 % 4, Nat.mod_lt _ (by decide)⟩ := fun z e _ => Fin.ext e
  have ep : 512 * t.val ≤ (y 1).val → ptOf y = t := fun hle => Fin.ext (by show (y 1).val / 512 = t.val; omega)
  unfold upd DA
  by_cases c0 : 512 * t.val ≤ (y 1).val ∧ (y 1).val < 512 * t.val + 512
  · rw [if_pos c0, ep (by omega), ey _ (by omega), eq _ (by omega)]
  rw [if_neg c0]
  exact h y (by omega)
/-- After the last point the scratch is the whole `da`. -/
theorem agree_all (c : Dev nD) (X : Vec F S1024x5632 .f32) (h : Agree m c 11 X) : X = DA m c :=
  funext fun y => h y (by have : (y 1).val < 5632 := (y 1).isLt; omega)

abbrev ms0_0 (t : Fin cfg0.N) : Memref sig .tc .vmem S1024x2048 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x2048 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x5632 .fp8e5m2 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
/-- Result 1 is stored at the last point only. -/
theorem idle9 (t : Fin cfg0.N) (h : ¬t.val = 10) : cfg0.idle 9 (grid0.coords t) = true := by
  show (!(k0_cond2 (grid0.coords t) == 1#1)) = true
  rw [beq_eq_false_iff_ne.mpr (fun e => h ((hcond1 t).mp e))]; rfl
theorem live9 (t : Fin cfg0.N) (h : t.val = 10) : cfg0.idle 9 (grid0.coords t) = false := by
  show (!(k0_cond2 (grid0.coords t) == 1#1)) = false
  rw [(hcond1 t).mpr h]; rfl
theorem noflush9 (t : Fin cfg0.N) (h : ¬t.val = 10) : (cfg0.win 9).flush t = false := by
  have ht : t.val < 11 := Nat.lt_of_lt_of_eq t.isLt N_0
  rw [← Bool.not_eq_true]
  exact fun e => by have := (flush0_9 t).mp e; omega
/-- Result 2 is stored at the last point only. -/
theorem idle10 (t : Fin cfg0.N) (h : ¬t.val = 10) : cfg0.idle 10 (grid0.coords t) = true := by
  show (!(k0_cond2 (grid0.coords t) == 1#1)) = true
  rw [beq_eq_false_iff_ne.mpr (fun e => h ((hcond1 t).mp e))]; rfl
theorem live10 (t : Fin cfg0.N) (h : t.val = 10) : cfg0.idle 10 (grid0.coords t) = false := by
  show (!(k0_cond2 (grid0.coords t) == 1#1)) = false
  rw [(hcond1 t).mpr h]; rfl
theorem noflush10 (t : Fin cfg0.N) (h : ¬t.val = 10) : (cfg0.win 10).flush t = false := by
  have ht : t.val < 11 := Nat.lt_of_lt_of_eq t.isLt N_0
  rw [← Bool.not_eq_true]
  exact fun e => by have := (flush0_10 t).mp e; omega
/-- Scratch operand 0. -/
abbrev scM0_0 : Memref sig .tc .vmem S1024x5632 .f32 := Memref.whole cc0_scratch0
/-- Scratch operand 1. -/
abbrev scM0_1 : Memref sig .tc .vmem S1024x128 .f32 := Memref.whole cc0_scratch1
/-- Scratch operand 2. -/
abbrev scM0_2 : Memref sig .tc .vmem S1024x2048 .bf16 := Memref.whole cc0_scratch2
/-- Scratch operand 3. -/
abbrev scM0_3 : Memref sig .tc .vmem S1024x128 .f32 := Memref.whole cc0_scratch3
/-- Scratch operand 4. -/
abbrev scM0_4 : Memref sig .tc .vmem S1024x128 .f32 := Memref.whole cc0_scratch4
/-- The region's invariant with the scratch as memrefs owned at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- What the scratch holds before point `n`: anything at first; later the columns of `da` so far, the maximum so far
    and the three arrays made at the first point. -/
def PhiS (c : Dev nD) : (n : ℕ) → n ≤ cfg0.N → sProp 𝕄
  | 0, _ => Pipeline.ΦA spec0 c
  | n + 1, hn => iprop(iprop((∃ X, ⌜Agree m c (n + 1) X⌝ ∗ owns (c : Thread nD τ) scM0_0 fullShare X) ∗ owns (c : Thread nD τ) scM0_1 fullShare (MX m c (n + 1)) ∗ owns (c : Thread nD τ) scM0_2 fullShare (cY m c) ∗ owns (c : Thread nD τ) scM0_3 fullShare (cH m c) ∗ owns (c : Thread nD τ) scM0_4 fullShare (cV m c)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ X, ⌜Agree m c (n + 1) X⌝ ∗ owns (c : Thread nD τ) scM0_0 fullShare X) ∗ owns (c : Thread nD τ) scM0_1 fullShare (MX m c (n + 1)) ∗ owns (c : Thread nD τ) scM0_2 fullShare (cY m c) ∗ owns (c : Thread nD τ) scM0_3 fullShare (cH m c) ∗ owns (c : Thread nD τ) scM0_4 fullShare (cV m c)) ∗ (∃ r, prngReg c r)) := rfl
theorem PhiS_pos (c : Dev nD) (n : ℕ) (h : n ≤ cfg0.N) (hz : n ≠ 0) :
    PhiS m c n h = iprop(iprop((∃ X, ⌜Agree m c n X⌝ ∗ owns (c : Thread nD τ) scM0_0 fullShare X) ∗ owns (c : Thread nD τ) scM0_1 fullShare (MX m c n) ∗ owns (c : Thread nD τ) scM0_2 fullShare (cY m c) ∗ owns (c : Thread nD τ) scM0_3 fullShare (cH m c) ∗ owns (c : Thread nD τ) scM0_4 fullShare (cV m c)) ∗ (∃ r, prngReg c r)) := by
  cases n with
  | zero => exact absurd rfl hz
  | succ n => rfl

/-- The proof data of the pipeline on core `c`: the arrays as the region finds them, what each point leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dwOut (iblk m c 0 t) (iblk m c 3 t) (iblk m c 5 t) (iblk m c 7 t)
    | ⟨9, _⟩ => codesOf (MX m c 11) (DA m c)
    | ⟨10, _⟩ => scaleRow (MX m c 11)
    | ⟨_ + 11, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dwOut (iblk m c 0 t) (iblk m c 3 t) (iblk m c 5 t) (iblk m c 7 t) := by dsimp only [dats]
theorem after0_9 (c : Dev nD) (t : Fin cfg0.N) : (dats m 0 c).after 9 t = codesOf (MX m c 11) (DA m c) := by dsimp only [dats]
theorem after0_10 (c : Dev nD) (t : Fin cfg0.N) : (dats m 0 c).after 10 t = scaleRow (MX m c 11) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

end Cert.Mlp.Hand

end
-- ==== Proof.MlpBits.BodyA.lean ====
module

public import proofs.«01_k».proof.Proof.MlpBits.ReadsA

public import proofs.«01_k».proof.Proof.MlpBits.Data
public import Idealize.ShloMosaic.Lib.Claim

@[expose] public section

set_option maxRecDepth 16384

noncomputable section

namespace Cert.Mlp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 28800000 in
/-- The body at the first point: it takes the blocks and the scratch as the invariant states them and leaves what the data says. -/
theorem sound_A (c : Dev nD) (t : Fin cfg0.N) (hz : t.val = 0) :
    bodyPre m c t ⊢ wp frame (wpE (defs₀ (F := F)) Variants.none c none) Set.univ (bodyAt0 t) (fun _ => bodyPost m c t) := by
  obtain rfl : t = t0_0 := Fin.ext hz
  have h7 : ¬t0_0.val = 10 := by rw [hz]; decide
  unfold bodyPre bodyPost bodyAt0
  simp only [before0_0, before0_1, before0_2, before0_3, before0_4, before0_5, before0_6, before0_7]
  rw [show (dats m 0 c).owesAt () (t0_0).succ = (dats m 0 c).owesAt () (t0_0).castSucc from rfl]
  rw [show (dats m 0 c).Φ (t0_0).succ = PhiS m c ((t0_0).val + 1) (t0_0).isLt from rfl, PhiS_succ]
  rw [show (dats m 0 c).leavesExact 0 t0_0 = owns (c : Thread nD τ) (ms0_0 t0_0) fullShare ((dats m 0 c).after 0 t0_0) from by
    unfold Dat.leavesExact; rw [liveAt0_0 t0_0], after0_0]
  rw [show (dats m 0 c).leavesExact 1 t0_0 = owns (c : Thread nD τ) (ms0_1 t0_0) fullShare ((dats m 0 c).after 1 t0_0) from by
    unfold Dat.leavesExact; rw [liveAt0_1 t0_0], after0_1]
  rw [show (dats m 0 c).leavesExact 2 t0_0 = owns (c : Thread nD τ) (ms0_2 t0_0) fullShare ((dats m 0 c).after 2 t0_0) from by
    unfold Dat.leavesExact; rw [liveAt0_2 t0_0], after0_2]
  rw [show (dats m 0 c).leavesExact 3 t0_0 = owns (c : Thread nD τ) (ms0_3 t0_0) fullShare ((dats m 0 c).after 3 t0_0) from by
    unfold Dat.leavesExact; rw [liveAt0_3 t0_0], after0_3]
  rw [show (dats m 0 c).leavesExact 4 t0_0 = owns (c : Thread nD τ) (ms0_4 t0_0) fullShare ((dats m 0 c).after 4 t0_0) from by
    unfold Dat.leavesExact; rw [liveAt0_4 t0_0], after0_4]
  rw [show (dats m 0 c).leavesExact 5 t0_0 = owns (c : Thread nD τ) (ms0_5 t0_0) fullShare ((dats m 0 c).after 5 t0_0) from by
    unfold Dat.leavesExact; rw [liveAt0_5 t0_0], after0_5]
  rw [show (dats m 0 c).leavesExact 6 t0_0 = owns (c : Thread nD τ) (ms0_6 t0_0) fullShare ((dats m 0 c).after 6 t0_0) from by
    unfold Dat.leavesExact; rw [liveAt0_6 t0_0], after0_6]
  rw [show (dats m 0 c).leavesExact 7 t0_0 = owns (c : Thread nD τ) (ms0_7 t0_0) fullShare ((dats m 0 c).after 7 t0_0) from by
    unfold Dat.leavesExact; rw [liveAt0_7 t0_0], after0_7]
  rw [show (dats m 0 c).leavesExact 8 t0_0 = owns (c : Thread nD τ) (ms0_8 t0_0) fullShare ((dats m 0 c).after 8 t0_0) from by
    unfold Dat.leavesExact; rw [liveAt0_8 t0_0], after0_8]
  rw [(dats m 0 c).leavesExact_idle 9 t0_0 (idle9 t0_0 h7) (noflush9 t0_0 h7)]
  rw [(dats m 0 c).leavesExact_idle 10 t0_0 (idle10 t0_0 h7) (noflush10 t0_0 h7)]
  rw [PhiS_castSucc m c t0_0, PhiS_zero m c _ _ hz, PhiA0_eq]
  iintro ⟨⟨⟨⟨%X, HS0⟩, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
  have hX : Agree m c t0_0.val X := fun y hy => absurd hy (by rw [hz]; exact Nat.not_lt_zero _)
  iapply ((runA c (grid0.coords t0_0) _ _ _ _ _ _ _ _ _ _ _ _ _ _ _ _ _ _ _ _ _ _ _ _ _ _ _ _ _ _ _ _ ((hcond0 t0_0).mpr hz) (fun h => h7 ((hcond1 t0_0).mp h)) (iblk m c 0 t0_0) (iblk m c 1 t0_0) (iblk m c 2 t0_0) (iblk m c 3 t0_0) (iblk m c 4 t0_0) (iblk m c 5 t0_0) (iblk m c 6 t0_0) (iblk m c 7 t0_0) X).2.2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _
    iexact H8
  isplitl [HS0]
  · iexact HS0
  isplitl [HS1]
  · iexact HS1
  isplitl [HS2]
  · iexact HS2
  isplitl [HS3]
  · iexact HS3
  isplitl [HS4]
  · iexact HS4
  iintro ⟨H0, H1, H2, H3, H4, H5, H6, H7, ⟨%e9, H8⟩, HS0, ⟨%e13, HS1⟩, ⟨%e14, HS2⟩, ⟨%e15, HS3⟩, ⟨%e16, HS4⟩⟩
  isplitl [HS0 HS1 HS2 HS3 HS4 Hg]
  · isplitl [HS0 HS1 HS2 HS3 HS4]
    · isplitl [HS0]
      · iexists _
        isplitr
        · ipureintro
          exact agree_upd m c t0_0 X hX
        unfold owns
        iexists _
        isplitr
        swap
        · iexact HS0
        ipureintro
        exact runA_12 c (grid0.coords t0_0) _ _ _ _ _ _ _ _ _ _ _ _ _ _ _ _ _ _ _ _ _ _ _ _ _ _ _ _ _ _ _ _ _ _ _ _ _ _ _ _ _ _ _
      isplitl [HS1]
      · unfold owns
        iexists _
        isplitr
        swap
        · iexact HS1
        ipureintro
        exact (runA_13 c (grid0.coords t0_0) _ _ _ _ _ _ _ _ _ _ _ _ _ _ _ _ _ _ _ _ _ _ _ _ _ _ _ _ _ _ _ _ _ _ _ _ _ _ _ _ _ _ _ _).trans (MX_succ m c t0_0).symm
      isplitl [HS2]
      · unfold owns
        iexists _
        isplitr
        swap
        · iexact HS2
        ipureintro
        exact runA_14 c (grid0.coords t0_0) _ _ _ _ _ _ _ _ _ _ _ _ _ _ _ _ _ _ _ _ _ _ _ _ _ _ _ _ _ _ _ _ _ _ _ _ _ _ _ _ _ _ _ _
      isplitl [HS3]
      · unfold owns
        iexists _
        isplitr
        swap
        · iexact HS3
        ipureintro
        exact runA_15 c (grid0.coords t0_0) _ _ _ _ _ _ _ _ _ _ _ _ _ _ _ _ _ _ _ _ _ _ _ _ _ _ _ _ _ _ _ _ _ _ _ _ _ _ _ _ _ _ _ _
      unfold owns
      iexists _
      isplitr
      swap
      · iexact HS4
      ipureintro
      exact runA_16 c (grid0.coords t0_0) _ _ _ _ _ _ _ _ _ _ _ _ _ _ _ _ _ _ _ _ _ _ _ _ _ _ _ _ _ _ _ _ _ _ _ _ _ _ _ _ _ _ _ _
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns
    iexists _
    isplitr
    swap
    · iexact H8
    ipureintro
    exact runA_9 c (grid0.coords t0_0) _ _ _ _ _ _ _ _ _ _ _ _ _ _ _ _ _ _ _ _ _ _ _ _ _ _ _ _ _ _ _ _ _ _ _ _ _ _ _ _ _ _ _ _
  isplitl [H9]
  · iexact H9
  iexact H10

end Cert.Mlp.Hand

end
-- ==== Proof.MlpBits.RunB.lean ====
module

public import proofs.«01_k».proof.Proof.MlpBits.Conds

@[expose] public section

set_option maxRecDepth 16384

noncomputable section

namespace Cert.Mlp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp.Gen

variable {F : FTy → Type} [FloatOps F]

local notation "𝕄" => MT nD τ sig Unit (Elt F) ℕ (UR sig nD τ) ℕ

set_option maxHeartbeats 6400000 in
/-- The body at a point that is neither the first nor the last. The pieces each buffer ends with are the witness the run finds. -/
noncomputable def runB (c : Dev nD) (i : grid0.Coords)
    (arg1 : Memref sig .tc .vmem S1024x2048 .fp8e5m2) (harg1 : arg1.IsWhole) (arg2 : Memref sig .tc .vmem S512x2048 .fp8e4m3) (harg2 : arg2.IsWhole) (arg3 : Memref sig .tc .vmem S1024x512 .fp8e4m3) (harg3 : arg3.IsWhole) (arg4 : Memref sig .tc .vmem S1024x512 .fp8e4m3) (harg4 : arg4.IsWhole)
    (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole)
    (arg9 : Memref sig .tc .vmem S512x2048 .bf16) (harg9 : arg9.IsWhole) (arg10 : Memref sig .tc .vmem S1024x5632 .fp8e5m2) (harg10 : arg10.IsWhole) (arg11 : Memref sig .tc .vmem S1x1024 .f32) (harg11 : arg11.IsWhole) (arg12 : Memref sig .tc .vmem S1024x5632 .f32) (harg12 : arg12.IsWhole)
    (arg13 : Memref sig .tc .vmem S1024x128 .f32) (harg13 : arg13.IsWhole) (arg14 : Memref sig .tc .vmem S1024x2048 .bf16) (harg14 : arg14.IsWhole) (arg15 : Memref sig .tc .vmem S1024x128 .f32) (harg15 : arg15.IsWhole) (arg16 : Memref sig .tc .vmem S1024x128 .f32) (harg16 : arg16.IsWhole) (hc0 : ¬cond0 i) (hc1 : ¬cond1 i)
    (x0 : Vec F S1024x2048 .fp8e5m2) (x1 : Vec F S512x2048 .fp8e4m3) (x2 : Vec F S1024x512 .fp8e4m3) (x3 : Vec F S1024x512 .fp8e4m3) (x4 : Vec F S1x2048 .f32) (x5 : Vec F S1x1024 .f32) (x6 : Vec F S1x1024 .f32) (x7 : Vec F S1x1024 .f32) (xs0 : Vec F S1024x5632 .f32) (xs1 : Vec F S1024x128 .f32) (xs2 : Vec F S1024x2048 .bf16) (xs3 : Vec F S1024x128 .f32) (xs4 : Vec F S1024x128 .f32) :
    Σ' (L9 : List (View.Piece (Elt F) S512x2048 .bf16)), Σ' (L12 : List (View.Piece (Elt F) S1024x5632 .f32)), { L13 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (arg12.view.loc (c : Thread nD τ) ↦[arg12.view.set]{fullShare} arg12.view.writes (Elt F) (harg12.unread xs0) L12) ∗ (∃ f, arg13.view.loc (c : Thread nD τ) ↦[arg13.view.set]{fullShare} arg13.view.writes (Elt F) f L13) ∗ owns (c : Thread nD τ) arg14 fullShare xs2 ∗ owns (c : Thread nD τ) arg15 fullShare xs3 ∗ owns (c : Thread nD τ) arg16 fullShare xs4) -∗ K ⟨⟩))
          ⊢ wp frame (wpE (defs₀ (F := F)) Variants.none c none) E (cc0_mlp_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_mlp_out_eq_skeleton]; unfold cc0_mlp_out_skel
    simp only [k0_part14_eq_skeleton, k0_part15_eq_skeleton, k0_part16_eq_skeleton, k0_part17_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H12]
    · iexact H12
    isplitl [H13]
    · iexists _; iexact H13
    isplitl [H14]
    · iexists _; isplitr; · ipureintro; exact harg14.read_unread _
      iexact H14
    isplitl [H15]
    · iexists _; isplitr; · ipureintro; exact harg15.read_unread _
      iexact H15
    iexists _; isplitr; · ipureintro; exact harg16.read_unread _
    iexact H16

end Cert.Mlp.Hand

end
-- ==== Proof.MlpBits.ReadsB.lean ====
module

public import proofs.«01_k».proof.Proof.MlpBits.RunB

public import proofs.«01_k».proof.Proof.MlpBits.Point

@[expose] public section

set_option maxRecDepth 16384

noncomputable section

namespace Cert.Mlp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp.Gen

variable {F : FTy → Type} [FloatOps F]

local notation "𝕄" => MT nD τ sig Unit (Elt F) ℕ (UR sig nD τ) ℕ

variable (c : Dev nD) (i : grid0.Coords)
    (arg1 : Memref sig .tc .vmem S1024x2048 .fp8e5m2) (harg1 : arg1.IsWhole) (arg2 : Memref sig .tc .vmem S512x2048 .fp8e4m3) (harg2 : arg2.IsWhole) (arg3 : Memref sig .tc .vmem S1024x512 .fp8e4m3) (harg3 : arg3.IsWhole) (arg4 : Memref sig .tc .vmem S1024x512 .fp8e4m3) (harg4 : arg4.IsWhole)
    (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole)
    (arg9 : Memref sig .tc .vmem S512x2048 .bf16) (harg9 : arg9.IsWhole) (arg10 : Memref sig .tc .vmem S1024x5632 .fp8e5m2) (harg10 : arg10.IsWhole) (arg11 : Memref sig .tc .vmem S1x1024 .f32) (harg11 : arg11.IsWhole) (arg12 : Memref sig .tc .vmem S1024x5632 .f32) (harg12 : arg12.IsWhole)
    (arg13 : Memref sig .tc .vmem S1024x128 .f32) (harg13 : arg13.IsWhole) (arg14 : Memref sig .tc .vmem S1024x2048 .bf16) (harg14 : arg14.IsWhole) (arg15 : Memref sig .tc .vmem S1024x128 .f32) (harg15 : arg15.IsWhole) (arg16 : Memref sig .tc .vmem S1024x128 .f32) (harg16 : arg16.IsWhole)
    (hc0 : ¬cond0 i) (hc1 : ¬cond1 i)
    (x0 : Vec F S1024x2048 .fp8e5m2) (x1 : Vec F S512x2048 .fp8e4m3) (x2 : Vec F S1024x512 .fp8e4m3) (x3 : Vec F S1024x512 .fp8e4m3) (x4 : Vec F S1x2048 .f32) (x5 : Vec F S1x1024 .f32) (x6 : Vec F S1x1024 .f32) (x7 : Vec F S1x1024 .f32) (xs0 : Vec F S1024x5632 .f32) (xs1 : Vec F S1024x128 .f32) (xs2 : Vec F S1024x2048 .bf16) (xs3 : Vec F S1024x128 .f32) (xs4 : Vec F S1024x128 .f32)

/-- What the middle point leaves in dw_out. -/
theorem runB_9 : ∀ f, arg9.view.read (Elt F) (arg9.view.writes (Elt F) f
      (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).1)
    = dwOut x0 x3 x5 x7 := by
  intro f
  unfold runB; dsimp only; sl_unfold_words; simp (disch := decide) only [View.readAt_eq_ld, Memref.IsWhole.read_unread, View.ld_unit_lit, View.canon_cons_unit_lit, View.readCov_unit_lit, View.readCov_cons_unit_lit', read_whole] <;> rfl

/-- What the middle point leaves in the scratch of da. -/
theorem runB_12 : arg12.view.read (Elt F) (arg12.view.writes (Elt F) (harg12.unread xs0)
      (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).2.1)
    = upd (512 * (i 0).val) xs0 (daPiece x1 x2 x4 xs2 xs3 xs4) := by
  unfold runB; dsimp only; sl_unfold_words; simp (disch := decide) only [View.readAt_eq_ld, Memref.IsWhole.read_unread, View.ld_unit_lit, View.canon_cons_unit_lit, View.readCov_unit_lit, View.readCov_cons_unit_lit', read_whole]
  exact (read_four arg12.view (harg12.unread xs0) (512 * (i 0).val) _ _ _ _ (off i 0) (off i 1) (off i 2) (off i 3) _ _ _ _ (daPiece x1 x2 x4 xs2 xs3 xs4)).trans (by rw [harg12.read_unread])

/-- What the middle point leaves in the running maximum. -/
theorem runB_13 : ∀ f, arg13.view.read (Elt F) (arg13.view.writes (Elt F) f
      (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).2.2.1)
    = (amStep x1 x2 x4 xs1 xs2 xs3 xs4) := by
  intro f
  unfold runB; dsimp only; sl_unfold_words; simp (disch := decide) only [View.readAt_eq_ld, Memref.IsWhole.read_unread, View.ld_unit_lit, View.canon_cons_unit_lit, View.readCov_unit_lit, View.readCov_cons_unit_lit', read_whole] <;> rfl

end Cert.Mlp.Hand

end
-- ==== Proof.MlpBits.BodyB.lean ====
module

public import proofs.«01_k».proof.Proof.MlpBits.ReadsB

public import proofs.«01_k».proof.Proof.MlpBits.Data
public import Idealize.ShloMosaic.Lib.Claim

@[expose] public section

set_option maxRecDepth 16384

noncomputable section

namespace Cert.Mlp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 28800000 in
/-- The body at a middle point: it takes the blocks and the scratch as the invariant states them and leaves what the data says. -/
theorem sound_B (c : Dev nD) (t : Fin cfg0.N) (hz : ¬t.val = 0) (h7 : ¬t.val = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () (t).succ = (dats m 0 c).owesAt () (t).castSucc from rfl]
  rw [show (dats m 0 c).Φ (t).succ = PhiS m c ((t).val + 1) (t).isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [(dats m 0 c).leavesExact_idle 9 t (idle9 t h7) (noflush9 t h7)]
  rw [(dats m 0 c).leavesExact_idle 10 t (idle10 t h7) (noflush10 t h7)]
  rw [PhiS_castSucc m c t, PhiS_pos m c _ _ hz]
  iintro ⟨⟨⟨⟨%X, %hX, HS0⟩, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
  iapply ((runB c (grid0.coords t) _ _ _ _ _ _ _ _ _ _ _ _ _ _ _ _ _ _ _ _ _ _ _ _ _ _ _ _ _ _ _ _ (fun h => hz ((hcond0 t).mp h)) (fun h => h7 ((hcond1 t).mp h)) (iblk m c 0 t) (iblk m c 1 t) (iblk m c 2 t) (iblk m c 3 t) (iblk m c 4 t) (iblk m c 5 t) (iblk m c 6 t) (iblk m c 7 t) X (MX m c t.val) (cY m c) (cH m c) (cV m c)).2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _
    iexact H8
  isplitl [HS0]
  · iexact HS0
  isplitl [HS1]
  · iexact HS1
  isplitl [HS2]
  · iexact HS2
  isplitl [HS3]
  · iexact HS3
  isplitl [HS4]
  · iexact HS4
  iintro ⟨H0, H1, H2, H3, H4, H5, H6, H7, ⟨%e9, H8⟩, HS0, ⟨%e13, HS1⟩, HS2, HS3, HS4⟩
  isplitl [HS0 HS1 HS2 HS3 HS4 Hg]
  · isplitl [HS0 HS1 HS2 HS3 HS4]
    · isplitl [HS0]
      · iexists _
        isplitr
        · ipureintro
          exact agree_upd m c t X hX
        unfold owns
        iexists _
        isplitr
        swap
        · iexact HS0
        ipureintro
        exact runB_12 c (grid0.coords t) _ _ _ _ _ _ _ _ _ _ _ _ _ _ _ _ _ _ _ _ _ _ _ _ _ _ _ _ _ _ _ _ _ _ _ _ _ _ _ _ _ _ _ _ _ _ _
      isplitl [HS1]
      · unfold owns
        iexists _
        isplitr
        swap
        · iexact HS1
        ipureintro
        exact (runB_13 c (grid0.coords t) _ _ _ _ _ _ _ _ _ _ _ _ _ _ _ _ _ _ _ _ _ _ _ _ _ _ _ _ _ _ _ _ _ _ _ _ _ _ _ _ _ _ _ _ _ _ _ _).trans (MX_succ m c t).symm
      isplitl [HS2]
      · iexact HS2
      isplitl [HS3]
      · iexact HS3
      iexact HS4
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns
    iexists _
    isplitr
    swap
    · iexact H8
    ipureintro
    exact runB_9 c (grid0.coords t) _ _ _ _ _ _ _ _ _ _ _ _ _ _ _ _ _ _ _ _ _ _ _ _ _ _ _ _ _ _ _ _ _ _ _ _ _ _ _ _ _ _ _ _ _ _ _ _
  isplitl [H9]
  · iexact H9
  iexact H10

end Cert.Mlp.Hand

end
-- ==== Proof.MlpBits.RunC.lean ====
module

public import proofs.«01_k».proof.Proof.MlpBits.Conds

@[expose] public section

set_option maxRecDepth 16384

noncomputable section

namespace Cert.Mlp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp.Gen

variable {F : FTy → Type} [FloatOps F]

local notation "𝕄" => MT nD τ sig Unit (Elt F) ℕ (UR sig nD τ) ℕ

set_option maxHeartbeats 6400000 in
/-- The body at the last point, which also writes the codes and their scales. The pieces each buffer ends with are the witness the run finds. -/
noncomputable def runC (c : Dev nD) (i : grid0.Coords)
    (arg1 : Memref sig .tc .vmem S1024x2048 .fp8e5m2) (harg1 : arg1.IsWhole) (arg2 : Memref sig .tc .vmem S512x2048 .fp8e4m3) (harg2 : arg2.IsWhole) (arg3 : Memref sig .tc .vmem S1024x512 .fp8e4m3) (harg3 : arg3.IsWhole) (arg4 : Memref sig .tc .vmem S1024x512 .fp8e4m3) (harg4 : arg4.IsWhole)
    (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole)
    (arg9 : Memref sig .tc .vmem S512x2048 .bf16) (harg9 : arg9.IsWhole) (arg10 : Memref sig .tc .vmem S1024x5632 .fp8e5m2) (harg10 : arg10.IsWhole) (arg11 : Memref sig .tc .vmem S1x1024 .f32) (harg11 : arg11.IsWhole) (arg12 : Memref sig .tc .vmem S1024x5632 .f32) (harg12 : arg12.IsWhole)
    (arg13 : Memref sig .tc .vmem S1024x128 .f32) (harg13 : arg13.IsWhole) (arg14 : Memref sig .tc .vmem S1024x2048 .bf16) (harg14 : arg14.IsWhole) (arg15 : Memref sig .tc .vmem S1024x128 .f32) (harg15 : arg15.IsWhole) (arg16 : Memref sig .tc .vmem S1024x128 .f32) (harg16 : arg16.IsWhole) (hc0 : ¬cond0 i) (hc1 : cond1 i)
    (x0 : Vec F S1024x2048 .fp8e5m2) (x1 : Vec F S512x2048 .fp8e4m3) (x2 : Vec F S1024x512 .fp8e4m3) (x3 : Vec F S1024x512 .fp8e4m3) (x4 : Vec F S1x2048 .f32) (x5 : Vec F S1x1024 .f32) (x6 : Vec F S1x1024 .f32) (x7 : Vec F S1x1024 .f32) (xs0 : Vec F S1024x5632 .f32) (xs1 : Vec F S1024x128 .f32) (xs2 : Vec F S1024x2048 .bf16) (xs3 : Vec F S1024x128 .f32) (xs4 : Vec F S1024x128 .f32) :
    Σ' (L9 : List (View.Piece (Elt F) S512x2048 .bf16)), Σ' (L10 : List (View.Piece (Elt F) S1024x5632 .fp8e5m2)), Σ' (L11 : List (View.Piece (Elt F) S1x1024 .f32)), Σ' (L12 : List (View.Piece (Elt F) S1024x5632 .f32)), { L13 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread xs0) L12) ∗ (∃ f, arg13.view.loc (c : Thread nD τ) ↦[arg13.view.set]{fullShare} arg13.view.writes (Elt F) f L13) ∗ owns (c : Thread nD τ) arg14 fullShare xs2 ∗ owns (c : Thread nD τ) arg15 fullShare xs3 ∗ owns (c : Thread nD τ) arg16 fullShare xs4) -∗ K ⟨⟩))
          ⊢ wp frame (wpE (defs₀ (F := F)) Variants.none c none) E (cc0_mlp_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_mlp_out_eq_skeleton]; unfold cc0_mlp_out_skel
    simp only [k0_part14_eq_skeleton, k0_part15_eq_skeleton, k0_part16_eq_skeleton, k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexists _; iexact H11
    isplitl [H12]
    · iexact H12
    isplitl [H13]
    · iexists _; iexact H13
    isplitl [H14]
    · iexists _; isplitr; · ipureintro; exact harg14.read_unread _
      iexact H14
    isplitl [H15]
    · iexists _; isplitr; · ipureintro; exact harg15.read_unread _
      iexact H15
    iexists _; isplitr; · ipureintro; exact harg16.read_unread _
    iexact H16

end Cert.Mlp.Hand

end
-- ==== Proof.MlpBits.ReadsC.lean ====
module

public import proofs.«01_k».proof.Proof.MlpBits.RunC

public import proofs.«01_k».proof.Proof.MlpBits.Point

@[expose] public section

set_option maxRecDepth 16384

noncomputable section

namespace Cert.Mlp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp.Gen

variable {F : FTy → Type} [FloatOps F]

local notation "𝕄" => MT nD τ sig Unit (Elt F) ℕ (UR sig nD τ) ℕ

variable (c : Dev nD) (i : grid0.Coords)
    (arg1 : Memref sig .tc .vmem S1024x2048 .fp8e5m2) (harg1 : arg1.IsWhole) (arg2 : Memref sig .tc .vmem S512x2048 .fp8e4m3) (harg2 : arg2.IsWhole) (arg3 : Memref sig .tc .vmem S1024x512 .fp8e4m3) (harg3 : arg3.IsWhole) (arg4 : Memref sig .tc .vmem S1024x512 .fp8e4m3) (harg4 : arg4.IsWhole)
    (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole)
    (arg9 : Memref sig .tc .vmem S512x2048 .bf16) (harg9 : arg9.IsWhole) (arg10 : Memref sig .tc .vmem S1024x5632 .fp8e5m2) (harg10 : arg10.IsWhole) (arg11 : Memref sig .tc .vmem S1x1024 .f32) (harg11 : arg11.IsWhole) (arg12 : Memref sig .tc .vmem S1024x5632 .f32) (harg12 : arg12.IsWhole)
    (arg13 : Memref sig .tc .vmem S1024x128 .f32) (harg13 : arg13.IsWhole) (arg14 : Memref sig .tc .vmem S1024x2048 .bf16) (harg14 : arg14.IsWhole) (arg15 : Memref sig .tc .vmem S1024x128 .f32) (harg15 : arg15.IsWhole) (arg16 : Memref sig .tc .vmem S1024x128 .f32) (harg16 : arg16.IsWhole)
    (hc0 : ¬cond0 i) (hc1 : cond1 i)
    (x0 : Vec F S1024x2048 .fp8e5m2) (x1 : Vec F S512x2048 .fp8e4m3) (x2 : Vec F S1024x512 .fp8e4m3) (x3 : Vec F S1024x512 .fp8e4m3) (x4 : Vec F S1x2048 .f32) (x5 : Vec F S1x1024 .f32) (x6 : Vec F S1x1024 .f32) (x7 : Vec F S1x1024 .f32) (xs0 : Vec F S1024x5632 .f32) (xs1 : Vec F S1024x128 .f32) (xs2 : Vec F S1024x2048 .bf16) (xs3 : Vec F S1024x128 .f32) (xs4 : Vec F S1024x128 .f32)

/-- What the last point leaves in dw_out. -/
theorem runC_9 : ∀ f, arg9.view.read (Elt F) (arg9.view.writes (Elt F) f
      (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).1)
    = dwOut x0 x3 x5 x7 := by
  intro f
  unfold runC; dsimp only; sl_unfold_words; simp (disch := decide) only [View.readAt_eq_ld, Memref.IsWhole.read_unread, View.ld_unit_lit, View.canon_cons_unit_lit, View.readCov_unit_lit, View.readCov_cons_unit_lit', read_whole] <;> rfl

set_option maxHeartbeats 3200000 in
/-- What the last point leaves in the codes. -/
theorem runC_10 : ∀ f, arg10.view.read (Elt F) (arg10.view.writes (Elt F) f
      (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).2.1)
    = codesOf (amStep x1 x2 x4 xs1 xs2 xs3 xs4) (upd (512 * (i 0).val) xs0 (daPiece x1 x2 x4 xs2 xs3 xs4)) := by
  intro f
  unfold runC; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1024, 128] (by rfl))]
  exact congrArg (codesOf (amStep x1 x2 x4 xs1 xs2 xs3 xs4)) ((read_four arg12.view (harg12.unread xs0) (512 * (i 0).val) _ _ _ _ (off i 0) (off i 1) (off i 2) (off i 3) _ _ _ _ (daPiece x1 x2 x4 xs2 xs3 xs4)).trans (by rw [harg12.read_unread]))

/-- What the last point leaves in the scales. -/
theorem runC_11 : ∀ f, arg11.view.read (Elt F) (arg11.view.writes (Elt F) f
      (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).2.2.1)
    = scaleRow (amStep x1 x2 x4 xs1 xs2 xs3 xs4) := by
  intro f
  unfold runC; dsimp only; sl_unfold_words; simp (disch := decide) only [View.readAt_eq_ld, Memref.IsWhole.read_unread, View.ld_unit_lit, View.canon_cons_unit_lit, View.readCov_unit_lit, View.readCov_cons_unit_lit', read_whole] <;> rfl

/-- What the last point leaves in the scratch of da. -/
theorem runC_12 : arg12.view.read (Elt F) (arg12.view.writes (Elt F) (harg12.unread xs0)
      (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).2.2.2.1)
    = upd (512 * (i 0).val) xs0 (daPiece x1 x2 x4 xs2 xs3 xs4) := by
  unfold runC; dsimp only; sl_unfold_words; simp (disch := decide) only [View.readAt_eq_ld, Memref.IsWhole.read_unread, View.ld_unit_lit, View.canon_cons_unit_lit, View.readCov_unit_lit, View.readCov_cons_unit_lit', read_whole]
  exact (read_four arg12.view (harg12.unread xs0) (512 * (i 0).val) _ _ _ _ (off i 0) (off i 1) (off i 2) (off i 3) _ _ _ _ (daPiece x1 x2 x4 xs2 xs3 xs4)).trans (by rw [harg12.read_unread])

/-- What the last point leaves in the running maximum. -/
theorem runC_13 : ∀ f, arg13.view.read (Elt F) (arg13.view.writes (Elt F) f
      (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).2.2.2.2.1)
    = (amStep x1 x2 x4 xs1 xs2 xs3 xs4) := by
  intro f
  unfold runC; dsimp only; sl_unfold_words; simp (disch := decide) only [View.readAt_eq_ld, Memref.IsWhole.read_unread, View.ld_unit_lit, View.canon_cons_unit_lit, View.readCov_unit_lit, View.readCov_cons_unit_lit', read_whole] <;> rfl

end Cert.Mlp.Hand

end
-- ==== Proof.MlpBits.BodyC.lean ====
module

public import proofs.«01_k».proof.Proof.MlpBits.ReadsC

public import proofs.«01_k».proof.Proof.MlpBits.Data
public import Idealize.ShloMosaic.Lib.Claim

@[expose] public section

set_option maxRecDepth 16384

noncomputable section

namespace Cert.Mlp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the last point the scratch and the maximum are those of the whole `da`. -/
theorem last_eq (c : Dev nD) (t : Fin cfg0.N) (h7 : t.val = 10) (X : Vec F S1024x5632 .f32) (hX : Agree m c t.val X) :
    upd (512 * (grid0.coords t 0).val) X (dP m c t) = DA m c := by
  have e1 := agree_upd m c t X hX
  rw [h7] at e1
  exact agree_all m c _ e1
theorem last_MX (c : Dev nD) (t : Fin cfg0.N) (h7 : t.val = 10) : amStep (iblk m c 1 t) (iblk m c 2 t) (iblk m c 4 t) (MX m c t.val) (cY m c) (cH m c) (cV m c) = MX m c 11 := by
  rw [← MX_succ, h7]

set_option maxHeartbeats 28800000 in
/-- The body at the last point: it takes the blocks and the scratch as the invariant states them and leaves what the data says. -/
theorem sound_C (c : Dev nD) (t : Fin cfg0.N) (h7 : t.val = 10) :
    bodyPre m c t ⊢ wp frame (wpE (defs₀ (F := F)) Variants.none c none) Set.univ (bodyAt0 t) (fun _ => bodyPost m c t) := by
  have hz : ¬t.val = 0 := by omega
  unfold bodyPre bodyPost bodyAt0
  simp only [before0_0, before0_1, before0_2, before0_3, before0_4, before0_5, before0_6, before0_7]
  rw [show (dats m 0 c).owesAt () (t).succ = (dats m 0 c).owesAt () (t).castSucc from rfl]
  rw [show (dats m 0 c).Φ (t).succ = PhiS m c ((t).val + 1) (t).isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [live9 t h7], after0_9]
  rw [show (dats m 0 c).leavesExact 10 t = owns (c : Thread nD τ) (ms0_10 t) fullShare ((dats m 0 c).after 10 t) from by
    unfold Dat.leavesExact; rw [live10 t h7], after0_10]
  rw [PhiS_castSucc m c t, PhiS_pos m c _ _ hz]
  iintro ⟨⟨⟨⟨%X, %hX, HS0⟩, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runC c (grid0.coords t) _ _ _ _ _ _ _ _ _ _ _ _ _ _ _ _ _ _ _ _ _ _ _ _ _ _ _ _ _ _ _ _ (fun h => hz ((hcond0 t).mp h)) ((hcond1 t).mpr h7) (iblk m c 0 t) (iblk m c 1 t) (iblk m c 2 t) (iblk m c 3 t) (iblk m c 4 t) (iblk m c 5 t) (iblk m c 6 t) (iblk m c 7 t) X (MX m c t.val) (cY m c) (cH m c) (cV m c)).2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _
    iexact H8
  isplitl [H9]
  · iexists _
    iexact H9
  isplitl [H10]
  · iexists _
    iexact H10
  isplitl [HS0]
  · iexact HS0
  isplitl [HS1]
  · iexact HS1
  isplitl [HS2]
  · iexact HS2
  isplitl [HS3]
  · iexact HS3
  isplitl [HS4]
  · iexact HS4
  iintro ⟨H0, H1, H2, H3, H4, H5, H6, H7, ⟨%e9, H8⟩, ⟨%e10, H9⟩, ⟨%e11, H10⟩, HS0, ⟨%e13, HS1⟩, HS2, HS3, HS4⟩
  isplitl [HS0 HS1 HS2 HS3 HS4 Hg]
  · isplitl [HS0 HS1 HS2 HS3 HS4]
    · isplitl [HS0]
      · iexists _
        isplitr
        · ipureintro
          exact agree_upd m c t X hX
        unfold owns
        iexists _
        isplitr
        swap
        · iexact HS0
        ipureintro
        exact runC_12 c (grid0.coords t) _ _ _ _ _ _ _ _ _ _ _ _ _ _ _ _ _ _ _ _ _ _ _ _ _ _ _ _ _ _ _ _ _ _ _ _ _ _ _ _ _ _ _ _ _ _ _
      isplitl [HS1]
      · unfold owns
        iexists _
        isplitr
        swap
        · iexact HS1
        ipureintro
        exact (runC_13 c (grid0.coords t) _ _ _ _ _ _ _ _ _ _ _ _ _ _ _ _ _ _ _ _ _ _ _ _ _ _ _ _ _ _ _ _ _ _ _ _ _ _ _ _ _ _ _ _ _ _ _ _).trans (MX_succ m c t).symm
      isplitl [HS2]
      · iexact HS2
      isplitl [HS3]
      · iexact HS3
      iexact HS4
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns
    iexists _
    isplitr
    swap
    · iexact H8
    ipureintro
    exact runC_9 c (grid0.coords t) _ _ _ _ _ _ _ _ _ _ _ _ _ _ _ _ _ _ _ _ _ _ _ _ _ _ _ _ _ _ _ _ _ _ _ _ _ _ _ _ _ _ _ _ _ _ _ _
  isplitl [H9]
  · unfold owns
    iexists _
    isplitr
    swap
    · iexact H9
    ipureintro
    exact (runC_10 c (grid0.coords t) _ _ _ _ _ _ _ _ _ _ _ _ _ _ _ _ _ _ _ _ _ _ _ _ _ _ _ _ _ _ _ _ _ _ _ _ _ _ _ _ _ _ _ _ _ _ _ _).trans (congr (congrArg codesOf (last_MX m c t h7)) (last_eq m c t h7 X hX))
  unfold owns
  iexists _
  isplitr
  swap
  · iexact H10
  ipureintro
  exact (runC_11 c (grid0.coords t) _ _ _ _ _ _ _ _ _ _ _ _ _ _ _ _ _ _ _ _ _ _ _ _ _ _ _ _ _ _ _ _ _ _ _ _ _ _ _ _ _ _ _ _ _ _ _ _).trans (congrArg scaleRow (last_MX m c t h7))

end Cert.Mlp.Hand

end
-- ==== Proof.MlpBits.Run.lean ====
module

public import proofs.«01_k».proof.Proof.MlpBits.BodyA

public import proofs.«01_k».proof.Proof.MlpBits.BodyB
public import proofs.«01_k».proof.Proof.MlpBits.BodyC

@[expose] public section

set_option maxRecDepth 16384

noncomputable section

namespace Cert.Mlp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mlp.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_A m c t hz
  by_cases h7 : t.val = 10
  · exact sound_C m c t h7
  exact sound_B m c t hz h7

theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 11 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨⟨%X, -, HS0⟩, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in
/-- The launch: every execution ends, each window's array at what the data names, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Mlp.Hand

end
-- ==== Proof.Mlp.Conds.lean ====
module

public import proofs.«01_k».proof.Proof.Gen.MlpIdeal.Frame

public import proofs.«01_k».proof.Proof.Gen.MlpIdeal.Skeleton

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F] [Named F]

local notation "𝕄" => MT nD τ sig Unit (Elt F) ℕ (UR sig nD τ) ℕ

/-- The condition of the body's first `if`, from the grid coordinates. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (fun t => by
    have ht : t.val < 11 := Nat.lt_of_lt_of_eq t.isLt N_0
    have e0 : (grid0.coords t 0).val = t.val / 1 % 11 := Pipeline.Grid.coords_val t 0 (by decide) rfl
    rw [show t.val = 0 ↔ t.val % 11 = 0 by omega]
    simp only [cond0, e0]
    word_cmp
   : ∀ t : Fin grid0.N, cond0 (grid0.coords t) ↔ t.val = 0)

/-- The condition of the body's second `if`, from the grid coordinates. -/
abbrev cond1 (i : grid0.Coords) : Prop := k0_cond2 i = 1#1
/-- It holds at the last point only. -/
theorem hcond1 : ∀ t : Fin cfg0.N, cond1 (grid0.coords t) ↔ t.val = 10 :=
  (fun t => by
    have ht : t.val < 11 := Nat.lt_of_lt_of_eq t.isLt N_0
    have e0 : (grid0.coords t 0).val = t.val / 1 % 11 := Pipeline.Grid.coords_val t 0 (by decide) rfl
    rw [show t.val = 10 ↔ t.val % 11 = 10 by omega]
    simp only [cond1, k0_cond2, e0]
    word_cmp
   : ∀ t : Fin grid0.N, cond1 (grid0.coords t) ↔ t.val = 10)

end Cert.MlpIdeal.Hand

end
-- ==== Proof.Mlp.RunA.lean ====
module

public import proofs.«01_k».proof.Proof.Mlp.Conds

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F] [Named F]

local notation "𝕄" => MT nD τ sig Unit (Elt F) ℕ (UR sig nD τ) ℕ

set_option maxHeartbeats 6400000 in
/-- The body at the first point: the running maximum and the three columns start here. The pieces each buffer ends with are the witness the run finds. -/
noncomputable def runA (c : Dev nD) (i : grid0.Coords)
    (arg1 : Memref sig .tc .vmem S1024x2048 .fp8e5m2) (harg1 : arg1.IsWhole) (arg2 : Memref sig .tc .vmem S512x2048 .fp8e4m3) (harg2 : arg2.IsWhole) (arg3 : Memref sig .tc .vmem S1024x512 .fp8e4m3) (harg3 : arg3.IsWhole) (arg4 : Memref sig .tc .vmem S1024x512 .fp8e4m3) (harg4 : arg4.IsWhole)
    (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole)
    (arg9 : Memref sig .tc .vmem S512x2048 .bf16) (harg9 : arg9.IsWhole) (arg10 : Memref sig .tc .vmem S1024x5632 .fp8e5m2) (harg10 : arg10.IsWhole) (arg11 : Memref sig .tc .vmem S1x1024 .f32) (harg11 : arg11.IsWhole) (arg12 : Memref sig .tc .vmem S1024x5632 .f32) (harg12 : arg12.IsWhole)
    (arg13 : Memref sig .tc .vmem S1024x128 .f32) (harg13 : arg13.IsWhole) (arg14 : Memref sig .tc .vmem S1024x2048 .bf16) (harg14 : arg14.IsWhole) (arg15 : Memref sig .tc .vmem S1024x128 .f32) (harg15 : arg15.IsWhole) (arg16 : Memref sig .tc .vmem S1024x128 .f32) (harg16 : arg16.IsWhole) (hc0 : cond0 i) (hc1 : ¬cond1 i)
    (x0 : Vec F S1024x2048 .fp8e5m2) (x1 : Vec F S512x2048 .fp8e4m3) (x2 : Vec F S1024x512 .fp8e4m3) (x3 : Vec F S1024x512 .fp8e4m3) (x4 : Vec F S1x2048 .f32) (x5 : Vec F S1x1024 .f32) (x6 : Vec F S1x1024 .f32) (x7 : Vec F S1x1024 .f32) (xs0 : Vec F S1024x5632 .f32) :
    Σ' (L9 : List (View.Piece (Elt F) S512x2048 .bf16)), Σ' (L12 : List (View.Piece (Elt F) S1024x5632 .f32)), Σ' (L13 : List (View.Piece (Elt F) S1024x128 .f32)), Σ' (L14 : List (View.Piece (Elt F) S1024x2048 .bf16)), Σ' (L15 : List (View.Piece (Elt F) S1024x128 .f32)), { L16 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (arg12.view.loc (c : Thread nD τ) ↦[arg12.view.set]{fullShare} arg12.view.writes (Elt F) (harg12.unread xs0) L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16)) -∗ K ⟨⟩))
          ⊢ wp frame (wpE (defs₀ (F := F)) Variants.none c none) E (cc0_mlp_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_mlp_out_eq_skeleton]; unfold cc0_mlp_out_skel
    simp only [k0_part14_eq_skeleton, k0_part15_eq_skeleton, k0_part16_eq_skeleton, k0_part17_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f12, %hf12, H12⟩, ⟨%d13, %f13, -, H13⟩, ⟨%d14, %f14, -, H14⟩, ⟨%d15, %f15, -, H15⟩, ⟨%d16, %f16, -, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H12]
    · iexact H12
    isplitl [H13]
    · iexists _; iexact H13
    isplitl [H14]
    · iexists _; iexact H14
    isplitl [H15]
    · iexists _; iexact H15
    iexists _; iexact H16

end Cert.MlpIdeal.Hand

end
-- ==== Proof.Mlp.Point.lean ====
module

public import proofs.«01_k».proof.Proof.Mlp.Conds

public import Idealize.ShloMosaic.Lib.Pipeline.ValueKit
public import Idealize.ShloMosaic.Lib.WritesUnit

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F] [Named F]

local notation "𝕄" => MT nD τ sig Unit (Elt F) ℕ (UR sig nD τ) ℕ

/-- What a point stores in its block of `dw_out`. -/
def dwOut (x0 : Vec F S1024x2048 .fp8e5m2) (x3 : Vec F S1024x512 .fp8e4m3) (x5 : Vec F S1x1024 .f32) (x7 : Vec F S1x1024 .f32) : Vec F S512x2048 .bf16 := k0_pay91 x3 x7 x5 x0
/-- The four pieces of 128 columns of a point's block of `da`. -/
def daPiece (x1 : Vec F S512x2048 .fp8e4m3) (x2 : Vec F S1024x512 .fp8e4m3) (x4 : Vec F S1x2048 .f32) (xs2 : Vec F S1024x2048 .bf16) (xs3 : Vec F S1024x128 .f32) (xs4 : Vec F S1024x128 .f32) (k : Fin 4) : Vec F S1024x128 .f32 := match k with
  | 0 => k0_pay72 (k0_pay69 xs2 x1 x4 xs3) (k0_pay70 xs4 (View.ld x2 (Rect.unit ![0, 0] ![1024, 128] inb_S1024x512_S1024x128_0_0)))
  | 1 => k0_pay75 (k0_pay68 xs2 x1 x4) xs3 xs4 (View.ld x2 (Rect.unit ![0, 128] ![1024, 128] inb_S1024x512_S1024x128_0_128))
  | 2 => k0_pay79 (k0_pay68 xs2 x1 x4) xs3 xs4 (k0_pay76 (View.ld x2 (Rect.unit ![0, 256] ![1024, 128] inb_S1024x512_S1024x128_0_256)))
  | 3 => k0_pay89 (k0_pay83 xs4 (View.ld x2 (Rect.unit ![0, 384] ![1024, 128] inb_S1024x512_S1024x128_0_384))) (k0_pay84 (k0_pay68 xs2 x1 x4) xs3) (k0_pay85 xs4 (View.ld x2 (Rect.unit ![0, 384] ![1024, 128] inb_S1024x512_S1024x128_0_384))) (k0_pay86 xs4 (View.ld x2 (Rect.unit ![0, 384] ![1024, 128] inb_S1024x512_S1024x128_0_384))) k0_pay87
/-- The running maximum of `|da|` in each lane after a point. -/
def amStep (x1 : Vec F S512x2048 .fp8e4m3) (x2 : Vec F S1024x512 .fp8e4m3) (x4 : Vec F S1x2048 .f32) (xs1 : Vec F S1024x128 .f32) (xs2 : Vec F S1024x2048 .bf16) (xs3 : Vec F S1024x128 .f32) (xs4 : Vec F S1024x128 .f32) : Vec F S1024x128 .f32 :=
  k0_pay90 (k0_pay78 (k0_pay68 xs2 x1 x4) xs3 xs4 (k0_pay74 (k0_pay68 xs2 x1 x4) xs3 xs4 xs1 (k0_pay69 xs2 x1 x4 xs3) (k0_pay70 xs4 (View.ld x2 (Rect.unit ![0, 0] ![1024, 128] inb_S1024x512_S1024x128_0_0))) (View.ld x2 (Rect.unit ![0, 128] ![1024, 128] inb_S1024x512_S1024x128_0_128))) (k0_pay76 (View.ld x2 (Rect.unit ![0, 256] ![1024, 128] inb_S1024x512_S1024x128_0_256)))) (k0_pay83 xs4 (View.ld x2 (Rect.unit ![0, 384] ![1024, 128] inb_S1024x512_S1024x128_0_384))) (k0_pay84 (k0_pay68 xs2 x1 x4) xs3) (k0_pay85 xs4 (View.ld x2 (Rect.unit ![0, 384] ![1024, 128] inb_S1024x512_S1024x128_0_384))) (k0_pay86 xs4 (View.ld x2 (Rect.unit ![0, 384] ![1024, 128] inb_S1024x512_S1024x128_0_384))) k0_pay87
/-- An array with the columns `[n, n + 512)` replaced by four pieces of 128 columns. -/
def upd (n : ℕ) (X : Vec F S1024x5632 .f32) (p : Fin 4 → Vec F S1024x128 .f32) : Vec F S1024x5632 .f32 := fun y =>
  if n ≤ (y 1).val ∧ (y 1).val < n + 512 then
    p ⟨((y 1).val - n) / 128 % 4, Nat.mod_lt _ (by decide)⟩ (ix2 (y 0) ⟨((y 1).val - n) % 128, Nat.mod_lt _ (by decide)⟩)
  else X y
/-- The scale row of the codes, from the largest `|da|` of each lane. -/
def scaleRow (M : Vec F S1024x128 .f32) : Vec F S1x1024 .f32 := k0_pay7 (k0_pay2 M) (k0_pay3 M) k0_pay4
/-- The codes of 128 columns of `da`, given the reciprocals of the scales. -/
def codePiece (inv w : Vec F S1024x128 .f32) : Vec F S1024x128 .fp8e5m2 := k0_pay10 inv w
theorem inb (k : Fin 44) : ∀ a, (![0, 128 * k.val] : Fin 2 → ℕ) a + (![1024, 128] : Fin 2 → ℕ) a ≤ S1024x5632.size a := by
  have := k.isLt
  exact Fin.forall_fin_two.mpr ⟨by show 0 + 1024 ≤ 1024; omega, by show 128 * k.val + 128 ≤ 5632; omega⟩
/-- The forty-four stores of the last point into the codes, from the whole `da` (`D`) and the largest `|da|` of each lane. -/
def codePieces (M : Vec F S1024x128 .f32) (D : Vec F S1024x5632 .f32) : List (View.Piece (Elt F) S1024x5632 .fp8e5m2) :=
  (List.finRange 44).reverse.map fun k => ⟨Rect.unit ![0, 128 * k.val] ![1024, 128] (inb k),
    codePiece (k0_pay6 (k0_pay2 M) (k0_pay3 M) k0_pay4) (View.ld D (Rect.unit ![0, 128 * k.val] ![1024, 128] (inb k)))⟩
/-- The codes of the whole `da`, each 128 columns by themselves. -/
def codesOf (M : Vec F S1024x128 .f32) (D : Vec F S1024x5632 .f32) : Vec F S1024x5632 .fp8e5m2 := View.canon (codePieces M D)

/-- Four stores of 128 columns each, at `n`, `n + 128`, `n + 256` and `n + 384`, leave `upd`. -/
theorem read_four {sig' : RefSig} {κ : Kind} {sp : Space} (v : View sig' κ sp S1024x5632 .f32) (f : v.ty.Contents (Elt F)) (n : ℕ) (o0 o1 o2 o3 : Fin 2 → ℕ)
    (h0 : o0 = ![0, n]) (h1 : o1 = ![0, n + 128]) (h2 : o2 = ![0, n + 256]) (h3 : o3 = ![0, n + 384])
    (inb0 : ∀ a, o0 a + (![1024, 128] : Fin 2 → ℕ) a ≤ S1024x5632.size a) (inb1 : ∀ a, o1 a + (![1024, 128] : Fin 2 → ℕ) a ≤ S1024x5632.size a)
    (inb2 : ∀ a, o2 a + (![1024, 128] : Fin 2 → ℕ) a ≤ S1024x5632.size a) (inb3 : ∀ a, o3 a + (![1024, 128] : Fin 2 → ℕ) a ≤ S1024x5632.size a)
    (p : Fin 4 → Vec F S1024x128 .f32) :
    v.read (Elt F) (v.writes (Elt F) f [⟨Rect.unit (s := S1024x5632) o3 ![1024, 128] inb3, p 3⟩, ⟨Rect.unit (s := S1024x5632) o2 ![1024, 128] inb2, p 2⟩,
        ⟨Rect.unit (s := S1024x5632) o1 ![1024, 128] inb1, p 1⟩, ⟨Rect.unit (s := S1024x5632) o0 ![1024, 128] inb0, p 0⟩])
      = upd n (v.read (Elt F) f) p := by
  funext y
  unfold upd
  have step : ∀ (q : Fin 4) (o : Fin 2 → ℕ) (inb : ∀ a, o a + (![1024, 128] : Fin 2 → ℕ) a ≤ S1024x5632.size a) (L : List (View.Piece (Elt F) S1024x5632 .f32)) (z : Elt F .f32),
      o = ![0, n + 128 * q.val] →
      (¬(n + 128 * q.val ≤ (y 1).val ∧ (y 1).val < n + 128 * q.val + 128) → v.read (Elt F) (v.writes (Elt F) f L) y = z) →
      ((n + 128 * q.val ≤ (y 1).val ∧ (y 1).val < n + 128 * q.val + 128) → z = p q (ix2 (y 0) ⟨((y 1).val - n) % 128, Nat.mod_lt _ (by decide)⟩)) →
      v.read (Elt F) (v.writes (Elt F) f (⟨Rect.unit (s := S1024x5632) o ![1024, 128] inb, p q⟩ :: L)) y = z := by
    intro q o inb L z ho hn hy
    by_cases cq : n + 128 * q.val ≤ (y 1).val ∧ (y 1).val < n + 128 * q.val + 128
    · rw [hy cq]
      refine View.read_writes_cons_unit_of_mem v f inb (p q) _ y _ ho (Fin.forall_fin_two.mpr ⟨?_, ?_⟩)
      · show (y 0).val = 0 + (y 0).val
        omega
      · show (y 1).val = n + 128 * q.val + ((y 1).val - n) % 128
        omega
    · rw [View.read_writes_cons_unit_of_not_mem v f inb (p q) _ y ho (1 : Fin 2) (by
        show (y 1).val < n + 128 * q.val ∨ n + 128 * q.val + 128 ≤ (y 1).val
        omega)]
      exact hn cq
  have val : ∀ q : Fin 4, (n + 128 * q.val ≤ (y 1).val ∧ (y 1).val < n + 128 * q.val + 128) →
      (if n ≤ (y 1).val ∧ (y 1).val < n + 512 then
        p ⟨((y 1).val - n) / 128 % 4, Nat.mod_lt _ (by decide)⟩ (ix2 (y 0) ⟨((y 1).val - n) % 128, Nat.mod_lt _ (by decide)⟩)
      else v.read (Elt F) f y) = p q (ix2 (y 0) ⟨((y 1).val - n) % 128, Nat.mod_lt _ (by decide)⟩) := by
    intro q hq
    have := q.isLt
    rw [if_pos (by omega), show (⟨((y 1).val - n) / 128 % 4, Nat.mod_lt _ (by decide)⟩ : Fin 4) = q from Fin.ext (by show ((y 1).val - n) / 128 % 4 = q.val; omega)]
  refine step 3 o3 inb3 _ _ h3 (fun n3 => ?_) (val 3)
  refine step 2 o2 inb2 _ _ h2 (fun n2 => ?_) (val 2)
  refine step 1 o1 inb1 _ _ h1 (fun n1 => ?_) (val 1)
  refine step 0 o0 inb0 _ _ h0 (fun n0 => ?_) (val 0)
  have e3 : ((3 : Fin 4)).val = 3 := rfl
  have e2 : ((2 : Fin 4)).val = 2 := rfl
  have e1 : ((1 : Fin 4)).val = 1 := rfl
  have e0 : ((0 : Fin 4)).val = 0 := rfl
  rw [if_neg (by rw [e3] at n3; rw [e2] at n2; rw [e1] at n1; rw [e0] at n0; omega)]
  rfl

/-- The columns at which a point stores the pieces of its block. -/
theorem off (i : grid0.Coords) (k : Fin 4) : (![0, BitVec.toNat (Scalar.indexCast (Scalar.addi (Scalar.muli (BitVec.ofNat 32 ↑(i 0)) 512#32) (BitVec.ofNat 32 (128 * k.val))))] : Fin 2 → ℕ)
    = ![0, 512 * (i 0).val + 128 * k.val] :=
  congrArg (fun n => (![0, n] : Fin 2 → ℕ)) ((by decide +kernel : ∀ (k : Fin 4) (j : Fin 11), BitVec.toNat (Scalar.indexCast (Scalar.addi (Scalar.muli (BitVec.ofNat 32 j.val) 512#32) (BitVec.ofNat 32 (128 * k.val)))) = 512 * j.val + 128 * k.val) k (i 0))

/-- A store of the whole buffer leaves its payload. -/
theorem read_whole {sig' : RefSig} {κ : Kind} {sp : Space} {S : Shape} {e : EltTy} (v : View sig' κ sp S e) (f : v.ty.Contents (Elt F))
    {off : Fin S.rank → Nat} (inb : ∀ a, off a + S.size a ≤ S.size a) (w : S.Idx → Elt F e) (L : List (View.Piece (Elt F) S e)) (h : ∀ a, off a = 0) :
    v.read (Elt F) (v.writes (Elt F) f ((⟨Rect.unit off (no_index S.size) inb, w⟩ : View.Piece (Elt F) S e) :: L)) = w := by
  funext y
  exact View.read_writes_cons_unit_of_mem v f inb w L y y rfl (fun a => by rw [h a, Nat.zero_add])

end Cert.MlpIdeal.Hand

end
-- ==== Proof.Mlp.ReadsA.lean ====
module

public import proofs.«01_k».proof.Proof.Mlp.RunA

public import proofs.«01_k».proof.Proof.Mlp.Point

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F] [Named F]

local notation "𝕄" => MT nD τ sig Unit (Elt F) ℕ (UR sig nD τ) ℕ

variable (c : Dev nD) (i : grid0.Coords)
    (arg1 : Memref sig .tc .vmem S1024x2048 .fp8e5m2) (harg1 : arg1.IsWhole) (arg2 : Memref sig .tc .vmem S512x2048 .fp8e4m3) (harg2 : arg2.IsWhole) (arg3 : Memref sig .tc .vmem S1024x512 .fp8e4m3) (harg3 : arg3.IsWhole) (arg4 : Memref sig .tc .vmem S1024x512 .fp8e4m3) (harg4 : arg4.IsWhole)
    (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole)
    (arg9 : Memref sig .tc .vmem S512x2048 .bf16) (harg9 : arg9.IsWhole) (arg10 : Memref sig .tc .vmem S1024x5632 .fp8e5m2) (harg10 : arg10.IsWhole) (arg11 : Memref sig .tc .vmem S1x1024 .f32) (harg11 : arg11.IsWhole) (arg12 : Memref sig .tc .vmem S1024x5632 .f32) (harg12 : arg12.IsWhole)
    (arg13 : Memref sig .tc .vmem S1024x128 .f32) (harg13 : arg13.IsWhole) (arg14 : Memref sig .tc .vmem S1024x2048 .bf16) (harg14 : arg14.IsWhole) (arg15 : Memref sig .tc .vmem S1024x128 .f32) (harg15 : arg15.IsWhole) (arg16 : Memref sig .tc .vmem S1024x128 .f32) (harg16 : arg16.IsWhole)
    (hc0 : cond0 i) (hc1 : ¬cond1 i)
    (x0 : Vec F S1024x2048 .fp8e5m2) (x1 : Vec F S512x2048 .fp8e4m3) (x2 : Vec F S1024x512 .fp8e4m3) (x3 : Vec F S1024x512 .fp8e4m3) (x4 : Vec F S1x2048 .f32) (x5 : Vec F S1x1024 .f32) (x6 : Vec F S1x1024 .f32) (x7 : Vec F S1x1024 .f32) (xs0 : Vec F S1024x5632 .f32)

/-- What the first point leaves in dw_out. -/
theorem runA_9 : ∀ f, arg9.view.read (Elt F) (arg9.view.writes (Elt F) f
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).1)
    = dwOut x0 x3 x5 x7 := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the scratch of da. -/
theorem runA_12 : arg12.view.read (Elt F) (arg12.view.writes (Elt F) (harg12.unread xs0)
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.1)
    = upd (512 * (i 0).val) xs0 (daPiece x1 x2 x4 (k0_pay64 x0) (k0_pay65 x5) (k0_pay66 x6)) := by
  unfold runA; dsimp only; sl_unfold_words; simp (disch := decide) only [View.readAt_eq_ld, Memref.IsWhole.read_unread, View.ld_unit_lit, View.canon_cons_unit_lit, View.readCov_unit_lit, View.readCov_cons_unit_lit', read_whole]
  exact (read_four arg12.view (harg12.unread xs0) (512 * (i 0).val) _ _ _ _ (off i 0) (off i 1) (off i 2) (off i 3) _ _ _ _ (daPiece x1 x2 x4 (k0_pay64 x0) (k0_pay65 x5) (k0_pay66 x6))).trans (by rw [harg12.read_unread])

/-- What the first point leaves in the running maximum. -/
theorem runA_13 : ∀ f, arg13.view.read (Elt F) (arg13.view.writes (Elt F) f
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.1)
    = (amStep x1 x2 x4 k0_pay67 (k0_pay64 x0) (k0_pay65 x5) (k0_pay66 x6)) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the copy of dy. -/
theorem runA_14 : ∀ f, arg14.view.read (Elt F) (arg14.view.writes (Elt F) f
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.2.1)
    = (k0_pay64 x0) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the column of half of dy_scale. -/
theorem runA_15 : ∀ f, arg15.view.read (Elt F) (arg15.view.writes (Elt F) f
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.2.2.1)
    = (k0_pay65 x5) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the column of a_scale. -/
theorem runA_16 : ∀ f, arg16.view.read (Elt F) (arg16.view.writes (Elt F) f
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.2.2.2.1)
    = (k0_pay66 x6) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

end Cert.MlpIdeal.Hand

end
-- ==== Proof.Mlp.Data.lean ====
module

public import proofs.«01_k».proof.Proof.Mlp.Point

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The copy of `dy`. -/
def cY (c : Dev nD) : Vec F S1024x2048 .bf16 := k0_pay64 (iblk m c 0 t0_0)
/-- The column of half of `dy_scale`, in 128 lanes. -/
def cH (c : Dev nD) : Vec F S1024x128 .f32 := k0_pay65 (iblk m c 5 t0_0)
/-- The column of `a_scale` times the constant of the tanh, in 128 lanes. -/
def cV (c : Dev nD) : Vec F S1024x128 .f32 := k0_pay66 (iblk m c 6 t0_0)
/-- The pieces of point `t`'s block of `da`. -/
def dP (c : Dev nD) (t : Fin cfg0.N) : Fin 4 → Vec F S1024x128 .f32 := daPiece (iblk m c 1 t) (iblk m c 2 t) (iblk m c 4 t) (cY m c) (cH m c) (cV m c)
/-- The running maximum of `|da|` in each lane after `n` points. -/
def MX (c : Dev nD) : ℕ → Vec F S1024x128 .f32
  | 0 => k0_pay67
  | n + 1 => if h : n < cfg0.N then amStep (iblk m c 1 ⟨n, h⟩) (iblk m c 2 ⟨n, h⟩) (iblk m c 4 ⟨n, h⟩) (MX c n) (cY m c) (cH m c) (cV m c) else MX c n
theorem MX_succ (c : Dev nD) (t : Fin cfg0.N) : MX m c (t.val + 1) = amStep (iblk m c 1 t) (iblk m c 2 t) (iblk m c 4 t) (MX m c t.val) (cY m c) (cH m c) (cV m c) := by
  rw [MX, dif_pos t.isLt]
/-- The point whose block holds a column. -/
def ptOf (y : S1024x5632.Idx) : Fin cfg0.N := ⟨(y 1).val / 512, by
  have h : (y 1).val < 5632 := (y 1).isLt
  rw [show cfg0.N = 11 from N_0]; omega⟩
/-- The whole `da`: each point's four pieces side by side. -/
def DA (c : Dev nD) : Vec F S1024x5632 .f32 := fun y =>
  dP m c (ptOf y) ⟨(y 1).val / 128 % 4, Nat.mod_lt _ (by decide)⟩ (ix2 (y 0) ⟨(y 1).val % 128, Nat.mod_lt _ (by decide)⟩)
/-- The scratch holds `da` on the columns of the first `n` points. -/
def Agree (c : Dev nD) (n : ℕ) (X : Vec F S1024x5632 .f32) : Prop := ∀ y, (y 1).val < 512 * n → X y = DA m c y

theorem coord (t : Fin cfg0.N) : (grid0.coords t 0).val = t.val := by
  have ht : t.val < 11 := Nat.lt_of_lt_of_eq t.isLt N_0
  have e0 : (grid0.coords t 0).val = t.val / 1 % 11 := Pipeline.Grid.coords_val t 0 (by decide) rfl
  omega

/-- A point extends the agreement by its 512 columns. -/
theorem agree_upd (c : Dev nD) (t : Fin cfg0.N) (X : Vec F S1024x5632 .f32) (h : Agree m c t.val X) :
    Agree m c (t.val + 1) (upd (512 * (grid0.coords t 0).val) X (dP m c t)) := by
  intro y hy
  rw [coord t]
  have ey : ∀ z : ℕ, z = (y 1).val % 128 → ∀ hz : z < 128, (⟨z, hz⟩ : Fin 128) = ⟨(y 1).val % 128, Nat.mod_lt _ (by decide)⟩ := fun z e _ => Fin.ext e
  have eq : ∀ z : ℕ, z = (y 1).val / 128 % 4 → ∀ hz : z < 4, (⟨z, hz⟩ : Fin 4) = ⟨(y 1).val / 128 % 4, Nat.mod_lt _ (by decide)⟩ := fun z e _ => Fin.ext e
  have ep : 512 * t.val ≤ (y 1).val → ptOf y = t := fun hle => Fin.ext (by show (y 1).val / 512 = t.val; omega)
  unfold upd DA
  by_cases c0 : 512 * t.val ≤ (y 1).val ∧ (y 1).val < 512 * t.val + 512
  · rw [if_pos c0, ep (by omega), ey _ (by omega), eq _ (by omega)]
  rw [if_neg c0]
  exact h y (by omega)
/-- After the last point the scratch is the whole `da`. -/
theorem agree_all (c : Dev nD) (X : Vec F S1024x5632 .f32) (h : Agree m c 11 X) : X = DA m c :=
  funext fun y => h y (by have : (y 1).val < 5632 := (y 1).isLt; omega)

abbrev ms0_0 (t : Fin cfg0.N) : Memref sig .tc .vmem S1024x2048 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x2048 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x5632 .fp8e5m2 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
/-- Result 1 is stored at the last point only. -/
theorem idle9 (t : Fin cfg0.N) (h : ¬t.val = 10) : cfg0.idle 9 (grid0.coords t) = true := by
  show (!(k0_cond2 (grid0.coords t) == 1#1)) = true
  rw [beq_eq_false_iff_ne.mpr (fun e => h ((hcond1 t).mp e))]; rfl
theorem live9 (t : Fin cfg0.N) (h : t.val = 10) : cfg0.idle 9 (grid0.coords t) = false := by
  show (!(k0_cond2 (grid0.coords t) == 1#1)) = false
  rw [(hcond1 t).mpr h]; rfl
theorem noflush9 (t : Fin cfg0.N) (h : ¬t.val = 10) : (cfg0.win 9).flush t = false := by
  have ht : t.val < 11 := Nat.lt_of_lt_of_eq t.isLt N_0
  rw [← Bool.not_eq_true]
  exact fun e => by have := (flush0_9 t).mp e; omega
/-- Result 2 is stored at the last point only. -/
theorem idle10 (t : Fin cfg0.N) (h : ¬t.val = 10) : cfg0.idle 10 (grid0.coords t) = true := by
  show (!(k0_cond2 (grid0.coords t) == 1#1)) = true
  rw [beq_eq_false_iff_ne.mpr (fun e => h ((hcond1 t).mp e))]; rfl
theorem live10 (t : Fin cfg0.N) (h : t.val = 10) : cfg0.idle 10 (grid0.coords t) = false := by
  show (!(k0_cond2 (grid0.coords t) == 1#1)) = false
  rw [(hcond1 t).mpr h]; rfl
theorem noflush10 (t : Fin cfg0.N) (h : ¬t.val = 10) : (cfg0.win 10).flush t = false := by
  have ht : t.val < 11 := Nat.lt_of_lt_of_eq t.isLt N_0
  rw [← Bool.not_eq_true]
  exact fun e => by have := (flush0_10 t).mp e; omega
/-- Scratch operand 0. -/
abbrev scM0_0 : Memref sig .tc .vmem S1024x5632 .f32 := Memref.whole cc0_scratch0
/-- Scratch operand 1. -/
abbrev scM0_1 : Memref sig .tc .vmem S1024x128 .f32 := Memref.whole cc0_scratch1
/-- Scratch operand 2. -/
abbrev scM0_2 : Memref sig .tc .vmem S1024x2048 .bf16 := Memref.whole cc0_scratch2
/-- Scratch operand 3. -/
abbrev scM0_3 : Memref sig .tc .vmem S1024x128 .f32 := Memref.whole cc0_scratch3
/-- Scratch operand 4. -/
abbrev scM0_4 : Memref sig .tc .vmem S1024x128 .f32 := Memref.whole cc0_scratch4
/-- The region's invariant with the scratch as memrefs owned at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- What the scratch holds before point `n`: anything at first; later the columns of `da` so far, the maximum so far
    and the three arrays made at the first point. -/
def PhiS (c : Dev nD) : (n : ℕ) → n ≤ cfg0.N → sProp 𝕄
  | 0, _ => Pipeline.ΦA spec0 c
  | n + 1, hn => iprop(iprop((∃ X, ⌜Agree m c (n + 1) X⌝ ∗ owns (c : Thread nD τ) scM0_0 fullShare X) ∗ owns (c : Thread nD τ) scM0_1 fullShare (MX m c (n + 1)) ∗ owns (c : Thread nD τ) scM0_2 fullShare (cY m c) ∗ owns (c : Thread nD τ) scM0_3 fullShare (cH m c) ∗ owns (c : Thread nD τ) scM0_4 fullShare (cV m c)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ X, ⌜Agree m c (n + 1) X⌝ ∗ owns (c : Thread nD τ) scM0_0 fullShare X) ∗ owns (c : Thread nD τ) scM0_1 fullShare (MX m c (n + 1)) ∗ owns (c : Thread nD τ) scM0_2 fullShare (cY m c) ∗ owns (c : Thread nD τ) scM0_3 fullShare (cH m c) ∗ owns (c : Thread nD τ) scM0_4 fullShare (cV m c)) ∗ (∃ r, prngReg c r)) := rfl
theorem PhiS_pos (c : Dev nD) (n : ℕ) (h : n ≤ cfg0.N) (hz : n ≠ 0) :
    PhiS m c n h = iprop(iprop((∃ X, ⌜Agree m c n X⌝ ∗ owns (c : Thread nD τ) scM0_0 fullShare X) ∗ owns (c : Thread nD τ) scM0_1 fullShare (MX m c n) ∗ owns (c : Thread nD τ) scM0_2 fullShare (cY m c) ∗ owns (c : Thread nD τ) scM0_3 fullShare (cH m c) ∗ owns (c : Thread nD τ) scM0_4 fullShare (cV m c)) ∗ (∃ r, prngReg c r)) := by
  cases n with
  | zero => exact absurd rfl hz
  | succ n => rfl

/-- The proof data of the pipeline on core `c`: the arrays as the region finds them, what each point leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dwOut (iblk m c 0 t) (iblk m c 3 t) (iblk m c 5 t) (iblk m c 7 t)
    | ⟨9, _⟩ => codesOf (MX m c 11) (DA m c)
    | ⟨10, _⟩ => scaleRow (MX m c 11)
    | ⟨_ + 11, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dwOut (iblk m c 0 t) (iblk m c 3 t) (iblk m c 5 t) (iblk m c 7 t) := by dsimp only [dats]
theorem after0_9 (c : Dev nD) (t : Fin cfg0.N) : (dats m 0 c).after 9 t = codesOf (MX m c 11) (DA m c) := by dsimp only [dats]
theorem after0_10 (c : Dev nD) (t : Fin cfg0.N) : (dats m 0 c).after 10 t = scaleRow (MX m c 11) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

end Cert.MlpIdeal.Hand

end
-- ==== Proof.Mlp.BodyA.lean ====
module

public import proofs.«01_k».proof.Proof.Mlp.ReadsA

public import proofs.«01_k».proof.Proof.Mlp.Data
public import Idealize.ShloMosaic.Lib.Claim

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 28800000 in
/-- The body at the first point: it takes the blocks and the scratch as the invariant states them and leaves what the data says. -/
theorem sound_A (c : Dev nD) (t : Fin cfg0.N) (hz : t.val = 0) :
    bodyPre m c t ⊢ wp frame (wpE (defs₀ (F := F)) Variants.none c none) Set.univ (bodyAt0 t) (fun _ => bodyPost m c t) := by
  obtain rfl : t = t0_0 := Fin.ext hz
  have h7 : ¬t0_0.val = 10 := by rw [hz]; decide
  unfold bodyPre bodyPost bodyAt0
  simp only [before0_0, before0_1, before0_2, before0_3, before0_4, before0_5, before0_6, before0_7]
  rw [show (dats m 0 c).owesAt () (t0_0).succ = (dats m 0 c).owesAt () (t0_0).castSucc from rfl]
  rw [show (dats m 0 c).Φ (t0_0).succ = PhiS m c ((t0_0).val + 1) (t0_0).isLt from rfl, PhiS_succ]
  rw [show (dats m 0 c).leavesExact 0 t0_0 = owns (c : Thread nD τ) (ms0_0 t0_0) fullShare ((dats m 0 c).after 0 t0_0) from by
    unfold Dat.leavesExact; rw [liveAt0_0 t0_0], after0_0]
  rw [show (dats m 0 c).leavesExact 1 t0_0 = owns (c : Thread nD τ) (ms0_1 t0_0) fullShare ((dats m 0 c).after 1 t0_0) from by
    unfold Dat.leavesExact; rw [liveAt0_1 t0_0], after0_1]
  rw [show (dats m 0 c).leavesExact 2 t0_0 = owns (c : Thread nD τ) (ms0_2 t0_0) fullShare ((dats m 0 c).after 2 t0_0) from by
    unfold Dat.leavesExact; rw [liveAt0_2 t0_0], after0_2]
  rw [show (dats m 0 c).leavesExact 3 t0_0 = owns (c : Thread nD τ) (ms0_3 t0_0) fullShare ((dats m 0 c).after 3 t0_0) from by
    unfold Dat.leavesExact; rw [liveAt0_3 t0_0], after0_3]
  rw [show (dats m 0 c).leavesExact 4 t0_0 = owns (c : Thread nD τ) (ms0_4 t0_0) fullShare ((dats m 0 c).after 4 t0_0) from by
    unfold Dat.leavesExact; rw [liveAt0_4 t0_0], after0_4]
  rw [show (dats m 0 c).leavesExact 5 t0_0 = owns (c : Thread nD τ) (ms0_5 t0_0) fullShare ((dats m 0 c).after 5 t0_0) from by
    unfold Dat.leavesExact; rw [liveAt0_5 t0_0], after0_5]
  rw [show (dats m 0 c).leavesExact 6 t0_0 = owns (c : Thread nD τ) (ms0_6 t0_0) fullShare ((dats m 0 c).after 6 t0_0) from by
    unfold Dat.leavesExact; rw [liveAt0_6 t0_0], after0_6]
  rw [show (dats m 0 c).leavesExact 7 t0_0 = owns (c : Thread nD τ) (ms0_7 t0_0) fullShare ((dats m 0 c).after 7 t0_0) from by
    unfold Dat.leavesExact; rw [liveAt0_7 t0_0], after0_7]
  rw [show (dats m 0 c).leavesExact 8 t0_0 = owns (c : Thread nD τ) (ms0_8 t0_0) fullShare ((dats m 0 c).after 8 t0_0) from by
    unfold Dat.leavesExact; rw [liveAt0_8 t0_0], after0_8]
  rw [(dats m 0 c).leavesExact_idle 9 t0_0 (idle9 t0_0 h7) (noflush9 t0_0 h7)]
  rw [(dats m 0 c).leavesExact_idle 10 t0_0 (idle10 t0_0 h7) (noflush10 t0_0 h7)]
  rw [PhiS_castSucc m c t0_0, PhiS_zero m c _ _ hz, PhiA0_eq]
  iintro ⟨⟨⟨⟨%X, HS0⟩, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
  have hX : Agree m c t0_0.val X := fun y hy => absurd hy (by rw [hz]; exact Nat.not_lt_zero _)
  iapply ((runA c (grid0.coords t0_0) _ _ _ _ _ _ _ _ _ _ _ _ _ _ _ _ _ _ _ _ _ _ _ _ _ _ _ _ _ _ _ _ ((hcond0 t0_0).mpr hz) (fun h => h7 ((hcond1 t0_0).mp h)) (iblk m c 0 t0_0) (iblk m c 1 t0_0) (iblk m c 2 t0_0) (iblk m c 3 t0_0) (iblk m c 4 t0_0) (iblk m c 5 t0_0) (iblk m c 6 t0_0) (iblk m c 7 t0_0) X).2.2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _
    iexact H8
  isplitl [HS0]
  · iexact HS0
  isplitl [HS1]
  · iexact HS1
  isplitl [HS2]
  · iexact HS2
  isplitl [HS3]
  · iexact HS3
  isplitl [HS4]
  · iexact HS4
  iintro ⟨H0, H1, H2, H3, H4, H5, H6, H7, ⟨%e9, H8⟩, HS0, ⟨%e13, HS1⟩, ⟨%e14, HS2⟩, ⟨%e15, HS3⟩, ⟨%e16, HS4⟩⟩
  isplitl [HS0 HS1 HS2 HS3 HS4 Hg]
  · isplitl [HS0 HS1 HS2 HS3 HS4]
    · isplitl [HS0]
      · iexists _
        isplitr
        · ipureintro
          exact agree_upd m c t0_0 X hX
        unfold owns
        iexists _
        isplitr
        swap
        · iexact HS0
        ipureintro
        exact runA_12 c (grid0.coords t0_0) _ _ _ _ _ _ _ _ _ _ _ _ _ _ _ _ _ _ _ _ _ _ _ _ _ _ _ _ _ _ _ _ _ _ _ _ _ _ _ _ _ _ _
      isplitl [HS1]
      · unfold owns
        iexists _
        isplitr
        swap
        · iexact HS1
        ipureintro
        exact (runA_13 c (grid0.coords t0_0) _ _ _ _ _ _ _ _ _ _ _ _ _ _ _ _ _ _ _ _ _ _ _ _ _ _ _ _ _ _ _ _ _ _ _ _ _ _ _ _ _ _ _ _).trans (MX_succ m c t0_0).symm
      isplitl [HS2]
      · unfold owns
        iexists _
        isplitr
        swap
        · iexact HS2
        ipureintro
        exact runA_14 c (grid0.coords t0_0) _ _ _ _ _ _ _ _ _ _ _ _ _ _ _ _ _ _ _ _ _ _ _ _ _ _ _ _ _ _ _ _ _ _ _ _ _ _ _ _ _ _ _ _
      isplitl [HS3]
      · unfold owns
        iexists _
        isplitr
        swap
        · iexact HS3
        ipureintro
        exact runA_15 c (grid0.coords t0_0) _ _ _ _ _ _ _ _ _ _ _ _ _ _ _ _ _ _ _ _ _ _ _ _ _ _ _ _ _ _ _ _ _ _ _ _ _ _ _ _ _ _ _ _
      unfold owns
      iexists _
      isplitr
      swap
      · iexact HS4
      ipureintro
      exact runA_16 c (grid0.coords t0_0) _ _ _ _ _ _ _ _ _ _ _ _ _ _ _ _ _ _ _ _ _ _ _ _ _ _ _ _ _ _ _ _ _ _ _ _ _ _ _ _ _ _ _ _
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns
    iexists _
    isplitr
    swap
    · iexact H8
    ipureintro
    exact runA_9 c (grid0.coords t0_0) _ _ _ _ _ _ _ _ _ _ _ _ _ _ _ _ _ _ _ _ _ _ _ _ _ _ _ _ _ _ _ _ _ _ _ _ _ _ _ _ _ _ _ _
  isplitl [H9]
  · iexact H9
  iexact H10

end Cert.MlpIdeal.Hand

end
-- ==== Proof.Mlp.RunB.lean ====
module

public import proofs.«01_k».proof.Proof.Mlp.Conds

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F] [Named F]

local notation "𝕄" => MT nD τ sig Unit (Elt F) ℕ (UR sig nD τ) ℕ

set_option maxHeartbeats 6400000 in
/-- The body at a point that is neither the first nor the last. The pieces each buffer ends with are the witness the run finds. -/
noncomputable def runB (c : Dev nD) (i : grid0.Coords)
    (arg1 : Memref sig .tc .vmem S1024x2048 .fp8e5m2) (harg1 : arg1.IsWhole) (arg2 : Memref sig .tc .vmem S512x2048 .fp8e4m3) (harg2 : arg2.IsWhole) (arg3 : Memref sig .tc .vmem S1024x512 .fp8e4m3) (harg3 : arg3.IsWhole) (arg4 : Memref sig .tc .vmem S1024x512 .fp8e4m3) (harg4 : arg4.IsWhole)
    (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole)
    (arg9 : Memref sig .tc .vmem S512x2048 .bf16) (harg9 : arg9.IsWhole) (arg10 : Memref sig .tc .vmem S1024x5632 .fp8e5m2) (harg10 : arg10.IsWhole) (arg11 : Memref sig .tc .vmem S1x1024 .f32) (harg11 : arg11.IsWhole) (arg12 : Memref sig .tc .vmem S1024x5632 .f32) (harg12 : arg12.IsWhole)
    (arg13 : Memref sig .tc .vmem S1024x128 .f32) (harg13 : arg13.IsWhole) (arg14 : Memref sig .tc .vmem S1024x2048 .bf16) (harg14 : arg14.IsWhole) (arg15 : Memref sig .tc .vmem S1024x128 .f32) (harg15 : arg15.IsWhole) (arg16 : Memref sig .tc .vmem S1024x128 .f32) (harg16 : arg16.IsWhole) (hc0 : ¬cond0 i) (hc1 : ¬cond1 i)
    (x0 : Vec F S1024x2048 .fp8e5m2) (x1 : Vec F S512x2048 .fp8e4m3) (x2 : Vec F S1024x512 .fp8e4m3) (x3 : Vec F S1024x512 .fp8e4m3) (x4 : Vec F S1x2048 .f32) (x5 : Vec F S1x1024 .f32) (x6 : Vec F S1x1024 .f32) (x7 : Vec F S1x1024 .f32) (xs0 : Vec F S1024x5632 .f32) (xs1 : Vec F S1024x128 .f32) (xs2 : Vec F S1024x2048 .bf16) (xs3 : Vec F S1024x128 .f32) (xs4 : Vec F S1024x128 .f32) :
    Σ' (L9 : List (View.Piece (Elt F) S512x2048 .bf16)), Σ' (L12 : List (View.Piece (Elt F) S1024x5632 .f32)), { L13 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (arg12.view.loc (c : Thread nD τ) ↦[arg12.view.set]{fullShare} arg12.view.writes (Elt F) (harg12.unread xs0) L12) ∗ (∃ f, arg13.view.loc (c : Thread nD τ) ↦[arg13.view.set]{fullShare} arg13.view.writes (Elt F) f L13) ∗ owns (c : Thread nD τ) arg14 fullShare xs2 ∗ owns (c : Thread nD τ) arg15 fullShare xs3 ∗ owns (c : Thread nD τ) arg16 fullShare xs4) -∗ K ⟨⟩))
          ⊢ wp frame (wpE (defs₀ (F := F)) Variants.none c none) E (cc0_mlp_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_mlp_out_eq_skeleton]; unfold cc0_mlp_out_skel
    simp only [k0_part14_eq_skeleton, k0_part15_eq_skeleton, k0_part16_eq_skeleton, k0_part17_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H12]
    · iexact H12
    isplitl [H13]
    · iexists _; iexact H13
    isplitl [H14]
    · iexists _; isplitr; · ipureintro; exact harg14.read_unread _
      iexact H14
    isplitl [H15]
    · iexists _; isplitr; · ipureintro; exact harg15.read_unread _
      iexact H15
    iexists _; isplitr; · ipureintro; exact harg16.read_unread _
    iexact H16

end Cert.MlpIdeal.Hand

end
-- ==== Proof.Mlp.ReadsB.lean ====
module

public import proofs.«01_k».proof.Proof.Mlp.RunB

public import proofs.«01_k».proof.Proof.Mlp.Point

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F] [Named F]

local notation "𝕄" => MT nD τ sig Unit (Elt F) ℕ (UR sig nD τ) ℕ

variable (c : Dev nD) (i : grid0.Coords)
    (arg1 : Memref sig .tc .vmem S1024x2048 .fp8e5m2) (harg1 : arg1.IsWhole) (arg2 : Memref sig .tc .vmem S512x2048 .fp8e4m3) (harg2 : arg2.IsWhole) (arg3 : Memref sig .tc .vmem S1024x512 .fp8e4m3) (harg3 : arg3.IsWhole) (arg4 : Memref sig .tc .vmem S1024x512 .fp8e4m3) (harg4 : arg4.IsWhole)
    (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole)
    (arg9 : Memref sig .tc .vmem S512x2048 .bf16) (harg9 : arg9.IsWhole) (arg10 : Memref sig .tc .vmem S1024x5632 .fp8e5m2) (harg10 : arg10.IsWhole) (arg11 : Memref sig .tc .vmem S1x1024 .f32) (harg11 : arg11.IsWhole) (arg12 : Memref sig .tc .vmem S1024x5632 .f32) (harg12 : arg12.IsWhole)
    (arg13 : Memref sig .tc .vmem S1024x128 .f32) (harg13 : arg13.IsWhole) (arg14 : Memref sig .tc .vmem S1024x2048 .bf16) (harg14 : arg14.IsWhole) (arg15 : Memref sig .tc .vmem S1024x128 .f32) (harg15 : arg15.IsWhole) (arg16 : Memref sig .tc .vmem S1024x128 .f32) (harg16 : arg16.IsWhole)
    (hc0 : ¬cond0 i) (hc1 : ¬cond1 i)
    (x0 : Vec F S1024x2048 .fp8e5m2) (x1 : Vec F S512x2048 .fp8e4m3) (x2 : Vec F S1024x512 .fp8e4m3) (x3 : Vec F S1024x512 .fp8e4m3) (x4 : Vec F S1x2048 .f32) (x5 : Vec F S1x1024 .f32) (x6 : Vec F S1x1024 .f32) (x7 : Vec F S1x1024 .f32) (xs0 : Vec F S1024x5632 .f32) (xs1 : Vec F S1024x128 .f32) (xs2 : Vec F S1024x2048 .bf16) (xs3 : Vec F S1024x128 .f32) (xs4 : Vec F S1024x128 .f32)

/-- What the middle point leaves in dw_out. -/
theorem runB_9 : ∀ f, arg9.view.read (Elt F) (arg9.view.writes (Elt F) f
      (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).1)
    = dwOut x0 x3 x5 x7 := by
  intro f
  unfold runB; dsimp only; sl_unfold_words; simp (disch := decide) only [View.readAt_eq_ld, Memref.IsWhole.read_unread, View.ld_unit_lit, View.canon_cons_unit_lit, View.readCov_unit_lit, View.readCov_cons_unit_lit', read_whole] <;> rfl

/-- What the middle point leaves in the scratch of da. -/
theorem runB_12 : arg12.view.read (Elt F) (arg12.view.writes (Elt F) (harg12.unread xs0)
      (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).2.1)
    = upd (512 * (i 0).val) xs0 (daPiece x1 x2 x4 xs2 xs3 xs4) := by
  unfold runB; dsimp only; sl_unfold_words; simp (disch := decide) only [View.readAt_eq_ld, Memref.IsWhole.read_unread, View.ld_unit_lit, View.canon_cons_unit_lit, View.readCov_unit_lit, View.readCov_cons_unit_lit', read_whole]
  exact (read_four arg12.view (harg12.unread xs0) (512 * (i 0).val) _ _ _ _ (off i 0) (off i 1) (off i 2) (off i 3) _ _ _ _ (daPiece x1 x2 x4 xs2 xs3 xs4)).trans (by rw [harg12.read_unread])

/-- What the middle point leaves in the running maximum. -/
theorem runB_13 : ∀ f, arg13.view.read (Elt F) (arg13.view.writes (Elt F) f
      (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).2.2.1)
    = (amStep x1 x2 x4 xs1 xs2 xs3 xs4) := by
  intro f
  unfold runB; dsimp only; sl_unfold_words; simp (disch := decide) only [View.readAt_eq_ld, Memref.IsWhole.read_unread, View.ld_unit_lit, View.canon_cons_unit_lit, View.readCov_unit_lit, View.readCov_cons_unit_lit', read_whole] <;> rfl

end Cert.MlpIdeal.Hand

end
-- ==== Proof.Mlp.BodyB.lean ====
module

public import proofs.«01_k».proof.Proof.Mlp.ReadsB

public import proofs.«01_k».proof.Proof.Mlp.Data
public import Idealize.ShloMosaic.Lib.Claim

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 28800000 in
/-- The body at a middle point: it takes the blocks and the scratch as the invariant states them and leaves what the data says. -/
theorem sound_B (c : Dev nD) (t : Fin cfg0.N) (hz : ¬t.val = 0) (h7 : ¬t.val = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () (t).succ = (dats m 0 c).owesAt () (t).castSucc from rfl]
  rw [show (dats m 0 c).Φ (t).succ = PhiS m c ((t).val + 1) (t).isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [(dats m 0 c).leavesExact_idle 9 t (idle9 t h7) (noflush9 t h7)]
  rw [(dats m 0 c).leavesExact_idle 10 t (idle10 t h7) (noflush10 t h7)]
  rw [PhiS_castSucc m c t, PhiS_pos m c _ _ hz]
  iintro ⟨⟨⟨⟨%X, %hX, HS0⟩, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
  iapply ((runB c (grid0.coords t) _ _ _ _ _ _ _ _ _ _ _ _ _ _ _ _ _ _ _ _ _ _ _ _ _ _ _ _ _ _ _ _ (fun h => hz ((hcond0 t).mp h)) (fun h => h7 ((hcond1 t).mp h)) (iblk m c 0 t) (iblk m c 1 t) (iblk m c 2 t) (iblk m c 3 t) (iblk m c 4 t) (iblk m c 5 t) (iblk m c 6 t) (iblk m c 7 t) X (MX m c t.val) (cY m c) (cH m c) (cV m c)).2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _
    iexact H8
  isplitl [HS0]
  · iexact HS0
  isplitl [HS1]
  · iexact HS1
  isplitl [HS2]
  · iexact HS2
  isplitl [HS3]
  · iexact HS3
  isplitl [HS4]
  · iexact HS4
  iintro ⟨H0, H1, H2, H3, H4, H5, H6, H7, ⟨%e9, H8⟩, HS0, ⟨%e13, HS1⟩, HS2, HS3, HS4⟩
  isplitl [HS0 HS1 HS2 HS3 HS4 Hg]
  · isplitl [HS0 HS1 HS2 HS3 HS4]
    · isplitl [HS0]
      · iexists _
        isplitr
        · ipureintro
          exact agree_upd m c t X hX
        unfold owns
        iexists _
        isplitr
        swap
        · iexact HS0
        ipureintro
        exact runB_12 c (grid0.coords t) _ _ _ _ _ _ _ _ _ _ _ _ _ _ _ _ _ _ _ _ _ _ _ _ _ _ _ _ _ _ _ _ _ _ _ _ _ _ _ _ _ _ _ _ _ _ _
      isplitl [HS1]
      · unfold owns
        iexists _
        isplitr
        swap
        · iexact HS1
        ipureintro
        exact (runB_13 c (grid0.coords t) _ _ _ _ _ _ _ _ _ _ _ _ _ _ _ _ _ _ _ _ _ _ _ _ _ _ _ _ _ _ _ _ _ _ _ _ _ _ _ _ _ _ _ _ _ _ _ _).trans (MX_succ m c t).symm
      isplitl [HS2]
      · iexact HS2
      isplitl [HS3]
      · iexact HS3
      iexact HS4
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns
    iexists _
    isplitr
    swap
    · iexact H8
    ipureintro
    exact runB_9 c (grid0.coords t) _ _ _ _ _ _ _ _ _ _ _ _ _ _ _ _ _ _ _ _ _ _ _ _ _ _ _ _ _ _ _ _ _ _ _ _ _ _ _ _ _ _ _ _ _ _ _ _
  isplitl [H9]
  · iexact H9
  iexact H10

end Cert.MlpIdeal.Hand

end
-- ==== Proof.Mlp.RunC.lean ====
module

public import proofs.«01_k».proof.Proof.Mlp.Conds

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F] [Named F]

local notation "𝕄" => MT nD τ sig Unit (Elt F) ℕ (UR sig nD τ) ℕ

set_option maxHeartbeats 6400000 in
/-- The body at the last point, which also writes the codes and their scales. The pieces each buffer ends with are the witness the run finds. -/
noncomputable def runC (c : Dev nD) (i : grid0.Coords)
    (arg1 : Memref sig .tc .vmem S1024x2048 .fp8e5m2) (harg1 : arg1.IsWhole) (arg2 : Memref sig .tc .vmem S512x2048 .fp8e4m3) (harg2 : arg2.IsWhole) (arg3 : Memref sig .tc .vmem S1024x512 .fp8e4m3) (harg3 : arg3.IsWhole) (arg4 : Memref sig .tc .vmem S1024x512 .fp8e4m3) (harg4 : arg4.IsWhole)
    (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole)
    (arg9 : Memref sig .tc .vmem S512x2048 .bf16) (harg9 : arg9.IsWhole) (arg10 : Memref sig .tc .vmem S1024x5632 .fp8e5m2) (harg10 : arg10.IsWhole) (arg11 : Memref sig .tc .vmem S1x1024 .f32) (harg11 : arg11.IsWhole) (arg12 : Memref sig .tc .vmem S1024x5632 .f32) (harg12 : arg12.IsWhole)
    (arg13 : Memref sig .tc .vmem S1024x128 .f32) (harg13 : arg13.IsWhole) (arg14 : Memref sig .tc .vmem S1024x2048 .bf16) (harg14 : arg14.IsWhole) (arg15 : Memref sig .tc .vmem S1024x128 .f32) (harg15 : arg15.IsWhole) (arg16 : Memref sig .tc .vmem S1024x128 .f32) (harg16 : arg16.IsWhole) (hc0 : ¬cond0 i) (hc1 : cond1 i)
    (x0 : Vec F S1024x2048 .fp8e5m2) (x1 : Vec F S512x2048 .fp8e4m3) (x2 : Vec F S1024x512 .fp8e4m3) (x3 : Vec F S1024x512 .fp8e4m3) (x4 : Vec F S1x2048 .f32) (x5 : Vec F S1x1024 .f32) (x6 : Vec F S1x1024 .f32) (x7 : Vec F S1x1024 .f32) (xs0 : Vec F S1024x5632 .f32) (xs1 : Vec F S1024x128 .f32) (xs2 : Vec F S1024x2048 .bf16) (xs3 : Vec F S1024x128 .f32) (xs4 : Vec F S1024x128 .f32) :
    Σ' (L9 : List (View.Piece (Elt F) S512x2048 .bf16)), Σ' (L10 : List (View.Piece (Elt F) S1024x5632 .fp8e5m2)), Σ' (L11 : List (View.Piece (Elt F) S1x1024 .f32)), Σ' (L12 : List (View.Piece (Elt F) S1024x5632 .f32)), { L13 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread xs0) L12) ∗ (∃ f, arg13.view.loc (c : Thread nD τ) ↦[arg13.view.set]{fullShare} arg13.view.writes (Elt F) f L13) ∗ owns (c : Thread nD τ) arg14 fullShare xs2 ∗ owns (c : Thread nD τ) arg15 fullShare xs3 ∗ owns (c : Thread nD τ) arg16 fullShare xs4) -∗ K ⟨⟩))
          ⊢ wp frame (wpE (defs₀ (F := F)) Variants.none c none) E (cc0_mlp_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_mlp_out_eq_skeleton]; unfold cc0_mlp_out_skel
    simp only [k0_part14_eq_skeleton, k0_part15_eq_skeleton, k0_part16_eq_skeleton, k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexists _; iexact H11
    isplitl [H12]
    · iexact H12
    isplitl [H13]
    · iexists _; iexact H13
    isplitl [H14]
    · iexists _; isplitr; · ipureintro; exact harg14.read_unread _
      iexact H14
    isplitl [H15]
    · iexists _; isplitr; · ipureintro; exact harg15.read_unread _
      iexact H15
    iexists _; isplitr; · ipureintro; exact harg16.read_unread _
    iexact H16

end Cert.MlpIdeal.Hand

end
-- ==== Proof.Mlp.ReadsC.lean ====
module

public import proofs.«01_k».proof.Proof.Mlp.RunC

public import proofs.«01_k».proof.Proof.Mlp.Point

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F] [Named F]

local notation "𝕄" => MT nD τ sig Unit (Elt F) ℕ (UR sig nD τ) ℕ

variable (c : Dev nD) (i : grid0.Coords)
    (arg1 : Memref sig .tc .vmem S1024x2048 .fp8e5m2) (harg1 : arg1.IsWhole) (arg2 : Memref sig .tc .vmem S512x2048 .fp8e4m3) (harg2 : arg2.IsWhole) (arg3 : Memref sig .tc .vmem S1024x512 .fp8e4m3) (harg3 : arg3.IsWhole) (arg4 : Memref sig .tc .vmem S1024x512 .fp8e4m3) (harg4 : arg4.IsWhole)
    (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole)
    (arg9 : Memref sig .tc .vmem S512x2048 .bf16) (harg9 : arg9.IsWhole) (arg10 : Memref sig .tc .vmem S1024x5632 .fp8e5m2) (harg10 : arg10.IsWhole) (arg11 : Memref sig .tc .vmem S1x1024 .f32) (harg11 : arg11.IsWhole) (arg12 : Memref sig .tc .vmem S1024x5632 .f32) (harg12 : arg12.IsWhole)
    (arg13 : Memref sig .tc .vmem S1024x128 .f32) (harg13 : arg13.IsWhole) (arg14 : Memref sig .tc .vmem S1024x2048 .bf16) (harg14 : arg14.IsWhole) (arg15 : Memref sig .tc .vmem S1024x128 .f32) (harg15 : arg15.IsWhole) (arg16 : Memref sig .tc .vmem S1024x128 .f32) (harg16 : arg16.IsWhole)
    (hc0 : ¬cond0 i) (hc1 : cond1 i)
    (x0 : Vec F S1024x2048 .fp8e5m2) (x1 : Vec F S512x2048 .fp8e4m3) (x2 : Vec F S1024x512 .fp8e4m3) (x3 : Vec F S1024x512 .fp8e4m3) (x4 : Vec F S1x2048 .f32) (x5 : Vec F S1x1024 .f32) (x6 : Vec F S1x1024 .f32) (x7 : Vec F S1x1024 .f32) (xs0 : Vec F S1024x5632 .f32) (xs1 : Vec F S1024x128 .f32) (xs2 : Vec F S1024x2048 .bf16) (xs3 : Vec F S1024x128 .f32) (xs4 : Vec F S1024x128 .f32)

/-- What the last point leaves in dw_out. -/
theorem runC_9 : ∀ f, arg9.view.read (Elt F) (arg9.view.writes (Elt F) f
      (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).1)
    = dwOut x0 x3 x5 x7 := by
  intro f
  unfold runC; dsimp only; sl_unfold_words; simp (disch := decide) only [View.readAt_eq_ld, Memref.IsWhole.read_unread, View.ld_unit_lit, View.canon_cons_unit_lit, View.readCov_unit_lit, View.readCov_cons_unit_lit', read_whole] <;> rfl

set_option maxHeartbeats 3200000 in
/-- What the last point leaves in the codes. -/
theorem runC_10 : ∀ f, arg10.view.read (Elt F) (arg10.view.writes (Elt F) f
      (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).2.1)
    = codesOf (amStep x1 x2 x4 xs1 xs2 xs3 xs4) (upd (512 * (i 0).val) xs0 (daPiece x1 x2 x4 xs2 xs3 xs4)) := by
  intro f
  unfold runC; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1024, 128] (by rfl))]
  exact congrArg (codesOf (amStep x1 x2 x4 xs1 xs2 xs3 xs4)) ((read_four arg12.view (harg12.unread xs0) (512 * (i 0).val) _ _ _ _ (off i 0) (off i 1) (off i 2) (off i 3) _ _ _ _ (daPiece x1 x2 x4 xs2 xs3 xs4)).trans (by rw [harg12.read_unread]))

/-- What the last point leaves in the scales. -/
theorem runC_11 : ∀ f, arg11.view.read (Elt F) (arg11.view.writes (Elt F) f
      (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).2.2.1)
    = scaleRow (amStep x1 x2 x4 xs1 xs2 xs3 xs4) := by
  intro f
  unfold runC; dsimp only; sl_unfold_words; simp (disch := decide) only [View.readAt_eq_ld, Memref.IsWhole.read_unread, View.ld_unit_lit, View.canon_cons_unit_lit, View.readCov_unit_lit, View.readCov_cons_unit_lit', read_whole] <;> rfl

/-- What the last point leaves in the scratch of da. -/
theorem runC_12 : arg12.view.read (Elt F) (arg12.view.writes (Elt F) (harg12.unread xs0)
      (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).2.2.2.1)
    = upd (512 * (i 0).val) xs0 (daPiece x1 x2 x4 xs2 xs3 xs4) := by
  unfold runC; dsimp only; sl_unfold_words; simp (disch := decide) only [View.readAt_eq_ld, Memref.IsWhole.read_unread, View.ld_unit_lit, View.canon_cons_unit_lit, View.readCov_unit_lit, View.readCov_cons_unit_lit', read_whole]
  exact (read_four arg12.view (harg12.unread xs0) (512 * (i 0).val) _ _ _ _ (off i 0) (off i 1) (off i 2) (off i 3) _ _ _ _ (daPiece x1 x2 x4 xs2 xs3 xs4)).trans (by rw [harg12.read_unread])

/-- What the last point leaves in the running maximum. -/
theorem runC_13 : ∀ f, arg13.view.read (Elt F) (arg13.view.writes (Elt F) f
      (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4).2.2.2.2.1)
    = (amStep x1 x2 x4 xs1 xs2 xs3 xs4) := by
  intro f
  unfold runC; dsimp only; sl_unfold_words; simp (disch := decide) only [View.readAt_eq_ld, Memref.IsWhole.read_unread, View.ld_unit_lit, View.canon_cons_unit_lit, View.readCov_unit_lit, View.readCov_cons_unit_lit', read_whole] <;> rfl

end Cert.MlpIdeal.Hand

end
-- ==== Proof.Mlp.BodyC.lean ====
module

public import proofs.«01_k».proof.Proof.Mlp.ReadsC

public import proofs.«01_k».proof.Proof.Mlp.Data
public import Idealize.ShloMosaic.Lib.Claim

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- At the last point the scratch and the maximum are those of the whole `da`. -/
theorem last_eq (c : Dev nD) (t : Fin cfg0.N) (h7 : t.val = 10) (X : Vec F S1024x5632 .f32) (hX : Agree m c t.val X) :
    upd (512 * (grid0.coords t 0).val) X (dP m c t) = DA m c := by
  have e1 := agree_upd m c t X hX
  rw [h7] at e1
  exact agree_all m c _ e1
theorem last_MX (c : Dev nD) (t : Fin cfg0.N) (h7 : t.val = 10) : amStep (iblk m c 1 t) (iblk m c 2 t) (iblk m c 4 t) (MX m c t.val) (cY m c) (cH m c) (cV m c) = MX m c 11 := by
  rw [← MX_succ, h7]

set_option maxHeartbeats 28800000 in
/-- The body at the last point: it takes the blocks and the scratch as the invariant states them and leaves what the data says. -/
theorem sound_C (c : Dev nD) (t : Fin cfg0.N) (h7 : t.val = 10) :
    bodyPre m c t ⊢ wp frame (wpE (defs₀ (F := F)) Variants.none c none) Set.univ (bodyAt0 t) (fun _ => bodyPost m c t) := by
  have hz : ¬t.val = 0 := by omega
  unfold bodyPre bodyPost bodyAt0
  simp only [before0_0, before0_1, before0_2, before0_3, before0_4, before0_5, before0_6, before0_7]
  rw [show (dats m 0 c).owesAt () (t).succ = (dats m 0 c).owesAt () (t).castSucc from rfl]
  rw [show (dats m 0 c).Φ (t).succ = PhiS m c ((t).val + 1) (t).isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [live9 t h7], after0_9]
  rw [show (dats m 0 c).leavesExact 10 t = owns (c : Thread nD τ) (ms0_10 t) fullShare ((dats m 0 c).after 10 t) from by
    unfold Dat.leavesExact; rw [live10 t h7], after0_10]
  rw [PhiS_castSucc m c t, PhiS_pos m c _ _ hz]
  iintro ⟨⟨⟨⟨%X, %hX, HS0⟩, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runC c (grid0.coords t) _ _ _ _ _ _ _ _ _ _ _ _ _ _ _ _ _ _ _ _ _ _ _ _ _ _ _ _ _ _ _ _ (fun h => hz ((hcond0 t).mp h)) ((hcond1 t).mpr h7) (iblk m c 0 t) (iblk m c 1 t) (iblk m c 2 t) (iblk m c 3 t) (iblk m c 4 t) (iblk m c 5 t) (iblk m c 6 t) (iblk m c 7 t) X (MX m c t.val) (cY m c) (cH m c) (cV m c)).2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _
    iexact H8
  isplitl [H9]
  · iexists _
    iexact H9
  isplitl [H10]
  · iexists _
    iexact H10
  isplitl [HS0]
  · iexact HS0
  isplitl [HS1]
  · iexact HS1
  isplitl [HS2]
  · iexact HS2
  isplitl [HS3]
  · iexact HS3
  isplitl [HS4]
  · iexact HS4
  iintro ⟨H0, H1, H2, H3, H4, H5, H6, H7, ⟨%e9, H8⟩, ⟨%e10, H9⟩, ⟨%e11, H10⟩, HS0, ⟨%e13, HS1⟩, HS2, HS3, HS4⟩
  isplitl [HS0 HS1 HS2 HS3 HS4 Hg]
  · isplitl [HS0 HS1 HS2 HS3 HS4]
    · isplitl [HS0]
      · iexists _
        isplitr
        · ipureintro
          exact agree_upd m c t X hX
        unfold owns
        iexists _
        isplitr
        swap
        · iexact HS0
        ipureintro
        exact runC_12 c (grid0.coords t) _ _ _ _ _ _ _ _ _ _ _ _ _ _ _ _ _ _ _ _ _ _ _ _ _ _ _ _ _ _ _ _ _ _ _ _ _ _ _ _ _ _ _ _ _ _ _
      isplitl [HS1]
      · unfold owns
        iexists _
        isplitr
        swap
        · iexact HS1
        ipureintro
        exact (runC_13 c (grid0.coords t) _ _ _ _ _ _ _ _ _ _ _ _ _ _ _ _ _ _ _ _ _ _ _ _ _ _ _ _ _ _ _ _ _ _ _ _ _ _ _ _ _ _ _ _ _ _ _ _).trans (MX_succ m c t).symm
      isplitl [HS2]
      · iexact HS2
      isplitl [HS3]
      · iexact HS3
      iexact HS4
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns
    iexists _
    isplitr
    swap
    · iexact H8
    ipureintro
    exact runC_9 c (grid0.coords t) _ _ _ _ _ _ _ _ _ _ _ _ _ _ _ _ _ _ _ _ _ _ _ _ _ _ _ _ _ _ _ _ _ _ _ _ _ _ _ _ _ _ _ _ _ _ _ _
  isplitl [H9]
  · unfold owns
    iexists _
    isplitr
    swap
    · iexact H9
    ipureintro
    exact (runC_10 c (grid0.coords t) _ _ _ _ _ _ _ _ _ _ _ _ _ _ _ _ _ _ _ _ _ _ _ _ _ _ _ _ _ _ _ _ _ _ _ _ _ _ _ _ _ _ _ _ _ _ _ _).trans (congr (congrArg codesOf (last_MX m c t h7)) (last_eq m c t h7 X hX))
  unfold owns
  iexists _
  isplitr
  swap
  · iexact H10
  ipureintro
  exact (runC_11 c (grid0.coords t) _ _ _ _ _ _ _ _ _ _ _ _ _ _ _ _ _ _ _ _ _ _ _ _ _ _ _ _ _ _ _ _ _ _ _ _ _ _ _ _ _ _ _ _ _ _ _ _).trans (congrArg scaleRow (last_MX m c t h7))

end Cert.MlpIdeal.Hand

end
-- ==== Proof.Mlp.Run.lean ====
module

public import proofs.«01_k».proof.Proof.Mlp.BodyA

public import proofs.«01_k».proof.Proof.Mlp.BodyB
public import proofs.«01_k».proof.Proof.Mlp.BodyC

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_A m c t hz
  by_cases h7 : t.val = 10
  · exact sound_C m c t h7
  exact sound_B m c t hz h7

theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 11 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨⟨%X, -, HS0⟩, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in
/-- The launch: every execution ends, each window's array at what the data names, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.MlpIdeal.Hand

end
-- ==== Proof.Mlp.Gelu.lean ====
module
public import Idealize.ShloMosaic.PureOps.Ideal
@[expose] public section
noncomputable section
namespace Cert.MlpIdeal.Value
open Idealize.ShloMosaic

/-- The constant `√(2/π)` of the tanh gelu, as the decimal the programs name. -/
def cC : ℝ := 3989422804014327 / 5000000000000000
/-- The cubic coefficient `0.044715` of the tanh gelu. -/
def cA : ℝ := 8943 / 200000
/-- `cA / cC²`, the cubic coefficient after `cC` has been taken into the argument. -/
def cK : ℝ := 372625000000000000000000000000 / 5305164769729845112342007087643
/-- `3 cA`. -/
def cT : ℝ := 26829 / 200000

theorem cC_pos : 0 < cC := by norm_num [cC]
theorem cA_pos : 0 < cA := by norm_num [cA]
theorem cK_pos : 0 < cK := by norm_num [cK]
theorem cT_pos : 0 < cT := by norm_num [cT]
theorem cK_eq : cC * cC * cK = cA := by norm_num [cC, cA, cK]
theorem cT_eq : cT = 3 * cA := by norm_num [cT, cA]

/-- The kernel's derivative of gelu, twice, at the scaled argument `v`. -/
def facK (v : EReal) : EReal :=
  (1 + Ideal.tanh (v + v * v * v * (cK : EReal)))
    * (1 + (v + v * v * v * (cK : EReal) + (v * v * v * (cK : EReal) + v * v * v * (cK : EReal))) * (1 - Ideal.tanh (v + v * v * v * (cK : EReal))))
/-- The reference's tanh at the argument `u`. -/
def tanR (u : EReal) : EReal := Ideal.tanh ((cC : EReal) * (u + (cA : EReal) * u * u * u))
/-- The reference's derivative of gelu at the argument `u`. -/
def facR (u : EReal) : EReal :=
  ((1 / 2 : ℝ) : EReal) * (1 + tanR u) + ((1 / 2 : ℝ) : EReal) * u * (1 - tanR u * tanR u) * (cC : EReal) * (1 + (cT : EReal) * u * u)

/-- The two derivatives are one function, at the infinities too. -/
theorem fac_eq (u : EReal) : facK (u * (cC : EReal)) = ((2 : ℝ) : EReal) * facR u := by
  induction u using EReal.rec with
  | bot =>
    have hC := EReal.bot_mul_coe_of_pos cC_pos
    have hC' := EReal.coe_mul_bot_of_pos cC_pos
    have hA := EReal.coe_mul_bot_of_pos cA_pos
    have hK := EReal.bot_mul_coe_of_pos cK_pos
    have e : (1 : EReal) + -1 = 0 := by rw [← EReal.coe_one, ← EReal.coe_neg, ← EReal.coe_add]; norm_num
    have e2 : (1 : EReal) - -1 * -1 = 0 := by rw [← EReal.coe_one, ← EReal.coe_neg, ← EReal.coe_mul, ← EReal.coe_sub]; norm_num
    have hA' : (⊤ : EReal) * (cA : EReal) = ⊤ := EReal.top_mul_coe_of_pos cA_pos
    simp only [facK, facR, tanR, hC, hC', hA, hK, EReal.bot_mul_bot, EReal.top_mul_bot, EReal.bot_add, EReal.add_bot, Ideal.tanh_bot, e, e2, mul_zero, zero_mul, add_zero]
  | top =>
    have hC := EReal.top_mul_coe_of_pos cC_pos
    have hC' := EReal.coe_mul_top_of_pos cC_pos
    have hA := EReal.coe_mul_top_of_pos cA_pos
    have hK := EReal.top_mul_coe_of_pos cK_pos
    have e : (1 : EReal) - 1 = 0 := by rw [← EReal.coe_one, ← EReal.coe_sub]; norm_num
    have e1 : (1 : EReal) + 1 = ((2 : ℝ) : EReal) := by rw [← EReal.coe_one, ← EReal.coe_add]; norm_num
    have e2 : (((1 / 2 : ℝ) : EReal)) * ((2 : ℝ) : EReal) = 1 := by rw [← EReal.coe_mul, ← EReal.coe_one]; norm_num
    simp only [facK, facR, tanR, hC, hC', hA, hK, EReal.top_mul_top, EReal.top_add_top, Ideal.tanh_top, e, e1, e2, mul_zero, zero_mul, add_zero, mul_one]
  | coe r =>
    have ht : (cC : ℝ) * (r + cA * r * r * r) = r * cC + r * cC * (r * cC) * (r * cC) * cK := by rw [← cK_eq]; ring
    have hu : tanR (r : EReal) = ((Real.tanh (r * cC + r * cC * (r * cC) * (r * cC) * cK) : ℝ) : EReal) := by
      simp only [tanR, ← EReal.coe_mul, ← EReal.coe_add, ht, Ideal.tanh_coe]
    rw [facR, hu]
    simp only [facK, ← EReal.coe_mul, ← EReal.coe_add, Ideal.tanh_coe, ← EReal.coe_one, ← EReal.coe_sub]
    congr 1
    generalize Real.tanh (r * cC + r * cC * (r * cC) * (r * cC) * cK) = t
    rw [cT_eq, ← cK_eq]
    ring

/-- The kernel's `da` of a product `s`, a scale `d` and an argument `u` is the reference's. -/
theorem gelu_eq (s d u : EReal) : s * (d * ((1 / 2 : ℝ) : EReal)) * facK (u * (cC : EReal)) = s * d * facR u := by
  rw [fac_eq, ← mul_assoc s, mul_assoc (s * d), ← mul_assoc (((1 / 2 : ℝ) : EReal)),
    show (((1 / 2 : ℝ) : EReal)) * ((2 : ℝ) : EReal) = 1 from by rw [← EReal.coe_mul, ← EReal.coe_one]; norm_num, one_mul]

end Cert.MlpIdeal.Value
end
-- ==== Proof.Mlp.Consts.lean ====
module
public import proofs.«01_k».proof.Proof.Mlp.Gelu
public import Idealize.ShloMosaic.PureOps.IdealRules
public import proofs.«01_k».proof.MlpIdeal
public import proofs.«01_k».proof.MlpRefIdeal
@[expose] public section
noncomputable section
namespace Cert.MlpIdeal.Value
open Idealize.ShloMosaic

/-! The constants the two programs spell, as extended reals. -/

theorem ofBits_one : Ideal.ofBits .f32 0x3F800000#32 = 1 := by
  rw [← EReal.coe_one]; simp [Ideal.ofBits, Ideal.ieee, -EReal.coe_mul, -EReal.coe_one]; norm_num
theorem ofBits_half : Ideal.ofBits .f32 0x3F000000#32 = ((1 / 2 : ℝ) : EReal) := by
  simp [Ideal.ofBits, Ideal.ieee, -EReal.coe_mul]; norm_num
theorem ofBits_126 : Ideal.ofBits .f32 0x42FC0000#32 = ((126 : ℝ) : EReal) := by
  simp [Ideal.ofBits, Ideal.ieee, -EReal.coe_mul]; norm_num
/-- The reciprocal of the largest code, as rounded, is not negative. -/
theorem ofBits_inv : 0 ≤ Ideal.ofBits .f32 0x37924925#32 := by
  simp [Ideal.ofBits, Ideal.ieee, -EReal.coe_mul]
theorem ofBits_bot : Ideal.ofBits .f32 0xFF800000#32 = ⊥ := by
  simp [Ideal.ofBits, Ideal.ieee]

theorem gelu_c : Named.named (F := Ideal) Cert.MlpIdeal.κ "gelu_c" (φ := .f32) 0x3F4C422A#32 = (cC : EReal) :=
  IdealRules.named_const.ideal_named_scalar _ _ _ _ rfl
theorem gelu_a_c2 : Named.named (F := Ideal) Cert.MlpIdeal.κ "gelu_a_c2" (φ := .f32) 0x3D8FD906#32 = (cK : EReal) :=
  IdealRules.named_const.ideal_named_scalar _ _ _ _ rfl
theorem ref_gelu_c : Named.named (F := Ideal) Cert.MlpRefIdeal.κ "gelu_c" (φ := .f32) 0x3F4C422A#32 = (cC : EReal) :=
  IdealRules.named_const.ideal_named_scalar _ _ _ _ rfl
theorem ref_gelu_a : Named.named (F := Ideal) Cert.MlpRefIdeal.κ "gelu_a" (φ := .f32) 0x3D372713#32 = (cA : EReal) :=
  IdealRules.named_const.ideal_named_scalar _ _ _ _ rfl
theorem ref_gelu_3a : Named.named (F := Ideal) Cert.MlpRefIdeal.κ "gelu_3a" (φ := .f32) 0x3E095D4F#32 = (cT : EReal) :=
  IdealRules.named_const.ideal_named_scalar _ _ _ _ rfl

end Cert.MlpIdeal.Value
end
-- ==== Proof.Mlp.ValueBase.lean ====
module
public import proofs.«01_k».proof.Proof.Mlp.Data
public import proofs.«01_k».proof.Proof.Mlp.Consts
public import proofs.«01_k».proof.Proof.Gen.MlpRefIdeal.Frame
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.MlpIdeal.Value
open Cert.MlpIdeal Cert.MlpIdeal.Gen Cert.MlpIdeal.Hand
variable (m : (ℓ : Loc nD τ sig) → Buf (Elt Ideal) ℓ)

/-- The block every window reads or writes at a grid point. -/
theorem idx : ∀ t : Fin cfg0.N, win0_0.index t = ![0, 0] ∧ win0_1.index t = ![t.val, 0] ∧ win0_2.index t = ![0, t.val] ∧ win0_3.index t = ![0, t.val]
    ∧ win0_4.index t = ![0, 0] ∧ win0_5.index t = ![0, 0] ∧ win0_6.index t = ![0, 0] ∧ win0_7.index t = ![0, 0] ∧ win0_8.index t = ![t.val, 0]
    ∧ win0_9.index t = ![0, 0] ∧ win0_10.index t = ![0, 0] :=
  (by decide +kernel : ∀ t : Fin grid0.N, _)

/-- The reference's `dw_out`, of whole arrays. -/
abbrev REF8 (dy : FVec Ideal S1024x2048 .fp8e5m2) (dys : FVec Ideal S1x1024 .f32) (g : FVec Ideal S1024x5632 .fp8e4m3) (gs : FVec Ideal S1x1024 .f32) : FVec Ideal Cert.MlpRefIdeal.S5632x2048 .bf16 :=
  Cert.MlpRefIdeal.Gen.k0_pay3 (Cert.MlpRefIdeal.Gen.k0_pay4 dy) (Cert.MlpRefIdeal.Gen.k0_pay5 dys) (Cert.MlpRefIdeal.Gen.k0_pay6 gs) g

theorem swap4 (a b c d : EReal) : a * b * c * d = a * b * (d * c) := by rw [mul_assoc, mul_comm c]
/-- What a point stores in its block is the reference at the place the block has in the array. -/
theorem point8 (c : Dev nD) (t : Fin cfg0.N) (y) : dwOut (iblk m c 0 t) (iblk m c 3 t) (iblk m c 5 t) (iblk m c 7 t) y
    = REF8 (V m c main_v0) (V m c main_arg1) (V m c main_v2) (V m c main_arg5) (((cfg0.win 8).blk t).view.emb y) := by
  pointwise [dwOut, k0_pay91, REF8, Cert.MlpRefIdeal.Gen.k0_pay3, Cert.MlpRefIdeal.Gen.k0_pay4, Cert.MlpRefIdeal.Gen.k0_pay5, Cert.MlpRefIdeal.Gen.k0_pay6]
  refine Finset.sum_congr rfl fun x _ => ?_
  refine (swap4 _ _ _ _).trans ?_
  blk_point [iblk, idx t]
/-- The result array after the run is the reference's. -/
theorem final8 (c : Dev nD) : (dats m 0 c).arrAt 8 (cfgs 0).N
    = REF8 (V m c main_v0) (V m c main_arg1) (V m c main_v2) (V m c main_arg5) := by
  refine (dats m 0 c).arrAt_eq_of_covers 8 _ (by decide +kernel) fun t _ y => ?_
  blk_simp
  rw [after0_8]
  exact point8 m c t y

end Cert.MlpIdeal.Value
end
-- ==== Proof.Mlp.ValueDa.lean ====
module
public import proofs.«01_k».proof.Proof.Mlp.ValueBase
@[expose] public section
set_option maxRecDepth 16384
noncomputable section
open Idealize.ShloMosaic Idealize.ShloMosaic.TcCoe Idealize.SL.Sem
open Idealize.ShloMosaic.Pipeline (Dat)
namespace Cert.MlpIdeal.Value
open Cert.MlpIdeal Cert.MlpIdeal.Gen Cert.MlpIdeal.Hand
variable (m : (ℓ : Loc nD τ sig) → Buf (Elt Ideal) ℓ)

/-- The reference's `da`, of whole arrays. -/
def RDA (dy : FVec Ideal S1024x2048 .fp8e5m2) (dys : FVec Ideal S1x1024 .f32) (a : FVec Ideal S1024x5632 .fp8e4m3) (sa : FVec Ideal S1x1024 .f32)
    (w : FVec Ideal Cert.MlpRefIdeal.S5632x2048 .fp8e4m3) (s : FVec Ideal S1x2048 .f32) : FVec Ideal S1024x5632 .f32 :=
  Cert.MlpRefIdeal.Gen.k0_pay13 (Cert.MlpRefIdeal.Gen.k0_pay7 dy dys w s) (Cert.MlpRefIdeal.Gen.k0_pay8 sa a) (Cert.MlpRefIdeal.Gen.k0_pay10 sa a) (Cert.MlpRefIdeal.Gen.k0_pay11 sa a) (Cert.MlpRefIdeal.Gen.k0_pay12 sa a) (Scalar.ofBits .f32 0x3F800000#32)

/-- The reference's `da` is the product's gradient times the derivative of gelu. -/
theorem RDA_at (dy : FVec Ideal S1024x2048 .fp8e5m2) (dys : FVec Ideal S1x1024 .f32) (a : FVec Ideal S1024x5632 .fp8e4m3) (sa : FVec Ideal S1x1024 .f32)
    (w : FVec Ideal Cert.MlpRefIdeal.S5632x2048 .fp8e4m3) (s : FVec Ideal S1x2048 .f32) (y : S1024x5632.Idx) :
    RDA dy dys a sa w s y = Cert.MlpRefIdeal.Gen.k0_pay7 (F := Ideal) dy dys w s y * facR (Cert.MlpRefIdeal.Gen.k0_pay8 (F := Ideal) sa a y) := by
  pointwise [RDA, Cert.MlpRefIdeal.Gen.k0_pay13, Cert.MlpRefIdeal.Gen.k0_pay9, Cert.MlpRefIdeal.Gen.k0_pay10, Cert.MlpRefIdeal.Gen.k0_pay11, Cert.MlpRefIdeal.Gen.k0_pay12]
  simp only [ofBits_one, ofBits_half, ref_gelu_c, ref_gelu_a, ref_gelu_3a]
  rfl

theorem at_eq (i : S1024x128.Idx) (p : S1024x512.Idx) (q : Fin 512) (h0 : (p 0 : ℕ) = i 0) (h1 : (p 1 : ℕ) = q) : p = ix2 (i 0) q :=
  funext fun a => match a with
  | ⟨0, _⟩ => Fin.ext h0
  | ⟨1, _⟩ => Fin.ext h1

/-- A point's piece of `da` at an index: the gradient's row sum, half its scale and the derivative of gelu. -/
theorem piece_at (x1 : Vec Ideal S512x2048 .fp8e4m3) (x2 : Vec Ideal S1024x512 .fp8e4m3) (x4 : Vec Ideal S1x2048 .f32) (xs2 : Vec Ideal S1024x2048 .bf16) (xs3 : Vec Ideal S1024x128 .f32) (xs4 : Vec Ideal S1024x128 .f32)
    (k : Fin 4) (i : S1024x128.Idx) (p : S1024x512.Idx) (h0 : (p 0 : ℕ) = i 0) (h1 : (p 1 : ℕ) = 128 * k.val + i 1) :
    daPiece x1 x2 x4 xs2 xs3 xs4 k i = k0_pay68 xs2 x1 x4 p * xs3 i * facK (x2 p * xs4 i) := by
  match k, h1 with
  | 0, h1 =>
    pointwise [daPiece, k0_pay72, k0_pay71, k0_pay69, k0_pay70]
    simp only [ofBits_one, gelu_a_c2]
    have hp : p = ix2 (i 0) ⟨(i 1).val, by have := (i 1).isLt; simp at this ⊢; omega⟩ := at_eq i p _ h0 (h1.trans (by simp))
    rw [hp]
    rfl
  | 1, h1 =>
    pointwise [daPiece, k0_pay75, k0_pay73]
    simp only [ofBits_one, gelu_a_c2]
    have hp : p = ix2 (i 0) ⟨128 + (i 1).val, by have := (i 1).isLt; simp at this ⊢; omega⟩ := at_eq i p _ h0 (h1.trans (by simp))
    rw [hp]
    rfl
  | 2, h1 =>
    pointwise [daPiece, k0_pay79, k0_pay76, k0_pay77]
    simp only [ofBits_one, gelu_a_c2]
    have hp : p = ix2 (i 0) ⟨256 + (i 1).val, by have := (i 1).isLt; simp at this ⊢; omega⟩ := at_eq i p _ h0 (h1.trans (by simp))
    rw [hp]
    rfl
  | 3, h1 =>
    pointwise [daPiece, k0_pay89, k0_pay80, k0_pay81, k0_pay82, k0_pay83, k0_pay84, k0_pay85, k0_pay86, k0_pay87, k0_pay88]
    simp only [ofBits_one, gelu_a_c2]
    have hp : p = ix2 (i 0) ⟨384 + (i 1).val, by have := (i 1).isLt; simp at this ⊢; omega⟩ := at_eq i p _ h0 (h1.trans (by simp))
    rw [hp]
    rfl

/-- The gradient's row sum with the row's scale is the reference's. -/
theorem sum_at (c : Dev nD) (t : Fin cfg0.N) (p : S1024x512.Idx) (j : S1024x5632.Idx) (i : S1024x128.Idx) (h0 : (j 0 : ℕ) = p 0) (h1 : (j 1 : ℕ) = t.val * 512 + p 1) (hi : (i 0 : ℕ) = p 0) :
    k0_pay68 (cY m c) (iblk m c 1 t) (iblk m c 4 t) p * (iblk m c 5 t0_0 (ix2 0 (i 0)))
      = Cert.MlpRefIdeal.Gen.k0_pay7 (F := Ideal) (V m c main_v0) (V m c main_arg1) (V m c main_arg6) (V m c main_v3) j := by
  pointwise [cY, k0_pay64, k0_pay68, Cert.MlpRefIdeal.Gen.k0_pay7]
  blk_point [iblk, idx t, idx t0_0]

theorem glue (s h x v d u : EReal) (e1 : h = d * ((1 / 2 : ℝ) : EReal)) (e2 : x * v = u * (cC : EReal)) : s * h * facK (x * v) = s * d * facR u := by
  rw [e1, e2]; exact gelu_eq s d u

/-- A piece of `da` is the reference's `da` at the piece's place. -/
theorem dP_at (c : Dev nD) (t : Fin cfg0.N) (k : Fin 4) (i : S1024x128.Idx) (j : S1024x5632.Idx) (h0 : (j 0 : ℕ) = i 0) (h1 : (j 1 : ℕ) = t.val * 512 + 128 * k.val + i 1) :
    dP m c t k i = RDA (V m c main_v0) (V m c main_arg1) (V m c main_v1) (V m c main_arg3) (V m c main_arg6) (V m c main_v3) j := by
  have hi : (i 1).val < 128 := (i 1).isLt
  have hk := k.isLt
  let p : S1024x512.Idx := ix2 (i 0) ⟨128 * k.val + (i 1).val, by omega⟩
  rw [RDA_at, ← sum_at m c t p j i h0 (by rw [h1, Nat.add_assoc]; rfl) rfl]
  refine (piece_at _ _ _ _ _ _ k i p rfl rfl).trans (glue _ _ _ _ _ _ ?_ ?_)
  · pointwise [cH, k0_pay65]
    rw [ofBits_half]
  · pointwise [cV, k0_pay66, Cert.MlpRefIdeal.Gen.k0_pay8]
    rw [gelu_c]
    refine (mul_assoc (G := EReal) _ _ _).symm.trans (congrArg (fun z : EReal => z * (cC : EReal)) ?_)
    have e : t.val * 512 + 128 * k.val + (i 1).val = t.val * 512 + (128 * k.val + (i 1).val) := Nat.add_assoc _ _ _
    rw [e] at h1
    have hp0 : (p 0 : ℕ) = i 0 := rfl
    have hp1 : (p 1 : ℕ) = 128 * k.val + (i 1).val := rfl
    clear_value p
    blk_point [iblk, idx t, idx t0_0]

/-- The scratch array of `da` is the reference's `da`. -/
theorem DA_eq (c : Dev nD) : DA m c = RDA (V m c main_v0) (V m c main_arg1) (V m c main_v1) (V m c main_arg3) (V m c main_arg6) (V m c main_v3) := by
  funext y
  have hy : (y 1).val < 5632 := (y 1).isLt
  unfold DA
  refine dP_at m c _ _ _ y rfl ?_
  show (y 1).val = (y 1).val / 512 * 512 + 128 * ((y 1).val / 128 % 4) + (y 1).val % 128
  omega

end Cert.MlpIdeal.Value
end
-- ==== Proof.Mlp.ValueMax.lean ====
module
public import proofs.«01_k».proof.Proof.Mlp.ValueDa
@[expose] public section
set_option maxRecDepth 16384
noncomputable section
open Idealize.ShloMosaic Idealize.ShloMosaic.TcCoe Idealize.SL.Sem
open Idealize.ShloMosaic.Pipeline (Dat)
namespace Cert.MlpIdeal.Value
open Cert.MlpIdeal Cert.MlpIdeal.Gen Cert.MlpIdeal.Hand
variable (m : (ℓ : Loc nD τ sig) → Buf (Elt Ideal) ℓ)

/-- The absolute value of an extended real. -/
abbrev absE (x : EReal) : EReal := FloatOps.absf (F := Ideal) (φ := .f32) x

theorem amStep_at (x1 : Vec Ideal S512x2048 .fp8e4m3) (x2 : Vec Ideal S1024x512 .fp8e4m3) (x4 : Vec Ideal S1x2048 .f32) (xs1 : Vec Ideal S1024x128 .f32) (xs2 : Vec Ideal S1024x2048 .bf16) (xs3 : Vec Ideal S1024x128 .f32) (xs4 : Vec Ideal S1024x128 .f32) (i : S1024x128.Idx) :
    amStep x1 x2 x4 xs1 xs2 xs3 xs4 i = max (max (max (max (xs1 i) (absE (daPiece x1 x2 x4 xs2 xs3 xs4 0 i))) (absE (daPiece x1 x2 x4 xs2 xs3 xs4 1 i)))
      (absE (daPiece x1 x2 x4 xs2 xs3 xs4 2 i))) (absE (daPiece x1 x2 x4 xs2 xs3 xs4 3 i)) := by
  pointwise [amStep, daPiece, k0_pay90, k0_pay78, k0_pay74, k0_pay72, k0_pay75, k0_pay79, k0_pay89]

theorem abs_nonneg' (x : EReal) : 0 ≤ absE x := by
  show 0 ≤ max x (-x)
  rcases le_total 0 x with h | h
  · exact h.trans (le_max_left _ _)
  · exact (by simpa using EReal.neg_le_neg_iff.mpr h : (0 : EReal) ≤ -x).trans (le_max_right _ _)

/-- What bounds the running maximum of a lane: what bounds every piece's `|da|` there. -/
theorem MX_le (c : Dev nD) (i : S1024x128.Idx) (b : EReal) : ∀ n, n ≤ cfg0.N →
    (MX m c n i ≤ b ↔ 0 ≤ b ∧ ∀ t : Fin cfg0.N, t.val < n → ∀ k, absE (dP m c t k i) ≤ b)
  | 0, _ => by
    have e : MX m c 0 i = (0 : EReal) := by
      pointwise [MX, k0_pay67]
    rw [e]
    exact ⟨fun h => ⟨h, fun t ht => absurd ht (Nat.not_lt_zero _)⟩, fun h => h.1⟩
  | n + 1, hn => by
    have ih := MX_le c i b n (Nat.le_of_succ_le hn)
    have e := congrFun (MX_succ m c ⟨n, hn⟩) i
    rw [amStep_at] at e
    rw [e]
    refine Iff.trans (max_le_iff (α := EReal)) ?_
    rw [max_le_iff, max_le_iff, max_le_iff, ih]
    constructor
    · rintro ⟨⟨⟨⟨⟨h0, hl⟩, a0⟩, a1⟩, a2⟩, a3⟩
      refine ⟨h0, fun t ht k => ?_⟩
      rcases Nat.lt_succ_iff_lt_or_eq.1 ht with h | h
      · exact hl t h k
      · obtain rfl : t = ⟨n, hn⟩ := Fin.ext h
        match k with
        | ⟨0, _⟩ => exact a0
        | ⟨1, _⟩ => exact a1
        | ⟨2, _⟩ => exact a2
        | ⟨3, _⟩ => exact a3
    · rintro ⟨h0, hl⟩
      have hh := hl ⟨n, hn⟩ (Nat.lt_succ_self n)
      exact ⟨⟨⟨⟨⟨h0, fun t ht => hl t (Nat.lt_succ_of_lt ht)⟩, hh 0⟩, hh 1⟩, hh 2⟩, hh 3⟩

/-- The largest `|da|` of a row. -/
def rowMax (D : FVec Ideal S1024x5632 .f32) (r : Fin 1024) : EReal := Finset.univ.fold max ⊥ fun k : Fin 5632 => absE (D (ix2 r k))

theorem rowMax_nonneg (D : FVec Ideal S1024x5632 .f32) (r : Fin 1024) : 0 ≤ rowMax D r :=
  (abs_nonneg' _).trans (((Finset.fold_max_le (f := fun k : Fin 5632 => absE (D (ix2 r k))) (b := (⊥ : EReal)) (s := Finset.univ) (rowMax D r)).1 (le_refl (rowMax D r))).2 0 (Finset.mem_univ _))

/-- The largest of the lanes' running maxima is the row's largest `|da|`. -/
theorem MX_row (c : Dev nD) (r : Fin 1024) : (Finset.univ.fold max ⊥ fun l : Fin 128 => (MX m c 11 (ix2 r l) : EReal)) = rowMax (DA m c) r := by
  refine eq_of_forall_ge_iff fun b => ?_
  have hN : cfg0.N = 11 := N_0
  unfold rowMax
  rw [Finset.fold_max_le, Finset.fold_max_le]
  constructor
  · rintro ⟨h0, h⟩
    refine ⟨h0, fun k _ => ?_⟩
    have hl := ((MX_le m c (ix2 r ⟨k.val % 128, Nat.mod_lt _ (by decide)⟩) b 11 hN.ge).1 (h ⟨k.val % 128, Nat.mod_lt _ (by decide)⟩ (Finset.mem_univ _))).2
    exact hl (ptOf (ix2 r k)) (hN ▸ (ptOf (ix2 r k)).isLt) ⟨k.val / 128 % 4, Nat.mod_lt _ (by decide)⟩
  · rintro ⟨h0, h⟩
    refine ⟨h0, fun l _ => (MX_le m c (ix2 r l) b 11 hN.ge).2 ⟨(abs_nonneg' _).trans (h 0 (Finset.mem_univ _)), fun t _ k => ?_⟩⟩
    have ht : t.val < 11 := hN ▸ t.isLt
    have hk := k.isLt
    have hl := l.isLt
    have h' := h ⟨t.val * 512 + 128 * k.val + l.val, by omega⟩ (Finset.mem_univ _)
    have e : DA m c (ix2 r ⟨t.val * 512 + 128 * k.val + l.val, by omega⟩) = dP m c t k (ix2 r l) := by
      rw [DA_eq]
      exact (dP_at m c t k (ix2 r l) (ix2 r ⟨t.val * 512 + 128 * k.val + l.val, by omega⟩) rfl rfl).symm
    rwa [e] at h'

end Cert.MlpIdeal.Value
end
-- ==== Proof.Mlp.Quant.lean ====
module
public import Idealize.ShloMosaic.PureOps.Ideal
public import Idealize.ShloMosaic.PureOps.Vector
@[expose] public section
noncomputable section
namespace Cert.MlpIdeal.Value
open Idealize.ShloMosaic

/-- The float whose exponent field is `n` and whose other bits are zero. -/
def thr (n : ℕ) : EReal := Ideal.ofBits .f32 (BitVec.ofNat 32 n <<< 23)

theorem fields : ∀ n : Fin 255, ((BitVec.ofNat 32 n.val <<< 23).extractLsb' 31 1 == 1#1) = false
    ∧ ((BitVec.ofNat 32 n.val <<< 23).extractLsb' 23 8).toNat = n.val ∧ ((BitVec.ofNat 32 n.val <<< 23).extractLsb' 0 23).toNat = 0 := by decide +kernel

theorem thr_zero : thr 0 = 0 := by
  obtain ⟨h1, h2, h3⟩ := fields 0
  have h1' : ((BitVec.ofNat 32 0 <<< 23).extractLsb' 31 1 == 1#1) = false := h1
  have h2' : ((BitVec.ofNat 32 0 <<< 23).extractLsb' 23 8).toNat = 0 := h2
  have h3' : ((BitVec.ofNat 32 0 <<< 23).extractLsb' 0 23).toNat = 0 := h3
  simp only [thr, Ideal.ofBits, Ideal.ieee, Nat.reduceAdd, h1', h2', h3']
  norm_num

/-- It is a power of two. -/
theorem thr_pow (n : ℕ) (h : 1 ≤ n) (h' : n ≤ 254) : thr n = (((2 : ℝ) ^ ((n : ℤ) - 127) : ℝ) : EReal) := by
  obtain ⟨h1, h2, h3⟩ := fields ⟨n, by omega⟩
  have h1' : ((BitVec.ofNat 32 n <<< 23).extractLsb' 31 1 == 1#1) = false := h1
  have h2' : ((BitVec.ofNat 32 n <<< 23).extractLsb' 23 8).toNat = n := h2
  have h3' : ((BitVec.ofNat 32 n <<< 23).extractLsb' 0 23).toNat = 0 := h3
  simp only [thr, Ideal.ofBits, Ideal.ieee, Nat.reduceAdd, h1', h2', h3']
  rw [if_neg (by omega), if_neg (by omega)]
  refine congrArg _ ?_
  rw [show ((n : ℤ) - (2 ^ (8 - 1) - 1) - ((23 : ℕ) : ℤ)) = ((n : ℤ) - 127) + (-23) from by norm_num; ring, zpow_add₀ (by norm_num)]
  norm_num
  field_simp

theorem thr_mono (a b : ℕ) (h : a ≤ b) (hb : b ≤ 254) : thr a ≤ thr b := by
  rcases Nat.eq_zero_or_pos a with rfl | ha
  · rw [thr_zero]
    rcases Nat.eq_zero_or_pos b with rfl | hb'
    · rw [thr_zero]
    · rw [thr_pow b hb' hb]; exact_mod_cast (zpow_pos (by norm_num : (0:ℝ) < 2) _).le
  · rw [thr_pow a ha (by omega), thr_pow b (by omega) hb]
    exact EReal.coe_le_coe_iff.mpr (zpow_le_zpow_right₀ (by norm_num : (1:ℝ) ≤ 2) (by omega))

open Classical in
/-- How many of the powers `2⁻¹²⁶, …, 2¹²⁵` are at most `x`. -/
def cnt (x : EReal) : ℕ := Nat.findGreatest (fun n => thr n ≤ x) 252

theorem cnt_le (x : EReal) : cnt x ≤ 252 := Nat.findGreatest_le _

open Classical in
theorem le_cnt (x : EReal) (hx : 0 ≤ x) (n : ℕ) (h : n ≤ 252) : thr n ≤ x ↔ n ≤ cnt x := by
  constructor
  · exact fun e => Nat.le_findGreatest h e
  · intro e
    have hs : thr (cnt x) ≤ x := Nat.findGreatest_spec (P := fun n => thr n ≤ x) (Nat.zero_le 252) (by rw [thr_zero]; exact hx)
    exact (thr_mono _ _ e (by have := cnt_le x; omega)).trans hs

/-- One step of the search: `k + s` if the float with that exponent field is at most `x`. -/
def step (x : EReal) (k s : BitVec 32) : BitVec 32 :=
  Scalar.select (FloatOps.cmpf (F := Ideal) (φ := .f32) .oge x (FloatOps.ofBits (F := Ideal) .f32 (IntOp.shli .vector (IntOp.addi k s) 23#32))) (IntOp.addi k s) k

theorem shl23 (k : BitVec 32) : IntOp.shli .vector k 23#32 = k <<< 23 := rfl

theorem step_eq (x : EReal) (hx : 0 ≤ x) (k s : ℕ) (h : k + s ≤ 252) :
    step x (BitVec.ofNat 32 k) (BitVec.ofNat 32 s) = BitVec.ofNat 32 (if k + s ≤ cnt x then k + s else k) := by
  have ha : IntOp.addi (BitVec.ofNat 32 k) (BitVec.ofNat 32 s) = BitVec.ofNat 32 (k + s) := (BitVec.ofNat_add k s).symm
  unfold step
  rw [ha, shl23]
  show Scalar.select (BitVec.ofBool (decide (thr (k + s) ≤ x))) _ _ = _
  rw [decide_eq_decide.mpr (le_cnt x hx (k + s) h)]
  by_cases c : k + s ≤ cnt x
  · rw [if_pos c, decide_eq_true c]; rfl
  · rw [if_neg c, decide_eq_false c]; rfl

/-- The search ends at the count. -/
theorem search (x : EReal) (hx : 0 ≤ x) :
    step x (step x (step x (step x (step x (step x (step x (step x 0#32 125#32) 64#32) 32#32) 16#32) 8#32) 4#32) 2#32) 1#32 = BitVec.ofNat 32 (cnt x) := by
  have hN := cnt_le x
  have next : ∀ (k : ℕ) (s : ℕ), k + s ≤ 252 → k ≤ cnt x → cnt x < k + 2 * s → ∃ k', step x (BitVec.ofNat 32 k) (BitVec.ofNat 32 s) = BitVec.ofNat 32 k' ∧ k' ≤ cnt x ∧ cnt x < k' + s ∧ k' ≤ k + s := by
    intro k s h1 h2 h3
    refine ⟨_, step_eq x hx k s h1, ?_⟩
    split <;> omega
  obtain ⟨k1, e1, a1, b1, c1⟩ : ∃ k', step x 0#32 125#32 = BitVec.ofNat 32 k' ∧ k' ≤ cnt x ∧ cnt x < k' + 128 ∧ k' ≤ 125 := by
    refine ⟨_, step_eq x hx 0 125 (by omega), ?_⟩
    split <;> omega
  obtain ⟨k2, e2, a2, b2, c2⟩ := next k1 64 (by omega) a1 (by omega)
  obtain ⟨k3, e3, a3, b3, c3⟩ := next k2 32 (by omega) a2 (by omega)
  obtain ⟨k4, e4, a4, b4, c4⟩ := next k3 16 (by omega) a3 (by omega)
  obtain ⟨k5, e5, a5, b5, c5⟩ := next k4 8 (by omega) a4 (by omega)
  obtain ⟨k6, e6, a6, b6, c6⟩ := next k5 4 (by omega) a5 (by omega)
  obtain ⟨k7, e7, a7, b7, c7⟩ := next k6 2 (by omega) a6 (by omega)
  obtain ⟨k8, e8, a8, b8, c8⟩ := next k7 1 (by omega) a7 (by omega)
  rw [e1, e2, e3, e4, e5, e6, e7, e8, show k8 = cnt x from by omega]

/-- The exponent of the scale, of `n` powers counted. -/
def expo (n : ℕ) : ℤ := if n = 0 then 0 else (n : ℤ) - 126

/-- The exponent as the kernel's word. -/
def expoW (k : BitVec 32) : BitVec 32 := Scalar.select (IntOp.cmpi .eq k 0#32) 0#32 (IntOp.subi k 126#32)

theorem wUp : ∀ n : Fin 253, IntOp.shli .vector (IntOp.addi (expoW (BitVec.ofNat 32 n.val)) 127#32) 23#32 = BitVec.ofNat 32 (if n.val = 0 then 127 else n.val + 1) <<< 23 := by decide +kernel
theorem wDown : ∀ n : Fin 253, IntOp.shli .vector (IntOp.subi 127#32 (expoW (BitVec.ofNat 32 n.val))) 23#32 = BitVec.ofNat 32 (if n.val = 0 then 127 else 253 - n.val) <<< 23 := by decide +kernel

/-- The scale's bits denote `2` to the exponent, -/
theorem up_eq (n : ℕ) (h : n ≤ 252) : Ideal.ofBits .f32 (IntOp.shli .vector (IntOp.addi (expoW (BitVec.ofNat 32 n)) 127#32) 23#32) = Ideal.exp2 (((expo n : ℤ) : ℝ) : EReal) := by
  rw [show IntOp.shli .vector (IntOp.addi (expoW (BitVec.ofNat 32 n)) 127#32) 23#32 = _ from wUp ⟨n, by omega⟩]
  show thr (if n = 0 then 127 else n + 1) = ((Real.rpow 2 ((expo n : ℤ) : ℝ) : ℝ) : EReal)
  rw [show Real.rpow 2 ((expo n : ℤ) : ℝ) = (2 : ℝ) ^ (expo n) from Real.rpow_intCast 2 (expo n)]
  by_cases c : n = 0
  · rw [if_pos c, thr_pow 127 (by norm_num) (by norm_num), expo, if_pos c]; norm_num
  · rw [if_neg c, thr_pow (n + 1) (by omega) (by omega), expo, if_neg c]
    refine congrArg (fun e : ℤ => (((2 : ℝ) ^ e : ℝ) : EReal)) ?_
    push_cast; ring
/-- and the reciprocal's bits `2` to its negation. -/
theorem down_eq (n : ℕ) (h : n ≤ 252) : Ideal.ofBits .f32 (IntOp.shli .vector (IntOp.subi 127#32 (expoW (BitVec.ofNat 32 n))) 23#32) = Ideal.exp2 (0 - (((expo n : ℤ) : ℝ) : EReal)) := by
  rw [show IntOp.shli .vector (IntOp.subi 127#32 (expoW (BitVec.ofNat 32 n))) 23#32 = _ from wDown ⟨n, by omega⟩,
    show (0 : EReal) - (((expo n : ℤ) : ℝ) : EReal) = (((-expo n : ℤ) : ℝ) : EReal) from by rw [zero_sub, ← EReal.coe_neg]; push_cast; rfl]
  show thr (if n = 0 then 127 else 253 - n) = ((Real.rpow 2 ((-expo n : ℤ) : ℝ) : ℝ) : EReal)
  rw [show Real.rpow 2 ((-expo n : ℤ) : ℝ) = (2 : ℝ) ^ (-expo n) from Real.rpow_intCast 2 (-expo n)]
  by_cases c : n = 0
  · rw [if_pos c, thr_pow 127 (by norm_num) (by norm_num), expo, if_pos c]; norm_num
  · rw [if_neg c, thr_pow (253 - n) (by omega) (by omega), expo, if_neg c]
    refine congrArg (fun e : ℤ => (((2 : ℝ) ^ e : ℝ) : EReal)) ?_
    omega

/-- The power the reference compares at place `j`. -/
theorem pow_eq (j : ℕ) (h : j < 252) : Ideal.exp2 (((j : ℝ) : EReal) - ((126 : ℝ) : EReal)) = thr (j + 1) := by
  rw [← EReal.coe_sub, thr_pow (j + 1) (by omega) (by omega)]
  show ((Real.rpow 2 _ : ℝ) : EReal) = _
  rw [show ((j : ℝ) - 126) = (((j : ℤ) - 126 : ℤ) : ℝ) from by push_cast; rfl]
  rw [show Real.rpow 2 (((j : ℤ) - 126 : ℤ) : ℝ) = (2 : ℝ) ^ ((j : ℤ) - 126) from Real.rpow_intCast 2 _]
  refine congrArg (fun e : ℤ => (((2 : ℝ) ^ e : ℝ) : EReal)) ?_
  push_cast; ring

theorem sum_le (N M : ℕ) : (∑ j : Fin M, (if j.val + 1 ≤ N then (1 : EReal) else 0)) = ((min N M : ℕ) : ℝ) := by
  induction M with
  | zero => simp
  | succ M ih =>
    rw [Fin.sum_univ_castSucc]
    simp only [Fin.val_castSucc, Fin.val_last]
    rw [ih]
    by_cases c : M + 1 ≤ N
    · rw [if_pos c, min_eq_right c, min_eq_right (by omega), ← EReal.coe_one, ← EReal.coe_add]; push_cast; rfl
    · rw [if_neg c, add_zero, min_eq_left (by omega), min_eq_left (by omega)]

/-- The reference's count is the kernel's. -/
theorem count_eq (x : EReal) (hx : 0 ≤ x) :
    (∑ j : Fin 252, (if Ideal.exp2 (((j.val : ℝ) : EReal) - ((126 : ℝ) : EReal)) ≤ x then (1 : EReal) else 0)) = ((cnt x : ℕ) : ℝ) := by
  rw [← min_eq_left (cnt_le x), ← sum_le]
  refine Finset.sum_congr rfl fun j _ => ?_
  rw [pow_eq j.val j.isLt]
  exact if_congr (le_cnt x hx (j.val + 1) (by have := j.isLt; omega)) rfl rfl

end Cert.MlpIdeal.Value
end
-- ==== Proof.Mlp.ValueCodes.lean ====
module
public import proofs.«01_k».proof.Proof.Mlp.ValueMax
public import proofs.«01_k».proof.Proof.Mlp.Quant
@[expose] public section
set_option maxRecDepth 16384
noncomputable section
open Idealize.ShloMosaic Idealize.ShloMosaic.TcCoe Idealize.SL.Sem
open Idealize.ShloMosaic.Pipeline (Dat)
namespace Cert.MlpIdeal.Value
open Cert.MlpIdeal Cert.MlpIdeal.Gen Cert.MlpIdeal.Hand
variable (m : (ℓ : Loc nD τ sig) → Buf (Elt Ideal) ℓ)

/-- One comparison of the exponent's search, for a whole array. -/
def stepV (X : FVec Ideal S1024x128 .f32) (K : IVec S1024x128 32) (s : IVec S1024x128 32) : IVec S1024x128 32 :=
  select (cmpf .oge X (bitcastToFloat .f32 (shli (addi K s) (broadcast S1024x128 23#32)))) (addi K s) K
theorem stepV_at (X : FVec Ideal S1024x128 .f32) (K s : IVec S1024x128 32) (i : S1024x128.Idx) : stepV X K s i = step (X i) (K i) (s i) := rfl
theorem pay3_eq (M : Vec Ideal S1024x128 .f32) : k0_pay3 M = stepV (k0_pay2 M) (stepV (k0_pay2 M) (stepV (k0_pay2 M) (stepV (k0_pay2 M) (stepV (k0_pay2 M) (broadcast S1024x128 0#32)
    (broadcast S1024x128 125#32)) (broadcast S1024x128 64#32)) (broadcast S1024x128 32#32)) (broadcast S1024x128 16#32)) (broadcast S1024x128 8#32) := rfl
theorem pay5_eq (X : FVec Ideal S1024x128 .f32) (K s : IVec S1024x128 32) (i : S1024x128.Idx) : k0_pay5 X K s i
    = expoW (stepV X (stepV X (stepV X K s) (broadcast S1024x128 2#32)) (broadcast S1024x128 1#32) i) := rfl

/-- What the exponent of a row is searched for: the row's largest `|da|` over the largest code. -/
def xOf (D : FVec Ideal S1024x5632 .f32) (r : Fin 1024) : EReal := rowMax D r * Ideal.ofBits .f32 0x37924925#32
theorem xOf_nonneg (D : FVec Ideal S1024x5632 .f32) (r : Fin 1024) : 0 ≤ xOf D r := mul_nonneg (rowMax_nonneg D r) ofBits_inv

theorem pay2_at (c : Dev nD) (i : S1024x128.Idx) : k0_pay2 (MX m c 11) i = xOf (DA m c) (i 0) := by
  refine Eq.trans ?_ (congrArg (fun z : EReal => z * Ideal.ofBits .f32 0x37924925#32) (MX_row m c (i 0)))
  pointwise [k0_pay2]
  rw [ofBits_bot]

/-- The exponent the kernel's search finds. -/
theorem pay5_at (c : Dev nD) (i : S1024x128.Idx) : k0_pay5 (k0_pay2 (MX m c 11)) (k0_pay3 (MX m c 11)) k0_pay4 i = expoW (BitVec.ofNat 32 (cnt (xOf (DA m c) (i 0)))) := by
  rw [pay5_eq, pay3_eq]
  simp only [stepV_at]
  rw [pay2_at]
  exact congrArg expoW (search _ (xOf_nonneg _ _))

/-- The scale's reciprocal, the kernel's. -/
theorem inv_at (c : Dev nD) (i : S1024x128.Idx) : k0_pay6 (k0_pay2 (MX m c 11)) (k0_pay3 (MX m c 11)) k0_pay4 i = Ideal.exp2 (0 - (((expo (cnt (xOf (DA m c) (i 0))) : ℤ) : ℝ) : EReal)) := by
  rw [← down_eq _ (cnt_le _), ← pay5_at]
  rfl

/-- The scale, the kernel's. -/
theorem scale_at (c : Dev nD) (i : S1x1024.Idx) : scaleRow (MX m c 11) i = Ideal.exp2 (((expo (cnt (xOf (DA m c) (i 1))) : ℤ) : ℝ) : EReal) := by
  have e := pay5_at m c (ix2 (i 1) 0)
  rw [← up_eq _ (cnt_le _)]
  refine Eq.trans ?_ (congrArg (fun w => Ideal.ofBits .f32 (IntOp.shli .vector (IntOp.addi w 127#32) 23#32)) e)
  pointwise [scaleRow, k0_pay7]

end Cert.MlpIdeal.Value
end
-- ==== Proof.Mlp.RefExp.lean ====
module
public import proofs.«01_k».proof.Proof.Mlp.ValueCodes
public import proofs.«01_k».proof.Proof.Mlp.Quant
@[expose] public section
set_option maxRecDepth 16384
noncomputable section
open Idealize.ShloMosaic Idealize.ShloMosaic.TcCoe Idealize.SL.Sem
open Idealize.ShloMosaic.Pipeline (Dat)
namespace Cert.MlpIdeal.Value
open Cert.MlpRefIdeal Cert.MlpRefIdeal.Gen

/-- The reference's rows' largest `|da|`. -/
def rowM (D : FVec Ideal S1024x5632 .f32) : FVec Ideal S1024 .f32 := multiReduction .maximumf [1] S1024 (absf D) 0xFF800000#32 reduces_S1024x5632_S1024 (.inl rfl) rfl
/-- The reference's rows' largest `|da|` over the largest code. -/
def rowX (D : FVec Ideal S1024x5632 .f32) : FVec Ideal S1024x1 .f32 :=
  mulf (shapeCast S1024x1 (rowM D) shapeCasts_S1024_S1024x1) (broadcast S1024x1 (Scalar.ofBits .f32 0x37924925#32))
/-- How many of the powers of two are at most each row's. -/
def below (X : FVec Ideal S1024x1 .f32) : FVec Ideal S1024x1 .f32 :=
  shapeCast S1024x1 (multiReduction .add [1] S1024
    (select (cmpf .ole (broadcastTo S1024x252 (exp2 (subf (sitofp .f32 (iota .tc S1x252 32 [1] iota_S1x252_d1_w32)) (broadcast S1x252 (Scalar.ofBits .f32 0x42FC0000#32)))) broadcasts_S1x252_S1024x252)
      (broadcastTo S1024x252 X broadcasts_S1024x1_S1024x252)) (broadcast S1024x252 (Scalar.ofBits .f32 0x3F800000#32)) (broadcast S1024x252 (Scalar.ofBits .f32 0x00000000#32)))
    0x00000000#32 reduces_S1024x252_S1024 (.inl rfl) rfl) shapeCasts_S1024_S1024x1
/-- The exponent from the count. -/
def expoV (B : FVec Ideal S1024x1 .f32) : FVec Ideal S1024x1 .f32 :=
  select (cmpf .oeq B (broadcast S1024x1 (Scalar.ofBits .f32 0x00000000#32))) (broadcast S1024x1 (Scalar.sitofp .f32 0#32)) (subf B (broadcast S1024x1 (Scalar.ofBits .f32 0x42FC0000#32)))

theorem pay14_eq (v18 v23 v35 v37 v38 : FVec Ideal S1024x5632 .f32) (one : Ideal .f32) :
    k0_pay14 v18 v23 v35 v37 v38 one = expoV (below (rowX (k0_pay13 v18 v23 v35 v37 v38 one))) := rfl
theorem maxAbs {n : ℕ} (x : FVec Ideal ⟨2, ![1024, n]⟩ .f32) (h : (⟨2, ![1024, n]⟩ : Shape).Reduces [1] S1024) (hφ) (hacc) (r : Fin 1024) :
    multiReduction .maximumf [1] S1024 (absf x) 0xFF800000#32 h hφ hacc (ix1 r) = Finset.univ.fold max ⊥ fun k : Fin n => absE (x (ix2 r k)) := by
  refine Eq.trans ?_ (congrArg (fun b : EReal => Finset.univ.fold max b fun k : Fin n => absE (x (ix2 r k))) ofBits_bot)
  simp only [pointwise]
theorem rowM_at (D : FVec Ideal S1024x5632 .f32) (r : Fin 1024) : rowM D (ix1 r) = rowMax D r :=
  maxAbs (n := 5632) D _ _ _ r
theorem scaled_at (M : FVec Ideal S1024 .f32) (i : S1024x1.Idx) :
    mulf (shapeCast S1024x1 M shapeCasts_S1024_S1024x1) (broadcast S1024x1 (Scalar.ofBits .f32 0x37924925#32)) i = M (ix1 (i 0)) * Ideal.ofBits .f32 0x37924925#32 := by
  pointwise []
theorem scaled_eq (M : FVec Ideal S1024 .f32) (i : S1024x1.Idx) (b : EReal) (h : M (ix1 (i 0)) = b) :
    mulf (shapeCast S1024x1 M shapeCasts_S1024_S1024x1) (broadcast S1024x1 (Scalar.ofBits .f32 0x37924925#32)) i = b * Ideal.ofBits .f32 0x37924925#32 := by
  rw [scaled_at, h]
theorem rowX_at (D : FVec Ideal S1024x5632 .f32) (i : S1024x1.Idx) : rowX D i = xOf D (i 0) := by
  unfold rowX xOf
  exact scaled_eq (rowM D) i (rowMax D (i 0)) (rowM_at D (i 0))
theorem toInt_small : ∀ j : Fin 252, (BitVec.ofNat 32 j.val).toInt = (j.val : ℤ) := by decide +kernel
theorem below_at (X : FVec Ideal S1024x1 .f32) (i : S1024x1.Idx) (hx : 0 ≤ X i) : below X i = ((cnt (X i) : ℝ) : EReal) := by
  refine Eq.trans ?_ (count_eq (X i) hx)
  have e : (ix2 (i 0) 0 : S1024x1.Idx) = i := funext fun a => match a with
    | ⟨0, _⟩ => rfl
    | ⟨1, _⟩ => Subsingleton.elim (α := Fin 1) _ _
  pointwise [below]
  refine Finset.sum_congr rfl fun x _ => ?_
  have h : (FloatOps.sitofp (F := Ideal) FTy.f32 (BitVec.ofNat 32 x.val) : EReal) = ((x.val : ℝ) : EReal) := by
    show (((BitVec.ofNat 32 x.val).toInt : ℝ) : EReal) = _
    rw [toInt_small x]; push_cast; rfl
  rw [ofBits_126]
  refine (congrArg (fun z : EReal => if Ideal.exp2 (z - ((126 : ℝ) : EReal)) ≤ X (ix2 (i 0) 0) then (1 : EReal) else 0) h).trans ?_
  exact congrArg (fun z => if Ideal.exp2 (((x.val : ℝ) : EReal) - ((126 : ℝ) : EReal)) ≤ X z then (1 : EReal) else 0) e
theorem expoV_at (B : FVec Ideal S1024x1 .f32) (n : ℕ) (i : S1024x1.Idx) (h : B i = ((n : ℝ) : EReal)) : expoV B i = (((expo n : ℤ) : ℝ) : EReal) := by
  pointwise [expoV]
  rw [ofBits_126, h]
  unfold expo
  by_cases hn : n = 0
  · subst hn
    rw [if_pos (by norm_num), if_pos rfl]
    rfl
  · rw [if_neg (by exact_mod_cast hn), if_neg hn, ← EReal.coe_sub]
    push_cast
    rfl
/-- The exponent the reference counts. -/
theorem exp_at (v18 v23 v35 v37 v38 : FVec Ideal S1024x5632 .f32) (one : Ideal .f32) (i : S1024x1.Idx) :
    k0_pay14 v18 v23 v35 v37 v38 one i = (((expo (cnt (xOf (k0_pay13 v18 v23 v35 v37 v38 one) (i 0))) : ℤ) : ℝ) : EReal) := by
  rw [pay14_eq]
  have hx := rowX_at (k0_pay13 v18 v23 v35 v37 v38 one) i
  have h := below_at (rowX (k0_pay13 v18 v23 v35 v37 v38 one)) i (hx.symm ▸ xOf_nonneg _ _)
  rw [hx] at h
  exact expoV_at _ _ i h
end Cert.MlpIdeal.Value
end
-- ==== Proof.Mlp.RefCodes.lean ====
module
public import proofs.«01_k».proof.Proof.Mlp.RefExp
public import proofs.«01_k».proof.Proof.Mlp.Quant
@[expose] public section
set_option maxRecDepth 16384
noncomputable section
open Idealize.ShloMosaic Idealize.ShloMosaic.TcCoe Idealize.SL.Sem
open Idealize.ShloMosaic.Pipeline (Dat)
namespace Cert.MlpIdeal.Value
open Cert.MlpRefIdeal Cert.MlpRefIdeal.Gen

attribute [local irreducible] rowMax xOf

/-- A value clipped to the largest code, after division by a power of two given by its reciprocal. -/
def qv (x p : EReal) : EReal := min (Ideal.ofBits .f32 0x47600000#32) (max (Ideal.ofBits .f32 0xC7600000#32) (x * p))
/-- The exponent of each row's scale, of an array `D`. -/
def eOf (D : FVec Ideal S1024x5632 .f32) (r : Fin 1024) : EReal := (((expo (cnt (xOf D r)) : ℤ) : ℝ) : EReal)
/-- The reference's codes, of whole arrays. -/
def REF9 (dy : FVec Ideal S1024x2048 .fp8e5m2) (dys : FVec Ideal S1x1024 .f32) (a : FVec Ideal S1024x5632 .fp8e4m3) (sa : FVec Ideal S1x1024 .f32) (w : FVec Ideal S5632x2048 .fp8e4m3) (s : FVec Ideal S1x2048 .f32) : FVec Ideal S1024x5632 .fp8e5m2 :=
  k0_pay1 (Scalar.ofBits .f32 0x47600000#32) (k0_pay15 (k0_pay7 dy dys w s) (k0_pay8 sa a) (k0_pay10 sa a) (k0_pay11 sa a) (k0_pay12 sa a) (Scalar.ofBits .f32 0x3F800000#32))
/-- The reference's scales, of whole arrays. -/
def REF10 (dy : FVec Ideal S1024x2048 .fp8e5m2) (dys : FVec Ideal S1x1024 .f32) (a : FVec Ideal S1024x5632 .fp8e4m3) (sa : FVec Ideal S1x1024 .f32) (w : FVec Ideal S5632x2048 .fp8e4m3) (s : FVec Ideal S1x2048 .f32) : FVec Ideal S1x1024 .f32 := k0_pay2 (k0_pay14 (k0_pay7 dy dys w s) (k0_pay8 sa a) (k0_pay10 sa a) (k0_pay11 sa a) (k0_pay12 sa a) (Scalar.ofBits .f32 0x3F800000#32))

/-- The codes of an array from its rows' exponents. -/
def quant (D : FVec Ideal S1024x5632 .f32) (E : FVec Ideal S1024x1 .f32) : FVec Ideal S1024x5632 .fp8e5m2 :=
  truncf .fp8e5m2 (minimumf (broadcast S1024x5632 (Scalar.ofBits .f32 0x47600000#32)) (maximumf (broadcast S1024x5632 (Scalar.ofBits .f32 0xC7600000#32))
    (mulf D (broadcastTo S1024x5632 (exp2 (subf (broadcast S1024x1 (Scalar.ofBits .f32 0x00000000#32)) E)) broadcasts_S1024x1_S1024x5632)))) bitsLt_fp8e5m2_f32
theorem quant_at (D : FVec Ideal S1024x5632 .f32) (E : FVec Ideal S1024x1 .f32) (y : S1024x5632.Idx) : quant D E y = qv (D y) (Ideal.exp2 (0 - E (ix2 (y 0) 0))) := by
  pointwise [quant]
  rfl
theorem quant_eq (D : FVec Ideal S1024x5632 .f32) (E : FVec Ideal S1024x1 .f32) (y : S1024x5632.Idx) (e : EReal) (h : E (ix2 (y 0) 0) = e) : quant D E y = qv (D y) (Ideal.exp2 (0 - e)) := by
  rw [quant_at, h]
theorem scales_eq (E : FVec Ideal S1024x1 .f32) (y : S1x1024.Idx) (e : EReal) (h : E (ix2 (y 1) 0) = e) : k0_pay2 E y = Ideal.exp2 e := by
  rw [← h]
  pointwise [k0_pay2]
  rfl
theorem REF9_eq (dy : FVec Ideal S1024x2048 .fp8e5m2) (dys : FVec Ideal S1x1024 .f32) (a : FVec Ideal S1024x5632 .fp8e4m3) (sa : FVec Ideal S1x1024 .f32) (w : FVec Ideal S5632x2048 .fp8e4m3) (s : FVec Ideal S1x2048 .f32) : REF9 dy dys a sa w s = quant (RDA dy dys a sa w s) (k0_pay14 (k0_pay7 dy dys w s) (k0_pay8 sa a) (k0_pay10 sa a) (k0_pay11 sa a) (k0_pay12 sa a) (Scalar.ofBits .f32 0x3F800000#32)) := rfl

theorem REF9_at (dy : FVec Ideal S1024x2048 .fp8e5m2) (dys : FVec Ideal S1x1024 .f32) (a : FVec Ideal S1024x5632 .fp8e4m3) (sa : FVec Ideal S1x1024 .f32) (w : FVec Ideal S5632x2048 .fp8e4m3) (s : FVec Ideal S1x2048 .f32) (y : S1024x5632.Idx) :
    REF9 dy dys a sa w s y = qv (RDA dy dys a sa w s y) (Ideal.exp2 (0 - eOf (RDA dy dys a sa w s) (y 0))) :=
  (congrFun (REF9_eq dy dys a sa w s) y).trans (quant_eq _ _ y _ (exp_at _ _ _ _ _ _ (ix2 (y 0) 0)))
theorem REF10_at (dy : FVec Ideal S1024x2048 .fp8e5m2) (dys : FVec Ideal S1x1024 .f32) (a : FVec Ideal S1024x5632 .fp8e4m3) (sa : FVec Ideal S1x1024 .f32) (w : FVec Ideal S5632x2048 .fp8e4m3) (s : FVec Ideal S1x2048 .f32) (y : S1x1024.Idx) :
    REF10 dy dys a sa w s y = Ideal.exp2 (eOf (RDA dy dys a sa w s) (y 1)) :=
  scales_eq _ y _ (exp_at _ _ _ _ _ _ (ix2 (y 1) 0))

end Cert.MlpIdeal.Value
end
-- ==== Proof.Mlp.ValueOut.lean ====
module
public import proofs.«01_k».proof.Proof.Mlp.RefCodes
@[expose] public section
set_option maxRecDepth 16384
noncomputable section
open Idealize.ShloMosaic Idealize.ShloMosaic.TcCoe Idealize.SL.Sem
open Idealize.ShloMosaic.Pipeline (Dat)
namespace Cert.MlpIdeal.Value
open Cert.MlpIdeal Cert.MlpIdeal.Gen Cert.MlpIdeal.Hand
variable (m : (ℓ : Loc nD τ sig) → Buf (Elt Ideal) ℓ)

attribute [local irreducible] rowMax xOf

theorem codePiece_at (inv w : Vec Ideal S1024x128 .f32) (i : S1024x128.Idx) : codePiece inv w i = qv (w i) (inv i) := by
  pointwise [codePiece, k0_pay10]
  rfl

/-- The columns of a store of codes, -/
def cols (k : Fin 44) : Rect S1024x5632 := Rect.unit ![0, 128 * k.val] ![1024, 128] (inb k)
/-- and the store. -/
def onePiece (M : Vec Ideal S1024x128 .f32) (D : Vec Ideal S1024x5632 .f32) (k : Fin 44) : View.Piece (Elt Ideal) S1024x5632 .fp8e5m2 :=
  ⟨cols k, codePiece (k0_pay6 (k0_pay2 M) (k0_pay3 M) k0_pay4) (View.ld D (cols k))⟩
theorem codePieces_eq (M : Vec Ideal S1024x128 .f32) (D : Vec Ideal S1024x5632 .f32) : codePieces M D = (List.finRange 44).reverse.map (onePiece M D) := rfl

/-- What the codes are, index by index. -/
def codeAt (D : FVec Ideal S1024x5632 .f32) (y : S1024x5632.Idx) : EReal := qv (D y) (Ideal.exp2 (0 - eOf D (y 0)))

theorem cols_row (k : Fin 44) (x : S1024x128.Idx) : (cols k).emb x 0 = x 0 := Fin.ext (by show 0 + 1 * (x 0).val = (x 0).val; omega)
theorem onePiece_at (c : Dev nD) (k : Fin 44) (x : S1024x128.Idx) : (onePiece (MX m c 11) (DA m c) k).2 x = codeAt (DA m c) ((cols k).emb x) := by
  refine (codePiece_at _ _ x).trans ?_
  rw [inv_at]
  exact congrArg (fun r => qv (DA m c ((cols k).emb x)) (Ideal.exp2 (0 - eOf (DA m c) r))) (cols_row k x).symm
theorem cols_mem (y : S1024x5632.Idx) (k : Fin 44) (h : k.val = (y 1).val / 128) : y ∈ (cols k).set := by
  have hy0 : (y 0).val < 1024 := (y 0).isLt
  unfold cols
  rw [Rect.mem_set_unit]
  intro a
  match a with
  | ⟨0, _⟩ => show 0 ≤ (y 0).val ∧ (y 0).val < 0 + 1024; omega
  | ⟨1, _⟩ => show 128 * k.val ≤ (y 1).val ∧ (y 1).val < 128 * k.val + 128; omega

/-- The kernel's codes at an index. -/
theorem codes_at (c : Dev nD) (y : S1024x5632.Idx) : codesOf (MX m c 11) (DA m c) y = codeAt (DA m c) y := by
  have hy : (y 1).val < 5632 := (y 1).isLt
  unfold codesOf
  rw [codePieces_eq]
  refine View.canon_apply_of_pieces (Val := Elt Ideal) (S := S1024x5632) (e := .fp8e5m2) (codeAt (DA m c)) _ ?_ y
    ⟨onePiece (MX m c 11) (DA m c) ⟨(y 1).val / 128, by omega⟩, List.mem_map_of_mem (List.mem_reverse.2 (List.mem_finRange _)), cols_mem y _ rfl⟩
  intro p hp x
  obtain ⟨k, _, rfl⟩ := List.mem_map.1 hp
  exact onePiece_at m c k x

/-- The codes after the run are the reference's. -/
theorem final9 (c : Dev nD) : (dats m 0 c).arrAt 9 (cfgs 0).N = REF9 (V m c main_v0) (V m c main_arg1) (V m c main_v1) (V m c main_arg3) (V m c main_arg6) (V m c main_v3) := by
  refine (dats m 0 c).arrAt_eq_of_after_last 9 t0_10 (by decide +kernel) _ fun j => ?_
  blk_simp
  rw [after0_9]
  refine (codes_at m c _).trans (Eq.trans ?_ (REF9_at _ _ _ _ _ _ _).symm)
  rw [DA_eq]
  rfl
/-- The scales after the run are the reference's. -/
theorem final10 (c : Dev nD) : (dats m 0 c).arrAt 10 (cfgs 0).N = REF10 (V m c main_v0) (V m c main_arg1) (V m c main_v1) (V m c main_arg3) (V m c main_arg6) (V m c main_v3) := by
  refine (dats m 0 c).arrAt_eq_of_after_last 10 t0_10 (by decide +kernel) _ fun j => ?_
  blk_simp
  rw [after0_10]
  refine (scale_at m c _).trans (Eq.trans ?_ (REF10_at _ _ _ _ _ _ _).symm)
  rw [DA_eq]
  rfl

end Cert.MlpIdeal.Value
end
-- ==== Proof.Mlp.RefValue.lean ====
module
public import proofs.«01_k».proof.Proof.Mlp.RefCodes
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.MlpRefIdeal.Whole
open Cert.MlpRefIdeal Cert.MlpRefIdeal.Gen
open Cert.MlpIdeal.Value (REF8 REF9 REF10)
variable (m : (ℓ : Loc nD τ sig) → Buf (Elt Ideal) ℓ)

/-- The one grid point's block of every window starts at the array's origin. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

theorem b0 (c : Dev nD) : iblk m c 0 t0_0 = V m c main_v0 := by blk_ext! [iblk, idx t0_0]
theorem b1 (c : Dev nD) : iblk m c 1 t0_0 = V m c main_arg1 := by blk_ext! [iblk, idx t0_0]
theorem b2 (c : Dev nD) : iblk m c 2 t0_0 = V m c main_v1 := by blk_ext! [iblk, idx t0_0]
theorem b3 (c : Dev nD) : iblk m c 3 t0_0 = V m c main_arg3 := by blk_ext! [iblk, idx t0_0]
theorem b4 (c : Dev nD) : iblk m c 4 t0_0 = V m c main_v2 := by blk_ext! [iblk, idx t0_0]
theorem b5 (c : Dev nD) : iblk m c 5 t0_0 = V m c main_arg5 := by blk_ext! [iblk, idx t0_0]
theorem b6 (c : Dev nD) : iblk m c 6 t0_0 = V m c main_arg6 := by blk_ext! [iblk, idx t0_0]
theorem b7 (c : Dev nD) : iblk m c 7 t0_0 = V m c main_v3 := by blk_ext! [iblk, idx t0_0]
theorem ld0 (X : Vec Ideal S1024x2048 .fp8e5m2) : View.ld X r0_0 = X := View.ld_unit_zero (funext fun a => match a with | ⟨0, _⟩ => rfl | ⟨1, _⟩ => rfl) _ X
theorem ld1 (X : Vec Ideal S1x1024 .f32) : View.ld X r0_1 = X := View.ld_unit_zero (funext fun a => match a with | ⟨0, _⟩ => rfl | ⟨1, _⟩ => rfl) _ X
theorem ld2 (X : Vec Ideal S5632x2048 .fp8e4m3) : View.ld X r0_2 = X := View.ld_unit_zero (funext fun a => match a with | ⟨0, _⟩ => rfl | ⟨1, _⟩ => rfl) _ X
theorem ld3 (X : Vec Ideal S1x2048 .f32) : View.ld X r0_3 = X := View.ld_unit_zero (funext fun a => match a with | ⟨0, _⟩ => rfl | ⟨1, _⟩ => rfl) _ X
theorem ld4 (X : Vec Ideal S1024x5632 .fp8e4m3) : View.ld X r0_4 = X := View.ld_unit_zero (funext fun a => match a with | ⟨0, _⟩ => rfl | ⟨1, _⟩ => rfl) _ X

/-- `dw_out` after the run. -/
theorem final8 (c : Dev nD) : (dats m 0 c).arrAt 8 (cfgs 0).N = REF8 (V m c main_v0) (V m c main_arg1) (V m c main_v2) (V m c main_arg5) := by
  refine (dats m 0 c).arrAt_eq_of_after_last 8 t0_0 (by decide +kernel) _ fun j => ?_
  blk_simp; rw [after0_8]; frame_out
  rw [b0, b1, b4, b5]
/-- The codes after the run. -/
theorem final9 (c : Dev nD) : (dats m 0 c).arrAt 9 (cfgs 0).N = REF9 (V m c main_v0) (V m c main_arg1) (V m c main_v1) (V m c main_arg3) (V m c main_arg6) (V m c main_v3) := by
  refine (dats m 0 c).arrAt_eq_of_after_last 9 t0_0 (by decide +kernel) _ fun j => ?_
  blk_simp; rw [after0_9]; frame_out
  rw [b0, b1, b2, b3, b6, b7]; simp only [REF9, k0_pay16, k0_pay17, k0_pay18, k0_pay19, k0_pay20]; rw [ld0, ld1, ld1, ld2, ld3, ld4]
/-- The scales after the run. -/
theorem final10 (c : Dev nD) : (dats m 0 c).arrAt 10 (cfgs 0).N = REF10 (V m c main_v0) (V m c main_arg1) (V m c main_v1) (V m c main_arg3) (V m c main_arg6) (V m c main_v3) := by
  refine (dats m 0 c).arrAt_eq_of_after_last 10 t0_0 (by decide +kernel) _ fun j => ?_
  blk_simp; rw [after0_10]; frame_out
  rw [b0, b1, b2, b3, b6, b7]; simp only [REF10, k0_pay16, k0_pay17, k0_pay18, k0_pay19, k0_pay20]; rw [ld0, ld1, ld1, ld2, ld3, ld4]

end Cert.MlpRefIdeal.Whole
end
-- ==== Proof.Mlp.Entry.lean ====
module
public import proofs.«01_k».proof.Proof.Mlp.RefValue
public import proofs.«01_k».proof.Proof.Mlp.Data
@[expose] public section
set_option maxRecDepth 16384
noncomputable section
open Idealize.ShloMosaic Idealize.ShloMosaic.TcCoe Idealize.SL.Sem
/-! The two programs' arrays when the pallas_call starts. Given the same arguments they are equal: each is an argument, or an
    argument reshaped. -/
namespace Cert.MlpEntry
variable (m : (ℓ : Loc Cert.MlpIdeal.nD Cert.MlpIdeal.τ Cert.MlpIdeal.sig) → Buf (Elt Ideal) ℓ)
variable (m' : (ℓ : Loc Cert.MlpRefIdeal.nD Cert.MlpRefIdeal.τ Cert.MlpRefIdeal.sig) → Buf (Elt Ideal) ℓ)
variable (c : Dev Cert.MlpIdeal.nD)

theorem arg1 (h : m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)) :
    Cert.MlpRefIdeal.Gen.V m' c Cert.MlpRefIdeal.main_arg1 = Cert.MlpIdeal.Gen.V m c Cert.MlpIdeal.main_arg1 :=
  (Cert.MlpRefIdeal.Gen.V_main_arg1 m' c).trans (h.trans (Cert.MlpIdeal.Gen.V_main_arg1 m c).symm)
theorem arg3 (h : m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) :
    Cert.MlpRefIdeal.Gen.V m' c Cert.MlpRefIdeal.main_arg3 = Cert.MlpIdeal.Gen.V m c Cert.MlpIdeal.main_arg3 :=
  (Cert.MlpRefIdeal.Gen.V_main_arg3 m' c).trans (h.trans (Cert.MlpIdeal.Gen.V_main_arg3 m c).symm)
theorem arg5 (h : m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) :
    Cert.MlpRefIdeal.Gen.V m' c Cert.MlpRefIdeal.main_arg5 = Cert.MlpIdeal.Gen.V m c Cert.MlpIdeal.main_arg5 :=
  (Cert.MlpRefIdeal.Gen.V_main_arg5 m' c).trans (h.trans (Cert.MlpIdeal.Gen.V_main_arg5 m c).symm)
theorem arg6 (h : m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) :
    Cert.MlpRefIdeal.Gen.V m' c Cert.MlpRefIdeal.main_arg6 = Cert.MlpIdeal.Gen.V m c Cert.MlpIdeal.main_arg6 :=
  (Cert.MlpRefIdeal.Gen.V_main_arg6 m' c).trans (h.trans (Cert.MlpIdeal.Gen.V_main_arg6 m c).symm)
theorem arg0 (h : m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)) :
    Cert.MlpRefIdeal.Gen.V m' c Cert.MlpRefIdeal.main_v0 = Cert.MlpIdeal.Gen.V m c Cert.MlpIdeal.main_v0 := by
  entry_read; exact congrArg (fun x => shapeCast Cert.MlpRefIdeal.main_v0.ty.shape x _) h
theorem arg2 (h : m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)) :
    Cert.MlpRefIdeal.Gen.V m' c Cert.MlpRefIdeal.main_v1 = Cert.MlpIdeal.Gen.V m c Cert.MlpIdeal.main_v1 := by
  entry_read; exact congrArg (fun x => shapeCast Cert.MlpRefIdeal.main_v1.ty.shape x _) h
theorem arg4 (h : m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) :
    Cert.MlpRefIdeal.Gen.V m' c Cert.MlpRefIdeal.main_v2 = Cert.MlpIdeal.Gen.V m c Cert.MlpIdeal.main_v2 := by
  entry_read; exact congrArg (fun x => shapeCast Cert.MlpRefIdeal.main_v2.ty.shape x _) h
theorem arg7 (h : m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) :
    Cert.MlpRefIdeal.Gen.V m' c Cert.MlpRefIdeal.main_v3 = Cert.MlpIdeal.Gen.V m c Cert.MlpIdeal.main_v3 := by
  entry_read; exact congrArg (fun x => shapeCast Cert.MlpRefIdeal.main_v3.ty.shape x _) h
end Cert.MlpEntry
end
-- ==== Proof.ProjBits.Conds.lean ====
module

public import proofs.«01_k».proof.Proof.Gen.Proj.Frame
public import proofs.«01_k».proof.Proof.Gen.Proj.Skeleton

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proj.Gen

variable {F : FTy → Type} [FloatOps F]

local notation "𝕄" => MT nD τ sig Unit (Elt F) ℕ (UR sig nD τ) ℕ

/-- The condition of the body's first `if`, from the grid coordinates. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    rw [show t.val = 0 ↔ t.val % 8 = 0 by omega]
    simp only [cond0, e0]
    word_cmp
   : ∀ t : Fin grid0.N, cond0 (grid0.coords t) ↔ t.val = 0)

/-- The condition of the body's second `if`, from the grid coordinates. -/
abbrev cond1 (i : grid0.Coords) : Prop := k0_cond2 i = 1#1
/-- It holds at the last point only. -/
theorem hcond1 : ∀ t : Fin cfg0.N, cond1 (grid0.coords t) ↔ t.val = 7 :=
  (fun t => by
    have ht : t.val < 8 := Nat.lt_of_lt_of_eq t.isLt N_0
    have e0 : (grid0.coords t 0).val = t.val / 1 % 8 := Pipeline.Grid.coords_val t 0 (by decide) rfl
    rw [show t.val = 7 ↔ t.val % 8 = 7 by omega]
    simp only [cond1, k0_cond2, e0]
    word_cmp
   : ∀ t : Fin grid0.N, cond1 (grid0.coords t) ↔ t.val = 7)

end Cert.Proj.Hand

end
-- ==== Proof.ProjBits.RunA.lean ====
module

public import proofs.«01_k».proof.Proof.ProjBits.Conds

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proj.Gen

variable {F : FTy → Type} [FloatOps F]

local notation "𝕄" => MT nD τ sig Unit (Elt F) ℕ (UR sig nD τ) ℕ

set_option maxHeartbeats 3200000 in
/-- The body at the first point: the five lane columns and the two running sums start here. The pieces each buffer ends with are the witness the run finds. -/
noncomputable def runA (c : Dev nD) (i : grid0.Coords) (arg1 : Memref sig .tc .vmem S1024x5632 .fp8e5m2) (harg1 : arg1.IsWhole) (arg2 : Memref sig .tc .vmem S1024x6144 .fp8e5m2) (harg2 : arg2.IsWhole) (arg3 : Memref sig .tc .vmem S256x5632 .fp8e4m3) (harg3 : arg3.IsWhole) (arg4 : Memref sig .tc .vmem S256x6144 .fp8e4m3) (harg4 : arg4.IsWhole) (arg5 : Memref sig .tc .vmem S1024x256 .fp8e4m3) (harg5 : arg5.IsWhole) (arg6 : Memref sig .tc .vmem S1x5632 .f32) (harg6 : arg6.IsWhole) (arg7 : Memref sig .tc .vmem S1x6144 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1024x2048 .fp8e5m2) (harg15 : arg15.IsWhole) (arg16 : Memref sig .tc .vmem S1024x2048 .fp8e4m3) (harg16 : arg16.IsWhole) (arg17 : Memref sig .tc .vmem S256x5632 .bf16) (harg17 : arg17.IsWhole) (arg18 : Memref sig .tc .vmem S256x6144 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S1024x2048 .bf16) (harg21 : arg21.IsWhole) (arg22 : Memref sig .tc .vmem S1024x2048 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x128 .f32) (harg27 : arg27.IsWhole) (hc0 : cond0 i) (hc1 : ¬cond1 i)
    (x0 : Vec F S1024x5632 .fp8e5m2) (x1 : Vec F S1024x6144 .fp8e5m2) (x2 : Vec F S256x5632 .fp8e4m3) (x3 : Vec F S256x6144 .fp8e4m3) (x4 : Vec F S1024x256 .fp8e4m3) (x5 : Vec F S1x5632 .f32) (x6 : Vec F S1x6144 .f32) (x7 : Vec F S1x1024 .f32) (x8 : Vec F S1x1024 .f32) (x9 : Vec F S1x1024 .f32) (x12 : Vec F S1x256 .f32) (x13 : Vec F S1x256 .f32) (xs0 : Vec F S1024x2048 .f32) :
    Σ' (L17 : List (View.Piece (Elt F) S256x5632 .bf16)), Σ' (L18 : List (View.Piece (Elt F) S256x6144 .bf16)), Σ' (L19 : List (View.Piece (Elt F) S1x256 .f32)), Σ' (L20 : List (View.Piece (Elt F) S1x256 .f32)), Σ' (L22 : List (View.Piece (Elt F) S1024x2048 .f32)), Σ' (L23 : List (View.Piece (Elt F) S1024x128 .f32)), Σ' (L24 : List (View.Piece (Elt F) S1024x128 .f32)), Σ' (L25 : List (View.Piece (Elt F) S1024x128 .f32)), Σ' (L26 : List (View.Piece (Elt F) S1024x128 .f32)), { L27 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x12 ∗ owns (c : Thread nD τ) arg14 fullShare x13 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg22 fullShare xs0 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x12 ∗ owns (c : Thread nD τ) arg14 fullShare x13 ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (arg22.view.loc (c : Thread nD τ) ↦[arg22.view.set]{fullShare} arg22.view.writes (Elt F) (harg22.unread xs0) L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25) ∗ (∃ f, arg26.view.loc (c : Thread nD τ) ↦[arg26.view.set]{fullShare} arg26.view.writes (Elt F) f L26) ∗ (∃ f, arg27.view.loc (c : Thread nD τ) ↦[arg27.view.set]{fullShare} arg27.view.writes (Elt F) f L27)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, fun E K => ?run⟩
  case run =>
    simp only [cc0_proj_eq_skeleton]; unfold cc0_proj_skel
    simp only [k0_part8_eq_skeleton, k0_part9_eq_skeleton, k0_part10_eq_skeleton, k0_part11_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f13, %hf13, H13⟩, ⟨%f14, %hf14, H14⟩, ⟨%d17, %f17, -, H17⟩, ⟨%d18, %f18, -, H18⟩, ⟨%d19, %f19, -, H19⟩, ⟨%d20, %f20, -, H20⟩, ⟨%f22, %hf22, H22⟩, ⟨%d23, %f23, -, H23⟩, ⟨%d24, %f24, -, H24⟩, ⟨%d25, %f25, -, H25⟩, ⟨%d26, %f26, -, H26⟩, ⟨%d27, %f27, -, H27⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13; obtain rfl := harg14.eq_unread hf14; obtain rfl := harg22.eq_unread hf22
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H13]
    · iexists _; isplitr; · ipureintro; exact harg13.read_unread _
      iexact H13
    isplitl [H14]
    · iexists _; isplitr; · ipureintro; exact harg14.read_unread _
      iexact H14
    isplitl [H17]
    · iexists _; iexact H17
    isplitl [H18]
    · iexists _; iexact H18
    isplitl [H19]
    · iexists _; iexact H19
    isplitl [H20]
    · iexists _; iexact H20
    isplitl [H22]
    · iexact H22
    isplitl [H23]
    · iexists _; iexact H23
    isplitl [H24]
    · iexists _; iexact H24
    isplitl [H25]
    · iexists _; iexact H25
    isplitl [H26]
    · iexists _; iexact H26
    iexists _; iexact H27

end Cert.Proj.Hand

end
-- ==== Proof.ProjBits.Point.lean ====
module

public import proofs.«01_k».proof.Proof.ProjBits.Conds

public import Idealize.ShloMosaic.Lib.Pipeline.ValueKit
public import Idealize.ShloMosaic.Lib.WritesUnit

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proj.Gen

variable {F : FTy → Type} [FloatOps F]

local notation "𝕄" => MT nD τ sig Unit (Elt F) ℕ (UR sig nD τ) ℕ

/-- What a point stores in its block of `dw_in`. -/
def dwIn (x0 : Vec F S1024x5632 .fp8e5m2) (x4 : Vec F S1024x256 .fp8e4m3) (x7 : Vec F S1x1024 .f32) (x9 : Vec F S1x1024 .f32) (x13 : Vec F S1x256 .f32) : Vec F S256x5632 .bf16 := k0_pay55 (k0_pay53 x4) x9 x13 x7 x0
/-- What a point stores in its block of `dw_qkv`. -/
def dwQkv (x1 : Vec F S1024x6144 .fp8e5m2) (x4 : Vec F S1024x256 .fp8e4m3) (x8 : Vec F S1x1024 .f32) (x9 : Vec F S1x1024 .f32) (x12 : Vec F S1x256 .f32) : Vec F S256x6144 .bf16 := k0_pay56 (k0_pay53 x4) x9 x12 x8 x1
/-- A point's block of `dgamma_attn`, stored as two halves of 128 columns. -/
def dGa (x1 : Vec F S1024x6144 .fp8e5m2) (x3 : Vec F S256x6144 .fp8e4m3) (x4 : Vec F S1024x256 .fp8e4m3) (x6 : Vec F S1x6144 .f32) (xs4 : Vec F S1024x128 .f32) (xs5 : Vec F S1024x128 .f32) : Vec F S1x256 .f32 :=
  View.canon [⟨Rect.unit ![0, 128] ![1, 128] inb_S1x256_S1x128_0_128, k0_pay47 (k0_pay43 xs5 (View.ld x4 (Rect.unit ![0, 128] ![1024, 128] inb_S1024x256_S1024x128_0_128))) (k0_pay44 (k0_pay32 x1 x3 x6) xs4)⟩,
    ⟨Rect.unit ![0, 0] ![1, 128] inb_S1x256_S1x128_0_0, k0_pay37 (k0_pay32 x1 x3 x6) xs4 xs5 (View.ld x4 (Rect.unit ![0, 0] ![1024, 128] inb_S1024x256_S1024x128_0_0))⟩]
/-- A point's block of `dgamma_mlp`, stored as two halves of 128 columns. -/
def dGm (x0 : Vec F S1024x5632 .fp8e5m2) (x2 : Vec F S256x5632 .fp8e4m3) (x4 : Vec F S1024x256 .fp8e4m3) (x5 : Vec F S1x5632 .f32) (xs3 : Vec F S1024x128 .f32) (xs5 : Vec F S1024x128 .f32) : Vec F S1x256 .f32 :=
  View.canon [⟨Rect.unit ![0, 128] ![1, 128] inb_S1x256_S1x128_0_128, k0_pay48 xs3 (k0_pay43 xs5 (View.ld x4 (Rect.unit ![0, 128] ![1024, 128] inb_S1024x256_S1024x128_0_128))) (k0_pay45 (k0_pay33 x0 x2 x5))⟩,
    ⟨Rect.unit ![0, 0] ![1, 128] inb_S1x256_S1x128_0_0, k0_pay38 (k0_pay33 x0 x2 x5) xs3 xs5 (View.ld x4 (Rect.unit ![0, 0] ![1024, 128] inb_S1024x256_S1024x128_0_0))⟩]
/-- The first 128 columns of a point's block of `dxhat`. -/
def dxh0 (x0 : Vec F S1024x5632 .fp8e5m2) (x1 : Vec F S1024x6144 .fp8e5m2) (x2 : Vec F S256x5632 .fp8e4m3) (x3 : Vec F S256x6144 .fp8e4m3) (x5 : Vec F S1x5632 .f32) (x6 : Vec F S1x6144 .f32) (x12 : Vec F S1x256 .f32) (x13 : Vec F S1x256 .f32) (xs3 : Vec F S1024x128 .f32) (xs4 : Vec F S1024x128 .f32) : Vec F S1024x128 .f32 :=
  k0_pay42 (k0_pay32 x1 x3 x6) (k0_pay33 x0 x2 x5) xs3 xs4 (View.ld x12 (Rect.unit ![0, 0] ![1, 128] inb_S1x256_S1x128_0_0)) (View.ld x13 (Rect.unit ![0, 0] ![1, 128] inb_S1x256_S1x128_0_0))
/-- The last 128 columns of a point's block of `dxhat`. -/
def dxh1 (x0 : Vec F S1024x5632 .fp8e5m2) (x1 : Vec F S1024x6144 .fp8e5m2) (x2 : Vec F S256x5632 .fp8e4m3) (x3 : Vec F S256x6144 .fp8e4m3) (x5 : Vec F S1x5632 .f32) (x6 : Vec F S1x6144 .f32) (x12 : Vec F S1x256 .f32) (x13 : Vec F S1x256 .f32) (xs3 : Vec F S1024x128 .f32) (xs4 : Vec F S1024x128 .f32) : Vec F S1024x128 .f32 :=
  k0_pay50 xs3 (k0_pay44 (k0_pay32 x1 x3 x6) xs4) (k0_pay45 (k0_pay33 x0 x2 x5)) (View.ld x12 (Rect.unit ![0, 128] ![1, 128] inb_S1x256_S1x128_0_128)) (View.ld x13 (Rect.unit ![0, 128] ![1, 128] inb_S1x256_S1x128_0_128))
/-- The lane sums of `dxhat` after a point. -/
def sumStep (x0 : Vec F S1024x5632 .fp8e5m2) (x1 : Vec F S1024x6144 .fp8e5m2) (x2 : Vec F S256x5632 .fp8e4m3) (x3 : Vec F S256x6144 .fp8e4m3) (x5 : Vec F S1x5632 .f32) (x6 : Vec F S1x6144 .f32) (x12 : Vec F S1x256 .f32) (x13 : Vec F S1x256 .f32) (xs1 : Vec F S1024x128 .f32) (xs3 : Vec F S1024x128 .f32) (xs4 : Vec F S1024x128 .f32) : Vec F S1024x128 .f32 :=
  k0_pay51 xs3 (k0_pay40 (k0_pay32 x1 x3 x6) (k0_pay33 x0 x2 x5) xs1 xs3 xs4 (View.ld x12 (Rect.unit ![0, 0] ![1, 128] inb_S1x256_S1x128_0_0)) (View.ld x13 (Rect.unit ![0, 0] ![1, 128] inb_S1x256_S1x128_0_0))) (k0_pay44 (k0_pay32 x1 x3 x6) xs4) (k0_pay45 (k0_pay33 x0 x2 x5)) (View.ld x12 (Rect.unit ![0, 128] ![1, 128] inb_S1x256_S1x128_0_128)) (View.ld x13 (Rect.unit ![0, 128] ![1, 128] inb_S1x256_S1x128_0_128))
/-- The lane sums of `dxhat * xhat` after a point. -/
def sumxStep (x0 : Vec F S1024x5632 .fp8e5m2) (x1 : Vec F S1024x6144 .fp8e5m2) (x2 : Vec F S256x5632 .fp8e4m3) (x3 : Vec F S256x6144 .fp8e4m3) (x4 : Vec F S1024x256 .fp8e4m3) (x5 : Vec F S1x5632 .f32) (x6 : Vec F S1x6144 .f32) (x12 : Vec F S1x256 .f32) (x13 : Vec F S1x256 .f32) (xs2 : Vec F S1024x128 .f32) (xs3 : Vec F S1024x128 .f32) (xs4 : Vec F S1024x128 .f32) (xs5 : Vec F S1024x128 .f32) : Vec F S1024x128 .f32 :=
  k0_pay52 xs3 (k0_pay41 (k0_pay32 x1 x3 x6) (k0_pay33 x0 x2 x5) xs2 xs3 xs4 xs5 (View.ld x4 (Rect.unit ![0, 0] ![1024, 128] inb_S1024x256_S1024x128_0_0)) (View.ld x12 (Rect.unit ![0, 0] ![1, 128] inb_S1x256_S1x128_0_0)) (View.ld x13 (Rect.unit ![0, 0] ![1, 128] inb_S1x256_S1x128_0_0))) (k0_pay43 xs5 (View.ld x4 (Rect.unit ![0, 128] ![1024, 128] inb_S1024x256_S1024x128_0_128))) (k0_pay44 (k0_pay32 x1 x3 x6) xs4) (k0_pay45 (k0_pay33 x0 x2 x5)) (View.ld x12 (Rect.unit ![0, 128] ![1, 128] inb_S1x256_S1x128_0_128)) (View.ld x13 (Rect.unit ![0, 128] ![1, 128] inb_S1x256_S1x128_0_128))
/-- An array with the columns `[n, n + 256)` replaced by two blocks of 128 columns. -/
def upd (n : ℕ) (X : Vec F S1024x2048 .f32) (p0 p1 : Vec F S1024x128 .f32) : Vec F S1024x2048 .f32 := fun y =>
  if n + 128 ≤ (y 1).val ∧ (y 1).val < n + 256 then p1 (ix2 (y 0) ⟨((y 1).val - n) % 128, Nat.mod_lt _ (by decide)⟩)
  else if n ≤ (y 1).val ∧ (y 1).val < n + 128 then p0 (ix2 (y 0) ⟨((y 1).val - n) % 128, Nat.mod_lt _ (by decide)⟩)
  else X y
/-- The sixteen stores of the last point into `dx`, from the whole `dxhat` (`D`) and the lane sums `T` and `T2`. -/
def dxPieces (x10 : Vec F S1x1024 .f32) (x11 : Vec F S1x1024 .f32) (x14 : Vec F S1024x2048 .fp8e5m2) (x15 : Vec F S1024x2048 .fp8e4m3) (xs5 : Vec F S1024x128 .f32) (D : Vec F S1024x2048 .f32) (T T2 : Vec F S1024x128 .f32) :
    List (View.Piece (Elt F) S1024x2048 .bf16) :=
  [⟨Rect.unit ![0, 1920] ![1024, 128] inb_S1024x2048_S1024x128_0_1920, k0_pay26 (k0_pay1 T) (k0_pay2 x10) (k0_pay3 x11) (k0_pay4 T2 xs5) (View.ld D (Rect.unit ![0, 1920] ![1024, 128] inb_S1024x2048_S1024x128_0_1920)) (View.ld x15 (Rect.unit ![0, 1920] ![1024, 128] inb_S1024x2048_S1024x128_0_1920)) (View.ld x14 (Rect.unit ![0, 1920] ![1024, 128] inb_S1024x2048_S1024x128_0_1920))⟩,
    ⟨Rect.unit ![0, 1792] ![1024, 128] inb_S1024x2048_S1024x128_0_1792, k0_pay25 (k0_pay1 T) (k0_pay2 x10) (k0_pay3 x11) (k0_pay4 T2 xs5) (View.ld D (Rect.unit ![0, 1792] ![1024, 128] inb_S1024x2048_S1024x128_0_1792)) (View.ld x15 (Rect.unit ![0, 1792] ![1024, 128] inb_S1024x2048_S1024x128_0_1792)) (View.ld x14 (Rect.unit ![0, 1792] ![1024, 128] inb_S1024x2048_S1024x128_0_1792))⟩,
    ⟨Rect.unit ![0, 1664] ![1024, 128] inb_S1024x2048_S1024x128_0_1664, k0_pay24 (k0_pay2 x10) (k0_pay3 x11) (k0_pay22 (k0_pay1 T) (View.ld D (Rect.unit ![0, 1664] ![1024, 128] inb_S1024x2048_S1024x128_0_1664))) (k0_pay23 (k0_pay4 T2 xs5) (View.ld x15 (Rect.unit ![0, 1664] ![1024, 128] inb_S1024x2048_S1024x128_0_1664))) (View.ld x14 (Rect.unit ![0, 1664] ![1024, 128] inb_S1024x2048_S1024x128_0_1664))⟩,
    ⟨Rect.unit ![0, 1536] ![1024, 128] inb_S1024x2048_S1024x128_0_1536, k0_pay21 (k0_pay1 T) (k0_pay2 x10) (k0_pay3 x11) (k0_pay4 T2 xs5) (View.ld D (Rect.unit ![0, 1536] ![1024, 128] inb_S1024x2048_S1024x128_0_1536)) (View.ld x15 (Rect.unit ![0, 1536] ![1024, 128] inb_S1024x2048_S1024x128_0_1536)) (View.ld x14 (Rect.unit ![0, 1536] ![1024, 128] inb_S1024x2048_S1024x128_0_1536))⟩,
    ⟨Rect.unit ![0, 1408] ![1024, 128] inb_S1024x2048_S1024x128_0_1408, k0_pay20 (k0_pay1 T) (k0_pay2 x10) (k0_pay3 x11) (k0_pay4 T2 xs5) (View.ld D (Rect.unit ![0, 1408] ![1024, 128] inb_S1024x2048_S1024x128_0_1408)) (View.ld x15 (Rect.unit ![0, 1408] ![1024, 128] inb_S1024x2048_S1024x128_0_1408)) (View.ld x14 (Rect.unit ![0, 1408] ![1024, 128] inb_S1024x2048_S1024x128_0_1408))⟩,
    ⟨Rect.unit ![0, 1280] ![1024, 128] inb_S1024x2048_S1024x128_0_1280, k0_pay19 (k0_pay1 T) (k0_pay2 x10) (k0_pay3 x11) (k0_pay4 T2 xs5) (View.ld D (Rect.unit ![0, 1280] ![1024, 128] inb_S1024x2048_S1024x128_0_1280)) (View.ld x15 (Rect.unit ![0, 1280] ![1024, 128] inb_S1024x2048_S1024x128_0_1280)) (View.ld x14 (Rect.unit ![0, 1280] ![1024, 128] inb_S1024x2048_S1024x128_0_1280))⟩,
    ⟨Rect.unit ![0, 1152] ![1024, 128] inb_S1024x2048_S1024x128_0_1152, k0_pay18 (k0_pay1 T) (k0_pay2 x10) (k0_pay3 x11) (k0_pay4 T2 xs5) (View.ld D (Rect.unit ![0, 1152] ![1024, 128] inb_S1024x2048_S1024x128_0_1152)) (View.ld x15 (Rect.unit ![0, 1152] ![1024, 128] inb_S1024x2048_S1024x128_0_1152)) (View.ld x14 (Rect.unit ![0, 1152] ![1024, 128] inb_S1024x2048_S1024x128_0_1152))⟩,
    ⟨Rect.unit ![0, 1024] ![1024, 128] inb_S1024x2048_S1024x128_0_1024, k0_pay17 (k0_pay2 x10) (k0_pay3 x11) (k0_pay15 (k0_pay1 T) (View.ld D (Rect.unit ![0, 1024] ![1024, 128] inb_S1024x2048_S1024x128_0_1024))) (k0_pay16 (k0_pay4 T2 xs5) (View.ld x15 (Rect.unit ![0, 1024] ![1024, 128] inb_S1024x2048_S1024x128_0_1024))) (View.ld x14 (Rect.unit ![0, 1024] ![1024, 128] inb_S1024x2048_S1024x128_0_1024))⟩,
    ⟨Rect.unit ![0, 896] ![1024, 128] inb_S1024x2048_S1024x128_0_896, k0_pay14 (k0_pay1 T) (k0_pay2 x10) (k0_pay3 x11) (k0_pay4 T2 xs5) (View.ld D (Rect.unit ![0, 896] ![1024, 128] inb_S1024x2048_S1024x128_0_896)) (View.ld x15 (Rect.unit ![0, 896] ![1024, 128] inb_S1024x2048_S1024x128_0_896)) (View.ld x14 (Rect.unit ![0, 896] ![1024, 128] inb_S1024x2048_S1024x128_0_896))⟩,
    ⟨Rect.unit ![0, 768] ![1024, 128] inb_S1024x2048_S1024x128_0_768, k0_pay13 (k0_pay1 T) (k0_pay2 x10) (k0_pay3 x11) (k0_pay4 T2 xs5) (View.ld D (Rect.unit ![0, 768] ![1024, 128] inb_S1024x2048_S1024x128_0_768)) (View.ld x15 (Rect.unit ![0, 768] ![1024, 128] inb_S1024x2048_S1024x128_0_768)) (View.ld x14 (Rect.unit ![0, 768] ![1024, 128] inb_S1024x2048_S1024x128_0_768))⟩,
    ⟨Rect.unit ![0, 640] ![1024, 128] inb_S1024x2048_S1024x128_0_640, k0_pay12 (k0_pay1 T) (k0_pay2 x10) (k0_pay3 x11) (k0_pay4 T2 xs5) (View.ld D (Rect.unit ![0, 640] ![1024, 128] inb_S1024x2048_S1024x128_0_640)) (View.ld x15 (Rect.unit ![0, 640] ![1024, 128] inb_S1024x2048_S1024x128_0_640)) (View.ld x14 (Rect.unit ![0, 640] ![1024, 128] inb_S1024x2048_S1024x128_0_640))⟩,
    ⟨Rect.unit ![0, 512] ![1024, 128] inb_S1024x2048_S1024x128_0_512, k0_pay11 (k0_pay1 T) (k0_pay2 x10) (k0_pay3 x11) (k0_pay4 T2 xs5) (View.ld D (Rect.unit ![0, 512] ![1024, 128] inb_S1024x2048_S1024x128_0_512)) (View.ld x15 (Rect.unit ![0, 512] ![1024, 128] inb_S1024x2048_S1024x128_0_512)) (View.ld x14 (Rect.unit ![0, 512] ![1024, 128] inb_S1024x2048_S1024x128_0_512))⟩,
    ⟨Rect.unit ![0, 384] ![1024, 128] inb_S1024x2048_S1024x128_0_384, k0_pay10 (k0_pay2 x10) (k0_pay3 x11) (k0_pay8 (k0_pay1 T) (View.ld D (Rect.unit ![0, 384] ![1024, 128] inb_S1024x2048_S1024x128_0_384))) (k0_pay9 (k0_pay4 T2 xs5) (View.ld x15 (Rect.unit ![0, 384] ![1024, 128] inb_S1024x2048_S1024x128_0_384))) (View.ld x14 (Rect.unit ![0, 384] ![1024, 128] inb_S1024x2048_S1024x128_0_384))⟩,
    ⟨Rect.unit ![0, 256] ![1024, 128] inb_S1024x2048_S1024x128_0_256, k0_pay7 (k0_pay1 T) (k0_pay2 x10) (k0_pay3 x11) (k0_pay4 T2 xs5) (View.ld D (Rect.unit ![0, 256] ![1024, 128] inb_S1024x2048_S1024x128_0_256)) (View.ld x15 (Rect.unit ![0, 256] ![1024, 128] inb_S1024x2048_S1024x128_0_256)) (View.ld x14 (Rect.unit ![0, 256] ![1024, 128] inb_S1024x2048_S1024x128_0_256))⟩,
    ⟨Rect.unit ![0, 128] ![1024, 128] inb_S1024x2048_S1024x128_0_128, k0_pay6 (k0_pay1 T) (k0_pay2 x10) (k0_pay3 x11) (k0_pay4 T2 xs5) (View.ld D (Rect.unit ![0, 128] ![1024, 128] inb_S1024x2048_S1024x128_0_128)) (View.ld x15 (Rect.unit ![0, 128] ![1024, 128] inb_S1024x2048_S1024x128_0_128)) (View.ld x14 (Rect.unit ![0, 128] ![1024, 128] inb_S1024x2048_S1024x128_0_128))⟩,
    ⟨Rect.unit ![0, 0] ![1024, 128] inb_S1024x2048_S1024x128_0_0, k0_pay5 T T2 x10 x11 xs5 (View.ld D (Rect.unit ![0, 0] ![1024, 128] inb_S1024x2048_S1024x128_0_0)) (View.ld x15 (Rect.unit ![0, 0] ![1024, 128] inb_S1024x2048_S1024x128_0_0)) (View.ld x14 (Rect.unit ![0, 0] ![1024, 128] inb_S1024x2048_S1024x128_0_0))⟩]

/-- Two stores of 128 columns each, at `n` and `n + 128`, leave `upd`. -/
theorem read_two {sig' : RefSig} {κ : Kind} {sp : Space} (v : View sig' κ sp S1024x2048 .f32) (f : v.ty.Contents (Elt F)) (n : ℕ) (o0 o1 : Fin 2 → ℕ)
    (h0 : o0 = ![0, n]) (h1 : o1 = ![0, n + 128])
    (inb0 : ∀ a, o0 a + (![1024, 128] : Fin 2 → ℕ) a ≤ S1024x2048.size a) (inb1 : ∀ a, o1 a + (![1024, 128] : Fin 2 → ℕ) a ≤ S1024x2048.size a)
    (p0 p1 : Vec F S1024x128 .f32) :
    v.read (Elt F) (v.writes (Elt F) f [⟨Rect.unit (s := S1024x2048) o1 ![1024, 128] inb1, p1⟩, ⟨Rect.unit (s := S1024x2048) o0 ![1024, 128] inb0, p0⟩])
      = upd n (v.read (Elt F) f) p0 p1 := by
  funext y
  have hy0 : (y 0).val < 1024 := (y 0).isLt
  unfold upd
  by_cases c1 : n + 128 ≤ (y 1).val ∧ (y 1).val < n + 256
  · rw [if_pos c1]
    refine View.read_writes_cons_unit_of_mem v f inb1 p1 _ y _ h1 (Fin.forall_fin_two.mpr ⟨?_, ?_⟩)
    · show (y 0).val = 0 + (y 0).val
      omega
    · show (y 1).val = n + 128 + ((y 1).val - n) % 128
      omega
  rw [if_neg c1]
  rw [View.read_writes_cons_unit_of_not_mem v f inb1 p1 _ y h1 (1 : Fin 2) (by
    show (y 1).val < n + 128 ∨ n + 128 + 128 ≤ (y 1).val
    omega)]
  by_cases c0 : n ≤ (y 1).val ∧ (y 1).val < n + 128
  · rw [if_pos c0]
    refine View.read_writes_cons_unit_of_mem v f inb0 p0 _ y _ h0 (Fin.forall_fin_two.mpr ⟨?_, ?_⟩)
    · show (y 0).val = 0 + (y 0).val
      omega
    · show (y 1).val = n + ((y 1).val - n) % 128
      omega
  rw [if_neg c0]
  rw [View.read_writes_cons_unit_of_not_mem v f inb0 p0 _ y h0 (1 : Fin 2) (by
    show (y 1).val < n ∨ n + 128 ≤ (y 1).val
    omega)]
  rfl

/-- The columns at which a point stores the halves of its block. -/
theorem off0 (i : grid0.Coords) : (![0, BitVec.toNat (Scalar.indexCast (Scalar.addi (Scalar.muli (BitVec.ofNat 32 ↑(i 0)) 256#32) 0#32))] : Fin 2 → ℕ)
    = ![0, 256 * (i 0).val] :=
  congrArg (fun n => (![0, n] : Fin 2 → ℕ)) ((by decide +kernel : ∀ k : Fin 8, BitVec.toNat (Scalar.indexCast (Scalar.addi (Scalar.muli (BitVec.ofNat 32 k.val) 256#32) 0#32)) = 256 * k.val) (i 0))
theorem off1 (i : grid0.Coords) : (![0, BitVec.toNat (Scalar.indexCast (Scalar.addi (Scalar.muli (BitVec.ofNat 32 ↑(i 0)) 256#32) 128#32))] : Fin 2 → ℕ)
    = ![0, 256 * (i 0).val + 128] :=
  congrArg (fun n => (![0, n] : Fin 2 → ℕ)) ((by decide +kernel : ∀ k : Fin 8, BitVec.toNat (Scalar.indexCast (Scalar.addi (Scalar.muli (BitVec.ofNat 32 k.val) 256#32) 128#32)) = 256 * k.val + 128) (i 0))

/-- A store of the whole buffer leaves its payload. -/
theorem read_whole {sig' : RefSig} {κ : Kind} {sp : Space} {S : Shape} {e : EltTy} (v : View sig' κ sp S e) (f : v.ty.Contents (Elt F))
    {off : Fin S.rank → Nat} (inb : ∀ a, off a + S.size a ≤ S.size a) (w : S.Idx → Elt F e) (L : List (View.Piece (Elt F) S e)) (h : ∀ a, off a = 0) :
    v.read (Elt F) (v.writes (Elt F) f ((⟨Rect.unit off (no_index S.size) inb, w⟩ : View.Piece (Elt F) S e) :: L)) = w := by
  funext y
  exact View.read_writes_cons_unit_of_mem v f inb w L y y rfl (fun a => by rw [h a, Nat.zero_add])

end Cert.Proj.Hand

end
-- ==== Proof.ProjBits.ReadsA.lean ====
module

public import proofs.«01_k».proof.Proof.ProjBits.RunA

public import proofs.«01_k».proof.Proof.ProjBits.Point

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proj.Gen

variable {F : FTy → Type} [FloatOps F]

local notation "𝕄" => MT nD τ sig Unit (Elt F) ℕ (UR sig nD τ) ℕ

section
variable (c : Dev nD) (i : grid0.Coords)
    (arg1 : Memref sig .tc .vmem S1024x5632 .fp8e5m2) (harg1 : arg1.IsWhole) (arg2 : Memref sig .tc .vmem S1024x6144 .fp8e5m2) (harg2 : arg2.IsWhole) (arg3 : Memref sig .tc .vmem S256x5632 .fp8e4m3) (harg3 : arg3.IsWhole) (arg4 : Memref sig .tc .vmem S256x6144 .fp8e4m3) (harg4 : arg4.IsWhole) (arg5 : Memref sig .tc .vmem S1024x256 .fp8e4m3) (harg5 : arg5.IsWhole) (arg6 : Memref sig .tc .vmem S1x5632 .f32) (harg6 : arg6.IsWhole) (arg7 : Memref sig .tc .vmem S1x6144 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1024x2048 .fp8e5m2) (harg15 : arg15.IsWhole) (arg16 : Memref sig .tc .vmem S1024x2048 .fp8e4m3) (harg16 : arg16.IsWhole) (arg17 : Memref sig .tc .vmem S256x5632 .bf16) (harg17 : arg17.IsWhole) (arg18 : Memref sig .tc .vmem S256x6144 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S1024x2048 .bf16) (harg21 : arg21.IsWhole) (arg22 : Memref sig .tc .vmem S1024x2048 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x128 .f32) (harg27 : arg27.IsWhole)
    (hc0 : cond0 i) (hc1 : ¬cond1 i)
    (x0 : Vec F S1024x5632 .fp8e5m2) (x1 : Vec F S1024x6144 .fp8e5m2) (x2 : Vec F S256x5632 .fp8e4m3) (x3 : Vec F S256x6144 .fp8e4m3) (x4 : Vec F S1024x256 .fp8e4m3) (x5 : Vec F S1x5632 .f32) (x6 : Vec F S1x6144 .f32) (x7 : Vec F S1x1024 .f32) (x8 : Vec F S1x1024 .f32) (x9 : Vec F S1x1024 .f32) (x12 : Vec F S1x256 .f32) (x13 : Vec F S1x256 .f32) (xs0 : Vec F S1024x2048 .f32)
/-- What the first point leaves in dw_in. -/
theorem runA_17 :
    ∀ f, arg17.view.read (Elt F) (arg17.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).1)
      = dwIn x0 x4 x7 x9 x13 := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in dw_qkv. -/
theorem runA_18 :
    ∀ f, arg18.view.read (Elt F) (arg18.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.1)
      = dwQkv x1 x4 x8 x9 x12 := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in dgamma_attn. -/
theorem runA_19 :
    ∀ f, arg19.view.read (Elt F) (arg19.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.1)
      = dGa x1 x3 x4 x6 (k0_pay30 x8) (k0_pay31 x9) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1, 128] (by rfl))]
  rfl

/-- What the first point leaves in dgamma_mlp. -/
theorem runA_20 :
    ∀ f, arg20.view.read (Elt F) (arg20.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.2.1)
      = dGm x0 x2 x4 x5 (k0_pay29 x7) (k0_pay31 x9) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1, 128] (by rfl))]
  rfl

/-- What the first point leaves in the scratch of dxhat. -/
theorem runA_22 :
    arg22.view.read (Elt F) (arg22.view.writes (Elt F) (harg22.unread xs0) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.2.2.1)
      = upd (256 * (i 0).val) xs0 (dxh0 x0 x1 x2 x3 x5 x6 x12 x13 (k0_pay29 x7) (k0_pay30 x8)) (dxh1 x0 x1 x2 x3 x5 x6 x12 x13 (k0_pay29 x7) (k0_pay30 x8)) := by
  unfold runA; dsimp only; sl_unfold_words; simp (disch := decide) only [View.readAt_eq_ld, Memref.IsWhole.read_unread, View.ld_unit_lit, View.canon_cons_unit_lit, View.readCov_unit_lit, View.readCov_cons_unit_lit', read_whole]
  exact (read_two arg22.view (harg22.unread xs0) (256 * (i 0).val) _ _ (off0 i) (off1 i) _ _ _ _).trans (by rw [harg22.read_unread]; rfl)

/-- What the first point leaves in the lane sums of dxhat. -/
theorem runA_23 :
    ∀ f, arg23.view.read (Elt F) (arg23.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.2.2.2.1)
      = sumStep x0 x1 x2 x3 x5 x6 x12 x13 k0_pay27 (k0_pay29 x7) (k0_pay30 x8) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the lane sums of dxhat * xhat. -/
theorem runA_24 :
    ∀ f, arg24.view.read (Elt F) (arg24.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.2.2.2.2.1)
      = sumxStep x0 x1 x2 x3 x4 x5 x6 x12 x13 k0_pay28 (k0_pay29 x7) (k0_pay30 x8) (k0_pay31 x9) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the column of da_scale. -/
theorem runA_25 :
    ∀ f, arg25.view.read (Elt F) (arg25.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.2.2.2.2.2.1)
      = (k0_pay29 x7) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the column of dqkv_scale. -/
theorem runA_26 :
    ∀ f, arg26.view.read (Elt F) (arg26.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.2.2.2.2.2.2.1)
      = (k0_pay30 x8) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the column of xhat_scale. -/
theorem runA_27 :
    ∀ f, arg27.view.read (Elt F) (arg27.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.2.2.2.2.2.2.2.1)
      = (k0_pay31 x9) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

end

end Cert.Proj.Hand

end
-- ==== Proof.ProjBits.Data.lean ====
module

public import proofs.«01_k».proof.Proof.ProjBits.Point

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The column of `da_scale`, in 128 lanes. -/
def cA (c : Dev nD) : Vec F S1024x128 .f32 := k0_pay29 (iblk m c 7 t0_0)
/-- The column of `dqkv_scale`, in 128 lanes. -/
def cQ (c : Dev nD) : Vec F S1024x128 .f32 := k0_pay30 (iblk m c 8 t0_0)
/-- The column of `xhat_scale`, in 128 lanes. -/
def cX (c : Dev nD) : Vec F S1024x128 .f32 := k0_pay31 (iblk m c 9 t0_0)
/-- The two halves of point `t`'s block of `dxhat`. -/
def hA (c : Dev nD) (t : Fin cfg0.N) : Vec F S1024x128 .f32 := dxh0 (iblk m c 0 t) (iblk m c 1 t) (iblk m c 2 t) (iblk m c 3 t) (iblk m c 5 t) (iblk m c 6 t) (iblk m c 12 t) (iblk m c 13 t) (cA m c) (cQ m c)
def hB (c : Dev nD) (t : Fin cfg0.N) : Vec F S1024x128 .f32 := dxh1 (iblk m c 0 t) (iblk m c 1 t) (iblk m c 2 t) (iblk m c 3 t) (iblk m c 5 t) (iblk m c 6 t) (iblk m c 12 t) (iblk m c 13 t) (cA m c) (cQ m c)
/-- The lane sums of `dxhat` after `n` points. -/
def SM (c : Dev nD) : ℕ → Vec F S1024x128 .f32
  | 0 => k0_pay27
  | n + 1 => if h : n < cfg0.N then sumStep (iblk m c 0 ⟨n, h⟩) (iblk m c 1 ⟨n, h⟩) (iblk m c 2 ⟨n, h⟩) (iblk m c 3 ⟨n, h⟩) (iblk m c 5 ⟨n, h⟩) (iblk m c 6 ⟨n, h⟩) (iblk m c 12 ⟨n, h⟩) (iblk m c 13 ⟨n, h⟩) (SM c n) (cA m c) (cQ m c) else SM c n
/-- The lane sums of `dxhat * xhat` after `n` points. -/
def SMX (c : Dev nD) : ℕ → Vec F S1024x128 .f32
  | 0 => k0_pay28
  | n + 1 => if h : n < cfg0.N then sumxStep (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 12 ⟨n, h⟩) (iblk m c 13 ⟨n, h⟩) (SMX c n) (cA m c) (cQ m c) (cX m c) else SMX c n
theorem SM_succ (c : Dev nD) (t : Fin cfg0.N) : SM m c (t.val + 1) = sumStep (iblk m c 0 t) (iblk m c 1 t) (iblk m c 2 t) (iblk m c 3 t) (iblk m c 5 t) (iblk m c 6 t) (iblk m c 12 t) (iblk m c 13 t) (SM m c t.val) (cA m c) (cQ m c) := by
  rw [SM, dif_pos t.isLt]
theorem SMX_succ (c : Dev nD) (t : Fin cfg0.N) : SMX m c (t.val + 1) = sumxStep (iblk m c 0 t) (iblk m c 1 t) (iblk m c 2 t) (iblk m c 3 t) (iblk m c 4 t) (iblk m c 5 t) (iblk m c 6 t) (iblk m c 12 t) (iblk m c 13 t) (SMX m c t.val) (cA m c) (cQ m c) (cX m c) := by
  rw [SMX, dif_pos t.isLt]
/-- The point whose block holds a column. -/
def ptOf (y : S1024x2048.Idx) : Fin cfg0.N := ⟨(y 1).val / 256, by
  have h : (y 1).val < 2048 := (y 1).isLt
  rw [show cfg0.N = 8 from N_0]; omega⟩
/-- The whole `dxhat`: each point's two halves side by side. -/
def DXH (c : Dev nD) : Vec F S1024x2048 .f32 := fun y =>
  if 128 ≤ (y 1).val % 256 then hB m c (ptOf y) (ix2 (y 0) ⟨(y 1).val % 128, Nat.mod_lt _ (by decide)⟩)
  else hA m c (ptOf y) (ix2 (y 0) ⟨(y 1).val % 128, Nat.mod_lt _ (by decide)⟩)
/-- The scratch holds `dxhat` on the columns of the first `n` points. -/
def Agree (c : Dev nD) (n : ℕ) (X : Vec F S1024x2048 .f32) : Prop := ∀ y, (y 1).val < 256 * n → X y = DXH m c y

theorem coord (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- A point extends the agreement by its 256 columns. -/
theorem agree_upd (c : Dev nD) (t : Fin cfg0.N) (X : Vec F S1024x2048 .f32) (h : Agree m c t.val X) :
    Agree m c (t.val + 1) (upd (256 * (grid0.coords t 0).val) X (hA m c t) (hB m c t)) := by
  intro y hy
  rw [coord t]
  have ey : ∀ z : ℕ, z = (y 1).val % 128 → ∀ hz : z < 128, (⟨z, hz⟩ : Fin 128) = ⟨(y 1).val % 128, Nat.mod_lt _ (by decide)⟩ := fun z e _ => Fin.ext e
  have ep : 256 * t.val ≤ (y 1).val → ptOf y = t := fun hle => Fin.ext (by show (y 1).val / 256 = t.val; omega)
  unfold upd DXH
  by_cases c1 : 256 * t.val + 128 ≤ (y 1).val ∧ (y 1).val < 256 * t.val + 256
  · rw [if_pos c1, if_pos (by omega), ep (by omega), ey _ (by omega)]
  rw [if_neg c1]
  by_cases c0 : 256 * t.val ≤ (y 1).val ∧ (y 1).val < 256 * t.val + 128
  · rw [if_pos c0, if_neg (by omega), ep (by omega), ey _ (by omega)]
  rw [if_neg c0]
  exact h y (by omega)
/-- After the last point the scratch is the whole `dxhat`. -/
theorem agree_all (c : Dev nD) (X : Vec F S1024x2048 .f32) (h : Agree m c 8 X) : X = DXH m c :=
  funext fun y => h y (by have : (y 1).val < 2048 := (y 1).isLt; omega)

abbrev ms0_0 (t : Fin cfg0.N) : Memref sig .tc .vmem S1024x5632 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x6144 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x5632 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x6144 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5632 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x6144 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x2048 .fp8e5m2 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x2048 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x5632 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x6144 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x256 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1024x2048 .bf16 := win0_20.stage (cfg0.slots t 20)
abbrev hs0_20 (t : Fin cfg0.N) : (ms0_20 t).IsWhole := hstage0_20 ((cfg0.slots t 20).cast nbuf0_20)
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl
theorem liveAt0_17 : ∀ t : Fin cfg0.N, cfg0.idle 17 (grid0.coords t) = false := fun _ => rfl
theorem liveAt0_18 : ∀ t : Fin cfg0.N, cfg0.idle 18 (grid0.coords t) = false := fun _ => rfl
theorem liveAt0_19 : ∀ t : Fin cfg0.N, cfg0.idle 19 (grid0.coords t) = false := fun _ => rfl
/-- `dx` is stored at the last point only. -/
theorem idle20 (t : Fin cfg0.N) (h : ¬t.val = 7) : cfg0.idle 20 (grid0.coords t) = true := by
  show (!(k0_cond2 (grid0.coords t) == 1#1)) = true
  rw [beq_eq_false_iff_ne.mpr (fun e => h ((hcond1 t).mp e))]; rfl
theorem live20 (t : Fin cfg0.N) (h : t.val = 7) : cfg0.idle 20 (grid0.coords t) = false := by
  show (!(k0_cond2 (grid0.coords t) == 1#1)) = false
  rw [(hcond1 t).mpr h]; rfl
theorem noflush20 (t : Fin cfg0.N) (h : ¬t.val = 7) : (cfg0.win 20).flush t = false := by
  have ht : t.val < 8 := Nat.lt_of_lt_of_eq t.isLt N_0
  rw [← Bool.not_eq_true]
  exact fun e => by have := (flush0_20 t).mp e; omega
/-- Scratch operand 0. -/
abbrev scM0_0 : Memref sig .tc .vmem S1024x2048 .f32 := Memref.whole cc0_scratch0
/-- Scratch operand 1. -/
abbrev scM0_1 : Memref sig .tc .vmem S1024x128 .f32 := Memref.whole cc0_scratch1
/-- Scratch operand 2. -/
abbrev scM0_2 : Memref sig .tc .vmem S1024x128 .f32 := Memref.whole cc0_scratch2
/-- Scratch operand 3. -/
abbrev scM0_3 : Memref sig .tc .vmem S1024x128 .f32 := Memref.whole cc0_scratch3
/-- Scratch operand 4. -/
abbrev scM0_4 : Memref sig .tc .vmem S1024x128 .f32 := Memref.whole cc0_scratch4
/-- Scratch operand 5. -/
abbrev scM0_5 : Memref sig .tc .vmem S1024x128 .f32 := Memref.whole cc0_scratch5
/-- The region's invariant with the scratch as memrefs owned at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- What the scratch holds before point `n`: anything at first; later the columns of `dxhat` so far, the lane sums so far
    and the three columns of scales. -/
def PhiS (c : Dev nD) : (n : ℕ) → n ≤ cfg0.N → sProp 𝕄
  | 0, _ => Pipeline.ΦA spec0 c
  | n + 1, hn => iprop(iprop((∃ X, ⌜Agree m c (n + 1) X⌝ ∗ owns (c : Thread nD τ) scM0_0 fullShare X) ∗ owns (c : Thread nD τ) scM0_1 fullShare (SM m c (n + 1)) ∗ owns (c : Thread nD τ) scM0_2 fullShare (SMX m c (n + 1)) ∗ owns (c : Thread nD τ) scM0_3 fullShare (cA m c) ∗ owns (c : Thread nD τ) scM0_4 fullShare (cQ m c) ∗ owns (c : Thread nD τ) scM0_5 fullShare (cX m c)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ X, ⌜Agree m c (n + 1) X⌝ ∗ owns (c : Thread nD τ) scM0_0 fullShare X) ∗ owns (c : Thread nD τ) scM0_1 fullShare (SM m c (n + 1)) ∗ owns (c : Thread nD τ) scM0_2 fullShare (SMX m c (n + 1)) ∗ owns (c : Thread nD τ) scM0_3 fullShare (cA m c) ∗ owns (c : Thread nD τ) scM0_4 fullShare (cQ m c) ∗ owns (c : Thread nD τ) scM0_5 fullShare (cX m c)) ∗ (∃ r, prngReg c r)) := rfl
theorem PhiS_pos (c : Dev nD) (n : ℕ) (h : n ≤ cfg0.N) (hz : n ≠ 0) :
    PhiS m c n h = iprop(iprop((∃ X, ⌜Agree m c n X⌝ ∗ owns (c : Thread nD τ) scM0_0 fullShare X) ∗ owns (c : Thread nD τ) scM0_1 fullShare (SM m c n) ∗ owns (c : Thread nD τ) scM0_2 fullShare (SMX m c n) ∗ owns (c : Thread nD τ) scM0_3 fullShare (cA m c) ∗ owns (c : Thread nD τ) scM0_4 fullShare (cQ m c) ∗ owns (c : Thread nD τ) scM0_5 fullShare (cX m c)) ∗ (∃ r, prngReg c r)) := by
  cases n with
  | zero => exact absurd rfl hz
  | succ n => rfl

/-- The proof data of the pipeline on core `c`: the arrays as the region finds them, what each point leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => dwIn (iblk m c 0 t) (iblk m c 4 t) (iblk m c 7 t) (iblk m c 9 t) (iblk m c 13 t)
    | ⟨17, _⟩ => dwQkv (iblk m c 1 t) (iblk m c 4 t) (iblk m c 8 t) (iblk m c 9 t) (iblk m c 12 t)
    | ⟨18, _⟩ => dGa (iblk m c 1 t) (iblk m c 3 t) (iblk m c 4 t) (iblk m c 6 t) (cQ m c) (cX m c)
    | ⟨19, _⟩ => dGm (iblk m c 0 t) (iblk m c 2 t) (iblk m c 4 t) (iblk m c 5 t) (cA m c) (cX m c)
    | ⟨20, _⟩ => View.canon (dxPieces (iblk m c 10 t) (iblk m c 11 t) (iblk m c 14 t) (iblk m c 15 t) (cX m c) (DXH m c) (SM m c 8) (SMX m c 8))
    | ⟨_ + 21, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = dwIn (iblk m c 0 t) (iblk m c 4 t) (iblk m c 7 t) (iblk m c 9 t) (iblk m c 13 t) := by dsimp only [dats]
theorem after0_17 (c : Dev nD) (t : Fin cfg0.N) : (dats m 0 c).after 17 t = dwQkv (iblk m c 1 t) (iblk m c 4 t) (iblk m c 8 t) (iblk m c 9 t) (iblk m c 12 t) := by dsimp only [dats]
theorem after0_18 (c : Dev nD) (t : Fin cfg0.N) : (dats m 0 c).after 18 t = dGa (iblk m c 1 t) (iblk m c 3 t) (iblk m c 4 t) (iblk m c 6 t) (cQ m c) (cX m c) := by dsimp only [dats]
theorem after0_19 (c : Dev nD) (t : Fin cfg0.N) : (dats m 0 c).after 19 t = dGm (iblk m c 0 t) (iblk m c 2 t) (iblk m c 4 t) (iblk m c 5 t) (cA m c) (cX m c) := by dsimp only [dats]
theorem after0_20 (c : Dev nD) (t : Fin cfg0.N) : (dats m 0 c).after 20 t = View.canon (dxPieces (iblk m c 10 t) (iblk m c 11 t) (iblk m c 14 t) (iblk m c 15 t) (cX m c) (DXH m c) (SM m c 8) (SMX m c 8)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

end Cert.Proj.Hand

end
-- ==== Proof.ProjBits.BodyA.lean ====
module

public import proofs.«01_k».proof.Proof.ProjBits.ReadsA

public import proofs.«01_k».proof.Proof.ProjBits.Data
public import Idealize.ShloMosaic.Lib.Claim

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 28800000 in
/-- The body at first point: it takes the blocks and the scratch as the invariant states them and leaves what the data says. -/
theorem sound_A (c : Dev nD) (t : Fin cfg0.N) (hz : t.val = 0) :
    bodyPre m c t ⊢ wp frame (wpE (defs₀ (F := F)) Variants.none c none) Set.univ (bodyAt0 t) (fun _ => bodyPost m c t) := by
  obtain rfl : t = t0_0 := Fin.ext hz
  have h7 : ¬t0_0.val = 7 := by rw [hz]; decide
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () (t0_0).succ = (dats m 0 c).owesAt () (t0_0).castSucc from rfl]
  rw [show (dats m 0 c).Φ (t0_0).succ = PhiS m c ((t0_0).val + 1) (t0_0).isLt from rfl, PhiS_succ]
  rw [show (dats m 0 c).leavesExact 0 t0_0 = owns (c : Thread nD τ) (ms0_0 t0_0) fullShare ((dats m 0 c).after 0 t0_0) from by
    unfold Dat.leavesExact; rw [liveAt0_0 t0_0], after0_0]
  rw [show (dats m 0 c).leavesExact 1 t0_0 = owns (c : Thread nD τ) (ms0_1 t0_0) fullShare ((dats m 0 c).after 1 t0_0) from by
    unfold Dat.leavesExact; rw [liveAt0_1 t0_0], after0_1]
  rw [show (dats m 0 c).leavesExact 2 t0_0 = owns (c : Thread nD τ) (ms0_2 t0_0) fullShare ((dats m 0 c).after 2 t0_0) from by
    unfold Dat.leavesExact; rw [liveAt0_2 t0_0], after0_2]
  rw [show (dats m 0 c).leavesExact 3 t0_0 = owns (c : Thread nD τ) (ms0_3 t0_0) fullShare ((dats m 0 c).after 3 t0_0) from by
    unfold Dat.leavesExact; rw [liveAt0_3 t0_0], after0_3]
  rw [show (dats m 0 c).leavesExact 4 t0_0 = owns (c : Thread nD τ) (ms0_4 t0_0) fullShare ((dats m 0 c).after 4 t0_0) from by
    unfold Dat.leavesExact; rw [liveAt0_4 t0_0], after0_4]
  rw [show (dats m 0 c).leavesExact 5 t0_0 = owns (c : Thread nD τ) (ms0_5 t0_0) fullShare ((dats m 0 c).after 5 t0_0) from by
    unfold Dat.leavesExact; rw [liveAt0_5 t0_0], after0_5]
  rw [show (dats m 0 c).leavesExact 6 t0_0 = owns (c : Thread nD τ) (ms0_6 t0_0) fullShare ((dats m 0 c).after 6 t0_0) from by
    unfold Dat.leavesExact; rw [liveAt0_6 t0_0], after0_6]
  rw [show (dats m 0 c).leavesExact 7 t0_0 = owns (c : Thread nD τ) (ms0_7 t0_0) fullShare ((dats m 0 c).after 7 t0_0) from by
    unfold Dat.leavesExact; rw [liveAt0_7 t0_0], after0_7]
  rw [show (dats m 0 c).leavesExact 8 t0_0 = owns (c : Thread nD τ) (ms0_8 t0_0) fullShare ((dats m 0 c).after 8 t0_0) from by
    unfold Dat.leavesExact; rw [liveAt0_8 t0_0], after0_8]
  rw [show (dats m 0 c).leavesExact 9 t0_0 = owns (c : Thread nD τ) (ms0_9 t0_0) fullShare ((dats m 0 c).after 9 t0_0) from by
    unfold Dat.leavesExact; rw [liveAt0_9 t0_0], after0_9]
  rw [show (dats m 0 c).leavesExact 10 t0_0 = owns (c : Thread nD τ) (ms0_10 t0_0) fullShare ((dats m 0 c).after 10 t0_0) from by
    unfold Dat.leavesExact; rw [liveAt0_10 t0_0], after0_10]
  rw [show (dats m 0 c).leavesExact 11 t0_0 = owns (c : Thread nD τ) (ms0_11 t0_0) fullShare ((dats m 0 c).after 11 t0_0) from by
    unfold Dat.leavesExact; rw [liveAt0_11 t0_0], after0_11]
  rw [show (dats m 0 c).leavesExact 12 t0_0 = owns (c : Thread nD τ) (ms0_12 t0_0) fullShare ((dats m 0 c).after 12 t0_0) from by
    unfold Dat.leavesExact; rw [liveAt0_12 t0_0], after0_12]
  rw [show (dats m 0 c).leavesExact 13 t0_0 = owns (c : Thread nD τ) (ms0_13 t0_0) fullShare ((dats m 0 c).after 13 t0_0) from by
    unfold Dat.leavesExact; rw [liveAt0_13 t0_0], after0_13]
  rw [show (dats m 0 c).leavesExact 14 t0_0 = owns (c : Thread nD τ) (ms0_14 t0_0) fullShare ((dats m 0 c).after 14 t0_0) from by
    unfold Dat.leavesExact; rw [liveAt0_14 t0_0], after0_14]
  rw [show (dats m 0 c).leavesExact 15 t0_0 = owns (c : Thread nD τ) (ms0_15 t0_0) fullShare ((dats m 0 c).after 15 t0_0) from by
    unfold Dat.leavesExact; rw [liveAt0_15 t0_0], after0_15]
  rw [show (dats m 0 c).leavesExact 16 t0_0 = owns (c : Thread nD τ) (ms0_16 t0_0) fullShare ((dats m 0 c).after 16 t0_0) from by
    unfold Dat.leavesExact; rw [liveAt0_16 t0_0], after0_16]
  rw [show (dats m 0 c).leavesExact 17 t0_0 = owns (c : Thread nD τ) (ms0_17 t0_0) fullShare ((dats m 0 c).after 17 t0_0) from by
    unfold Dat.leavesExact; rw [liveAt0_17 t0_0], after0_17]
  rw [show (dats m 0 c).leavesExact 18 t0_0 = owns (c : Thread nD τ) (ms0_18 t0_0) fullShare ((dats m 0 c).after 18 t0_0) from by
    unfold Dat.leavesExact; rw [liveAt0_18 t0_0], after0_18]
  rw [show (dats m 0 c).leavesExact 19 t0_0 = owns (c : Thread nD τ) (ms0_19 t0_0) fullShare ((dats m 0 c).after 19 t0_0) from by
    unfold Dat.leavesExact; rw [liveAt0_19 t0_0], after0_19]
  rw [(dats m 0 c).leavesExact_idle 20 t0_0 (idle20 t0_0 h7) (noflush20 t0_0 h7)]
  rw [PhiS_castSucc m c t0_0, PhiS_zero m c _ _ hz, PhiA0_eq]
  iintro ⟨⟨⟨⟨%X, HS0⟩, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, H20⟩
  have hX : Agree m c t0_0.val X := fun y hy => absurd hy (by rw [hz]; exact Nat.not_lt_zero _)
  iapply ((runA c (grid0.coords t0_0) _ _ _ _ _ _ _ _ _ _ _ _ _ _ _ _ _ _ _ _ _ _ _ _ _ _ _ _ _ _ _ _ _ _ _ _ _ _ _ _ _ _ _ _ _ _ _ _ _ _ _ _ _ _ ((hcond0 t0_0).mpr hz) (fun h => h7 ((hcond1 t0_0).mp h)) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 12 t0_0) (iblk m c 13 t0_0) X).2.2.2.2.2.2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H12]
  · iexact H12
  isplitl [H13]
  · iexact H13
  isplitl [H16]
  · iexists _
    iexact H16
  isplitl [H17]
  · iexists _
    iexact H17
  isplitl [H18]
  · iexists _
    iexact H18
  isplitl [H19]
  · iexists _
    iexact H19
  isplitl [HS0]
  · iexact HS0
  isplitl [HS1]
  · iexact HS1
  isplitl [HS2]
  · iexact HS2
  isplitl [HS3]
  · iexact HS3
  isplitl [HS4]
  · iexact HS4
  isplitl [HS5]
  · iexact HS5
  iintro ⟨H0, H1, H2, H3, H4, H5, H6, H7, H8, H9, H12, H13, ⟨%e17, H16⟩, ⟨%e18, H17⟩, ⟨%e19, H18⟩, ⟨%e20, H19⟩, HS0, ⟨%e23, HS1⟩, ⟨%e24, HS2⟩, ⟨%e25, HS3⟩, ⟨%e26, HS4⟩, ⟨%e27, HS5⟩⟩
  isplitl [HS0 HS1 HS2 HS3 HS4 HS5 Hg]
  · isplitl [HS0 HS1 HS2 HS3 HS4 HS5]
    · isplitl [HS0]
      · iexists _
        isplitr
        · ipureintro
          exact agree_upd m c t0_0 X hX
        unfold owns
        iexists _
        isplitr
        swap
        · iexact HS0
        ipureintro
        exact runA_22 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      isplitl [HS1]
      · unfold owns
        iexists _
        isplitr
        swap
        · iexact HS1
        ipureintro
        exact (runA_23 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (SM_succ m c t0_0).symm
      isplitl [HS2]
      · unfold owns
        iexists _
        isplitr
        swap
        · iexact HS2
        ipureintro
        exact (runA_24 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (SMX_succ m c t0_0).symm
      isplitl [HS3]
      · unfold owns
        iexists _
        isplitr
        swap
        · iexact HS3
        ipureintro
        exact runA_25 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      isplitl [HS4]
      · unfold owns
        iexists _
        isplitr
        swap
        · iexact HS4
        ipureintro
        exact runA_26 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      unfold owns
      iexists _
      isplitr
      swap
      · iexact HS5
      ipureintro
      exact runA_27 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · unfold owns
    iexists _
    isplitr
    swap
    · iexact H16
    ipureintro
    exact runA_17 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H17]
  · unfold owns
    iexists _
    isplitr
    swap
    · iexact H17
    ipureintro
    exact runA_18 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H18]
  · unfold owns
    iexists _
    isplitr
    swap
    · iexact H18
    ipureintro
    exact runA_19 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H19]
  · unfold owns
    iexists _
    isplitr
    swap
    · iexact H19
    ipureintro
    exact runA_20 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  iexact H20

end Cert.Proj.Hand

end
-- ==== Proof.ProjBits.RunB.lean ====
module

public import proofs.«01_k».proof.Proof.ProjBits.RunA

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proj.Gen

variable {F : FTy → Type} [FloatOps F]

local notation "𝕄" => MT nD τ sig Unit (Elt F) ℕ (UR sig nD τ) ℕ

set_option maxHeartbeats 3200000 in
/-- The body at a point that is neither the first nor the last. The pieces each buffer ends with are the witness the run finds. -/
noncomputable def runB (c : Dev nD) (i : grid0.Coords) (arg1 : Memref sig .tc .vmem S1024x5632 .fp8e5m2) (harg1 : arg1.IsWhole) (arg2 : Memref sig .tc .vmem S1024x6144 .fp8e5m2) (harg2 : arg2.IsWhole) (arg3 : Memref sig .tc .vmem S256x5632 .fp8e4m3) (harg3 : arg3.IsWhole) (arg4 : Memref sig .tc .vmem S256x6144 .fp8e4m3) (harg4 : arg4.IsWhole) (arg5 : Memref sig .tc .vmem S1024x256 .fp8e4m3) (harg5 : arg5.IsWhole) (arg6 : Memref sig .tc .vmem S1x5632 .f32) (harg6 : arg6.IsWhole) (arg7 : Memref sig .tc .vmem S1x6144 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1024x2048 .fp8e5m2) (harg15 : arg15.IsWhole) (arg16 : Memref sig .tc .vmem S1024x2048 .fp8e4m3) (harg16 : arg16.IsWhole) (arg17 : Memref sig .tc .vmem S256x5632 .bf16) (harg17 : arg17.IsWhole) (arg18 : Memref sig .tc .vmem S256x6144 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S1024x2048 .bf16) (harg21 : arg21.IsWhole) (arg22 : Memref sig .tc .vmem S1024x2048 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x128 .f32) (harg27 : arg27.IsWhole) (hc0 : ¬cond0 i) (hc1 : ¬cond1 i)
    (x0 : Vec F S1024x5632 .fp8e5m2) (x1 : Vec F S1024x6144 .fp8e5m2) (x2 : Vec F S256x5632 .fp8e4m3) (x3 : Vec F S256x6144 .fp8e4m3) (x4 : Vec F S1024x256 .fp8e4m3) (x5 : Vec F S1x5632 .f32) (x6 : Vec F S1x6144 .f32) (x7 : Vec F S1x1024 .f32) (x8 : Vec F S1x1024 .f32) (x9 : Vec F S1x1024 .f32) (x12 : Vec F S1x256 .f32) (x13 : Vec F S1x256 .f32) (xs0 : Vec F S1024x2048 .f32) (xs1 : Vec F S1024x128 .f32) (xs2 : Vec F S1024x128 .f32) (xs3 : Vec F S1024x128 .f32) (xs4 : Vec F S1024x128 .f32) (xs5 : Vec F S1024x128 .f32) :
    Σ' (L17 : List (View.Piece (Elt F) S256x5632 .bf16)), Σ' (L18 : List (View.Piece (Elt F) S256x6144 .bf16)), Σ' (L19 : List (View.Piece (Elt F) S1x256 .f32)), Σ' (L20 : List (View.Piece (Elt F) S1x256 .f32)), Σ' (L22 : List (View.Piece (Elt F) S1024x2048 .f32)), Σ' (L23 : List (View.Piece (Elt F) S1024x128 .f32)), { L24 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x12 ∗ owns (c : Thread nD τ) arg14 fullShare x13 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg22 fullShare xs0 ∗ owns (c : Thread nD τ) arg23 fullShare xs1 ∗ owns (c : Thread nD τ) arg24 fullShare xs2 ∗ owns (c : Thread nD τ) arg25 fullShare xs3 ∗ owns (c : Thread nD τ) arg26 fullShare xs4 ∗ owns (c : Thread nD τ) arg27 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x12 ∗ owns (c : Thread nD τ) arg14 fullShare x13 ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (arg22.view.loc (c : Thread nD τ) ↦[arg22.view.set]{fullShare} arg22.view.writes (Elt F) (harg22.unread xs0) L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ owns (c : Thread nD τ) arg25 fullShare xs3 ∗ owns (c : Thread nD τ) arg26 fullShare xs4 ∗ owns (c : Thread nD τ) arg27 fullShare xs5) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, fun E K => ?run⟩
  case run =>
    simp only [cc0_proj_eq_skeleton]; unfold cc0_proj_skel
    simp only [k0_part8_eq_skeleton, k0_part9_eq_skeleton, k0_part10_eq_skeleton, k0_part11_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f13, %hf13, H13⟩, ⟨%f14, %hf14, H14⟩, ⟨%d17, %f17, -, H17⟩, ⟨%d18, %f18, -, H18⟩, ⟨%d19, %f19, -, H19⟩, ⟨%d20, %f20, -, H20⟩, ⟨%f22, %hf22, H22⟩, ⟨%f23, %hf23, H23⟩, ⟨%f24, %hf24, H24⟩, ⟨%f25, %hf25, H25⟩, ⟨%f26, %hf26, H26⟩, ⟨%f27, %hf27, H27⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13; obtain rfl := harg14.eq_unread hf14; obtain rfl := harg22.eq_unread hf22; obtain rfl := harg23.eq_unread hf23; obtain rfl := harg24.eq_unread hf24; obtain rfl := harg25.eq_unread hf25; obtain rfl := harg26.eq_unread hf26; obtain rfl := harg27.eq_unread hf27
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H13]
    · iexists _; isplitr; · ipureintro; exact harg13.read_unread _
      iexact H13
    isplitl [H14]
    · iexists _; isplitr; · ipureintro; exact harg14.read_unread _
      iexact H14
    isplitl [H17]
    · iexists _; iexact H17
    isplitl [H18]
    · iexists _; iexact H18
    isplitl [H19]
    · iexists _; iexact H19
    isplitl [H20]
    · iexists _; iexact H20
    isplitl [H22]
    · iexact H22
    isplitl [H23]
    · iexists _; iexact H23
    isplitl [H24]
    · iexists _; iexact H24
    isplitl [H25]
    · iexists _; isplitr; · ipureintro; exact harg25.read_unread _
      iexact H25
    isplitl [H26]
    · iexists _; isplitr; · ipureintro; exact harg26.read_unread _
      iexact H26
    iexists _; isplitr; · ipureintro; exact harg27.read_unread _
    iexact H27

end Cert.Proj.Hand

end
-- ==== Proof.ProjBits.ReadsB.lean ====
module

public import proofs.«01_k».proof.Proof.ProjBits.RunB

public import proofs.«01_k».proof.Proof.ProjBits.Point

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proj.Gen

variable {F : FTy → Type} [FloatOps F]

local notation "𝕄" => MT nD τ sig Unit (Elt F) ℕ (UR sig nD τ) ℕ

section
variable (c : Dev nD) (i : grid0.Coords)
    (arg1 : Memref sig .tc .vmem S1024x5632 .fp8e5m2) (harg1 : arg1.IsWhole) (arg2 : Memref sig .tc .vmem S1024x6144 .fp8e5m2) (harg2 : arg2.IsWhole) (arg3 : Memref sig .tc .vmem S256x5632 .fp8e4m3) (harg3 : arg3.IsWhole) (arg4 : Memref sig .tc .vmem S256x6144 .fp8e4m3) (harg4 : arg4.IsWhole) (arg5 : Memref sig .tc .vmem S1024x256 .fp8e4m3) (harg5 : arg5.IsWhole) (arg6 : Memref sig .tc .vmem S1x5632 .f32) (harg6 : arg6.IsWhole) (arg7 : Memref sig .tc .vmem S1x6144 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1024x2048 .fp8e5m2) (harg15 : arg15.IsWhole) (arg16 : Memref sig .tc .vmem S1024x2048 .fp8e4m3) (harg16 : arg16.IsWhole) (arg17 : Memref sig .tc .vmem S256x5632 .bf16) (harg17 : arg17.IsWhole) (arg18 : Memref sig .tc .vmem S256x6144 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S1024x2048 .bf16) (harg21 : arg21.IsWhole) (arg22 : Memref sig .tc .vmem S1024x2048 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x128 .f32) (harg27 : arg27.IsWhole)
    (hc0 : ¬cond0 i) (hc1 : ¬cond1 i)
    (x0 : Vec F S1024x5632 .fp8e5m2) (x1 : Vec F S1024x6144 .fp8e5m2) (x2 : Vec F S256x5632 .fp8e4m3) (x3 : Vec F S256x6144 .fp8e4m3) (x4 : Vec F S1024x256 .fp8e4m3) (x5 : Vec F S1x5632 .f32) (x6 : Vec F S1x6144 .f32) (x7 : Vec F S1x1024 .f32) (x8 : Vec F S1x1024 .f32) (x9 : Vec F S1x1024 .f32) (x12 : Vec F S1x256 .f32) (x13 : Vec F S1x256 .f32) (xs0 : Vec F S1024x2048 .f32) (xs1 : Vec F S1024x128 .f32) (xs2 : Vec F S1024x128 .f32) (xs3 : Vec F S1024x128 .f32) (xs4 : Vec F S1024x128 .f32) (xs5 : Vec F S1024x128 .f32)
/-- What the middle point leaves in dw_in. -/
theorem runB_17 :
    ∀ f, arg17.view.read (Elt F) (arg17.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0 xs1 xs2 xs3 xs4 xs5).1)
      = dwIn x0 x4 x7 x9 x13 := by
  intro f
  unfold runB; dsimp only; sl_unfold_words; simp (disch := decide) only [View.readAt_eq_ld, Memref.IsWhole.read_unread, View.ld_unit_lit, View.canon_cons_unit_lit, View.readCov_unit_lit, View.readCov_cons_unit_lit', read_whole] <;> rfl

/-- What the middle point leaves in dw_qkv. -/
theorem runB_18 :
    ∀ f, arg18.view.read (Elt F) (arg18.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0 xs1 xs2 xs3 xs4 xs5).2.1)
      = dwQkv x1 x4 x8 x9 x12 := by
  intro f
  unfold runB; dsimp only; sl_unfold_words; simp (disch := decide) only [View.readAt_eq_ld, Memref.IsWhole.read_unread, View.ld_unit_lit, View.canon_cons_unit_lit, View.readCov_unit_lit, View.readCov_cons_unit_lit', read_whole] <;> rfl

/-- What the middle point leaves in dgamma_attn. -/
theorem runB_19 :
    ∀ f, arg19.view.read (Elt F) (arg19.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0 xs1 xs2 xs3 xs4 xs5).2.2.1)
      = dGa x1 x3 x4 x6 xs4 xs5 := by
  intro f
  unfold runB; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1, 128] (by rfl))]
  rfl

/-- What the middle point leaves in dgamma_mlp. -/
theorem runB_20 :
    ∀ f, arg20.view.read (Elt F) (arg20.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0 xs1 xs2 xs3 xs4 xs5).2.2.2.1)
      = dGm x0 x2 x4 x5 xs3 xs5 := by
  intro f
  unfold runB; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1, 128] (by rfl))]
  rfl

/-- What the middle point leaves in the scratch of dxhat. -/
theorem runB_22 :
    arg22.view.read (Elt F) (arg22.view.writes (Elt F) (harg22.unread xs0) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0 xs1 xs2 xs3 xs4 xs5).2.2.2.2.1)
      = upd (256 * (i 0).val) xs0 (dxh0 x0 x1 x2 x3 x5 x6 x12 x13 xs3 xs4) (dxh1 x0 x1 x2 x3 x5 x6 x12 x13 xs3 xs4) := by
  unfold runB; dsimp only; sl_unfold_words; simp (disch := decide) only [View.readAt_eq_ld, Memref.IsWhole.read_unread, View.ld_unit_lit, View.canon_cons_unit_lit, View.readCov_unit_lit, View.readCov_cons_unit_lit', read_whole]
  exact (read_two arg22.view (harg22.unread xs0) (256 * (i 0).val) _ _ (off0 i) (off1 i) _ _ _ _).trans (by rw [harg22.read_unread]; rfl)

/-- What the middle point leaves in the lane sums of dxhat. -/
theorem runB_23 :
    ∀ f, arg23.view.read (Elt F) (arg23.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0 xs1 xs2 xs3 xs4 xs5).2.2.2.2.2.1)
      = sumStep x0 x1 x2 x3 x5 x6 x12 x13 xs1 xs3 xs4 := by
  intro f
  unfold runB; dsimp only; sl_unfold_words; simp (disch := decide) only [View.readAt_eq_ld, Memref.IsWhole.read_unread, View.ld_unit_lit, View.canon_cons_unit_lit, View.readCov_unit_lit, View.readCov_cons_unit_lit', read_whole] <;> rfl

/-- What the middle point leaves in the lane sums of dxhat * xhat. -/
theorem runB_24 :
    ∀ f, arg24.view.read (Elt F) (arg24.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0 xs1 xs2 xs3 xs4 xs5).2.2.2.2.2.2.1)
      = sumxStep x0 x1 x2 x3 x4 x5 x6 x12 x13 xs2 xs3 xs4 xs5 := by
  intro f
  unfold runB; dsimp only; sl_unfold_words; simp (disch := decide) only [View.readAt_eq_ld, Memref.IsWhole.read_unread, View.ld_unit_lit, View.canon_cons_unit_lit, View.readCov_unit_lit, View.readCov_cons_unit_lit', read_whole] <;> rfl

end

end Cert.Proj.Hand

end
-- ==== Proof.ProjBits.BodyB.lean ====
module

public import proofs.«01_k».proof.Proof.ProjBits.ReadsB

public import proofs.«01_k».proof.Proof.ProjBits.Data
public import Idealize.ShloMosaic.Lib.Claim

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 28800000 in
/-- The body at a middle point: it takes the blocks and the scratch as the invariant states them and leaves what the data says. -/
theorem sound_B (c : Dev nD) (t : Fin cfg0.N) (hz : ¬t.val = 0) (h7 : ¬t.val = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () (t).succ = (dats m 0 c).owesAt () (t).castSucc from rfl]
  rw [show (dats m 0 c).Φ (t).succ = PhiS m c ((t).val + 1) (t).isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 19 t = owns (c : Thread nD τ) (ms0_19 t) fullShare ((dats m 0 c).after 19 t) from by
    unfold Dat.leavesExact; rw [liveAt0_19 t], after0_19]
  rw [(dats m 0 c).leavesExact_idle 20 t (idle20 t h7) (noflush20 t h7)]
  rw [PhiS_castSucc m c t, PhiS_pos m c _ _ hz]
  iintro ⟨⟨⟨⟨%X, %hX, HS0⟩, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, H20⟩
  iapply ((runB c (grid0.coords t) _ _ _ _ _ _ _ _ _ _ _ _ _ _ _ _ _ _ _ _ _ _ _ _ _ _ _ _ _ _ _ _ _ _ _ _ _ _ _ _ _ _ _ _ _ _ _ _ _ _ _ _ _ _ (fun h => hz ((hcond0 t).mp h)) (fun h => h7 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 12 t) (iblk m c 13 t) X (SM m c t.val) (SMX m c t.val) (cA m c) (cQ m c) (cX m c)).2.2.2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H12]
  · iexact H12
  isplitl [H13]
  · iexact H13
  isplitl [H16]
  · iexists _
    iexact H16
  isplitl [H17]
  · iexists _
    iexact H17
  isplitl [H18]
  · iexists _
    iexact H18
  isplitl [H19]
  · iexists _
    iexact H19
  isplitl [HS0]
  · iexact HS0
  isplitl [HS1]
  · iexact HS1
  isplitl [HS2]
  · iexact HS2
  isplitl [HS3]
  · iexact HS3
  isplitl [HS4]
  · iexact HS4
  isplitl [HS5]
  · iexact HS5
  iintro ⟨H0, H1, H2, H3, H4, H5, H6, H7, H8, H9, H12, H13, ⟨%e17, H16⟩, ⟨%e18, H17⟩, ⟨%e19, H18⟩, ⟨%e20, H19⟩, HS0, ⟨%e23, HS1⟩, ⟨%e24, HS2⟩, HS3, HS4, HS5⟩
  isplitl [HS0 HS1 HS2 HS3 HS4 HS5 Hg]
  · isplitl [HS0 HS1 HS2 HS3 HS4 HS5]
    · isplitl [HS0]
      · iexists _
        isplitr
        · ipureintro
          exact agree_upd m c t X hX
        unfold owns
        iexists _
        isplitr
        swap
        · iexact HS0
        ipureintro
        exact runB_22 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      isplitl [HS1]
      · unfold owns
        iexists _
        isplitr
        swap
        · iexact HS1
        ipureintro
        exact (runB_23 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (SM_succ m c t).symm
      isplitl [HS2]
      · unfold owns
        iexists _
        isplitr
        swap
        · iexact HS2
        ipureintro
        exact (runB_24 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (SMX_succ m c t).symm
      isplitl [HS3]
      · iexact HS3
      isplitl [HS4]
      · iexact HS4
      iexact HS5
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · unfold owns
    iexists _
    isplitr
    swap
    · iexact H16
    ipureintro
    exact runB_17 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H17]
  · unfold owns
    iexists _
    isplitr
    swap
    · iexact H17
    ipureintro
    exact runB_18 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H18]
  · unfold owns
    iexists _
    isplitr
    swap
    · iexact H18
    ipureintro
    exact runB_19 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H19]
  · unfold owns
    iexists _
    isplitr
    swap
    · iexact H19
    ipureintro
    exact runB_20 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  iexact H20

end Cert.Proj.Hand

end
-- ==== Proof.ProjBits.RunC.lean ====
module

public import proofs.«01_k».proof.Proof.ProjBits.RunB

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proj.Gen

variable {F : FTy → Type} [FloatOps F]

local notation "𝕄" => MT nD τ sig Unit (Elt F) ℕ (UR sig nD τ) ℕ

set_option maxHeartbeats 3200000 in
/-- The body at the last point, which also writes the whole of `dx`. The pieces each buffer ends with are the witness the run finds. -/
noncomputable def runC (c : Dev nD) (i : grid0.Coords) (arg1 : Memref sig .tc .vmem S1024x5632 .fp8e5m2) (harg1 : arg1.IsWhole) (arg2 : Memref sig .tc .vmem S1024x6144 .fp8e5m2) (harg2 : arg2.IsWhole) (arg3 : Memref sig .tc .vmem S256x5632 .fp8e4m3) (harg3 : arg3.IsWhole) (arg4 : Memref sig .tc .vmem S256x6144 .fp8e4m3) (harg4 : arg4.IsWhole) (arg5 : Memref sig .tc .vmem S1024x256 .fp8e4m3) (harg5 : arg5.IsWhole) (arg6 : Memref sig .tc .vmem S1x5632 .f32) (harg6 : arg6.IsWhole) (arg7 : Memref sig .tc .vmem S1x6144 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1024x2048 .fp8e5m2) (harg15 : arg15.IsWhole) (arg16 : Memref sig .tc .vmem S1024x2048 .fp8e4m3) (harg16 : arg16.IsWhole) (arg17 : Memref sig .tc .vmem S256x5632 .bf16) (harg17 : arg17.IsWhole) (arg18 : Memref sig .tc .vmem S256x6144 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S1024x2048 .bf16) (harg21 : arg21.IsWhole) (arg22 : Memref sig .tc .vmem S1024x2048 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x128 .f32) (harg27 : arg27.IsWhole) (hc0 : ¬cond0 i) (hc1 : cond1 i)
    (x0 : Vec F S1024x5632 .fp8e5m2) (x1 : Vec F S1024x6144 .fp8e5m2) (x2 : Vec F S256x5632 .fp8e4m3) (x3 : Vec F S256x6144 .fp8e4m3) (x4 : Vec F S1024x256 .fp8e4m3) (x5 : Vec F S1x5632 .f32) (x6 : Vec F S1x6144 .f32) (x7 : Vec F S1x1024 .f32) (x8 : Vec F S1x1024 .f32) (x9 : Vec F S1x1024 .f32) (x10 : Vec F S1x1024 .f32) (x11 : Vec F S1x1024 .f32) (x12 : Vec F S1x256 .f32) (x13 : Vec F S1x256 .f32) (x14 : Vec F S1024x2048 .fp8e5m2) (x15 : Vec F S1024x2048 .fp8e4m3) (xs0 : Vec F S1024x2048 .f32) (xs1 : Vec F S1024x128 .f32) (xs2 : Vec F S1024x128 .f32) (xs3 : Vec F S1024x128 .f32) (xs4 : Vec F S1024x128 .f32) (xs5 : Vec F S1024x128 .f32) :
    Σ' (L17 : List (View.Piece (Elt F) S256x5632 .bf16)), Σ' (L18 : List (View.Piece (Elt F) S256x6144 .bf16)), Σ' (L19 : List (View.Piece (Elt F) S1x256 .f32)), Σ' (L20 : List (View.Piece (Elt F) S1x256 .f32)), Σ' (L21 : List (View.Piece (Elt F) S1024x2048 .bf16)), Σ' (L22 : List (View.Piece (Elt F) S1024x2048 .f32)), Σ' (L23 : List (View.Piece (Elt F) S1024x128 .f32)), { L24 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs0 ∗ owns (c : Thread nD τ) arg23 fullShare xs1 ∗ owns (c : Thread nD τ) arg24 fullShare xs2 ∗ owns (c : Thread nD τ) arg25 fullShare xs3 ∗ owns (c : Thread nD τ) arg26 fullShare xs4 ∗ owns (c : Thread nD τ) arg27 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (arg22.view.loc (c : Thread nD τ) ↦[arg22.view.set]{fullShare} arg22.view.writes (Elt F) (harg22.unread xs0) L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ owns (c : Thread nD τ) arg25 fullShare xs3 ∗ owns (c : Thread nD τ) arg26 fullShare xs4 ∗ owns (c : Thread nD τ) arg27 fullShare xs5) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, fun E K => ?run⟩
  case run =>
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, ⟨%f24, %hf24, H24⟩, ⟨%f25, %hf25, H25⟩, ⟨%f26, %hf26, H26⟩, ⟨%f27, %hf27, H27⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg22.eq_unread hf22; obtain rfl := harg23.eq_unread hf23; obtain rfl := harg24.eq_unread hf24; obtain rfl := harg25.eq_unread hf25; obtain rfl := harg26.eq_unread hf26; obtain rfl := harg27.eq_unread hf27
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; iexact H17
    isplitl [H18]
    · iexists _; iexact H18
    isplitl [H19]
    · iexists _; iexact H19
    isplitl [H20]
    · iexists _; iexact H20
    isplitl [H21]
    · iexists _; iexact H21
    isplitl [H22]
    · iexact H22
    isplitl [H23]
    · iexists _; iexact H23
    isplitl [H24]
    · iexists _; iexact H24
    isplitl [H25]
    · iexists _; isplitr; · ipureintro; exact harg25.read_unread _
      iexact H25
    isplitl [H26]
    · iexists _; isplitr; · ipureintro; exact harg26.read_unread _
      iexact H26
    iexists _; isplitr; · ipureintro; exact harg27.read_unread _
    iexact H27

end Cert.Proj.Hand

end
-- ==== Proof.ProjBits.ReadsC.lean ====
module

public import proofs.«01_k».proof.Proof.ProjBits.RunC

public import proofs.«01_k».proof.Proof.ProjBits.Point

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proj.Gen

variable {F : FTy → Type} [FloatOps F]

local notation "𝕄" => MT nD τ sig Unit (Elt F) ℕ (UR sig nD τ) ℕ

section
variable (c : Dev nD) (i : grid0.Coords)
    (arg1 : Memref sig .tc .vmem S1024x5632 .fp8e5m2) (harg1 : arg1.IsWhole) (arg2 : Memref sig .tc .vmem S1024x6144 .fp8e5m2) (harg2 : arg2.IsWhole) (arg3 : Memref sig .tc .vmem S256x5632 .fp8e4m3) (harg3 : arg3.IsWhole) (arg4 : Memref sig .tc .vmem S256x6144 .fp8e4m3) (harg4 : arg4.IsWhole) (arg5 : Memref sig .tc .vmem S1024x256 .fp8e4m3) (harg5 : arg5.IsWhole) (arg6 : Memref sig .tc .vmem S1x5632 .f32) (harg6 : arg6.IsWhole) (arg7 : Memref sig .tc .vmem S1x6144 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1024x2048 .fp8e5m2) (harg15 : arg15.IsWhole) (arg16 : Memref sig .tc .vmem S1024x2048 .fp8e4m3) (harg16 : arg16.IsWhole) (arg17 : Memref sig .tc .vmem S256x5632 .bf16) (harg17 : arg17.IsWhole) (arg18 : Memref sig .tc .vmem S256x6144 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S1024x2048 .bf16) (harg21 : arg21.IsWhole) (arg22 : Memref sig .tc .vmem S1024x2048 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x128 .f32) (harg27 : arg27.IsWhole)
    (hc0 : ¬cond0 i) (hc1 : cond1 i)
    (x0 : Vec F S1024x5632 .fp8e5m2) (x1 : Vec F S1024x6144 .fp8e5m2) (x2 : Vec F S256x5632 .fp8e4m3) (x3 : Vec F S256x6144 .fp8e4m3) (x4 : Vec F S1024x256 .fp8e4m3) (x5 : Vec F S1x5632 .f32) (x6 : Vec F S1x6144 .f32) (x7 : Vec F S1x1024 .f32) (x8 : Vec F S1x1024 .f32) (x9 : Vec F S1x1024 .f32) (x10 : Vec F S1x1024 .f32) (x11 : Vec F S1x1024 .f32) (x12 : Vec F S1x256 .f32) (x13 : Vec F S1x256 .f32) (x14 : Vec F S1024x2048 .fp8e5m2) (x15 : Vec F S1024x2048 .fp8e4m3) (xs0 : Vec F S1024x2048 .f32) (xs1 : Vec F S1024x128 .f32) (xs2 : Vec F S1024x128 .f32) (xs3 : Vec F S1024x128 .f32) (xs4 : Vec F S1024x128 .f32) (xs5 : Vec F S1024x128 .f32)
/-- What the last point leaves in dw_in. -/
theorem runC_17 :
    ∀ f, arg17.view.read (Elt F) (arg17.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).1)
      = dwIn x0 x4 x7 x9 x13 := by
  intro f
  unfold runC; dsimp only; sl_unfold_words; simp (disch := decide) only [View.readAt_eq_ld, Memref.IsWhole.read_unread, View.ld_unit_lit, View.canon_cons_unit_lit, View.readCov_unit_lit, View.readCov_cons_unit_lit', read_whole] <;> rfl

/-- What the last point leaves in dw_qkv. -/
theorem runC_18 :
    ∀ f, arg18.view.read (Elt F) (arg18.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).2.1)
      = dwQkv x1 x4 x8 x9 x12 := by
  intro f
  unfold runC; dsimp only; sl_unfold_words; simp (disch := decide) only [View.readAt_eq_ld, Memref.IsWhole.read_unread, View.ld_unit_lit, View.canon_cons_unit_lit, View.readCov_unit_lit, View.readCov_cons_unit_lit', read_whole] <;> rfl

/-- What the last point leaves in dgamma_attn. -/
theorem runC_19 :
    ∀ f, arg19.view.read (Elt F) (arg19.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).2.2.1)
      = dGa x1 x3 x4 x6 xs4 xs5 := by
  intro f
  unfold runC; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1, 128] (by rfl))]
  rfl

/-- What the last point leaves in dgamma_mlp. -/
theorem runC_20 :
    ∀ f, arg20.view.read (Elt F) (arg20.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).2.2.2.1)
      = dGm x0 x2 x4 x5 xs3 xs5 := by
  intro f
  unfold runC; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1, 128] (by rfl))]
  rfl

/-- What the last point leaves in dx. -/
theorem runC_21 :
    ∀ f, arg21.view.read (Elt F) (arg21.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).2.2.2.2.1)
      = View.canon (dxPieces x10 x11 x14 x15 xs5 (upd (256 * (i 0).val) xs0 (dxh0 x0 x1 x2 x3 x5 x6 x12 x13 xs3 xs4) (dxh1 x0 x1 x2 x3 x5 x6 x12 x13 xs3 xs4)) (sumStep x0 x1 x2 x3 x5 x6 x12 x13 xs1 xs3 xs4) (sumxStep x0 x1 x2 x3 x4 x5 x6 x12 x13 xs2 xs3 xs4 xs5)) := by
  intro f
  unfold runC; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1024, 128] (by rfl))]
  exact congrArg (fun D => View.canon (dxPieces x10 x11 x14 x15 xs5 D (sumStep x0 x1 x2 x3 x5 x6 x12 x13 xs1 xs3 xs4) (sumxStep x0 x1 x2 x3 x4 x5 x6 x12 x13 xs2 xs3 xs4 xs5)))
    ((read_two arg22.view (harg22.unread xs0) (256 * (i 0).val) _ _ (off0 i) (off1 i) _ _ _ _).trans (by rw [harg22.read_unread]; rfl))

/-- What the last point leaves in the scratch of dxhat. -/
theorem runC_22 :
    arg22.view.read (Elt F) (arg22.view.writes (Elt F) (harg22.unread xs0) (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).2.2.2.2.2.1)
      = upd (256 * (i 0).val) xs0 (dxh0 x0 x1 x2 x3 x5 x6 x12 x13 xs3 xs4) (dxh1 x0 x1 x2 x3 x5 x6 x12 x13 xs3 xs4) := by
  unfold runC; dsimp only; sl_unfold_words; simp (disch := decide) only [View.readAt_eq_ld, Memref.IsWhole.read_unread, View.ld_unit_lit, View.canon_cons_unit_lit, View.readCov_unit_lit, View.readCov_cons_unit_lit', read_whole]
  exact (read_two arg22.view (harg22.unread xs0) (256 * (i 0).val) _ _ (off0 i) (off1 i) _ _ _ _).trans (by rw [harg22.read_unread]; rfl)

/-- What the last point leaves in the lane sums of dxhat. -/
theorem runC_23 :
    ∀ f, arg23.view.read (Elt F) (arg23.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).2.2.2.2.2.2.1)
      = sumStep x0 x1 x2 x3 x5 x6 x12 x13 xs1 xs3 xs4 := by
  intro f
  unfold runC; dsimp only; sl_unfold_words; simp (disch := decide) only [View.readAt_eq_ld, Memref.IsWhole.read_unread, View.ld_unit_lit, View.canon_cons_unit_lit, View.readCov_unit_lit, View.readCov_cons_unit_lit', read_whole] <;> rfl

/-- What the last point leaves in the lane sums of dxhat * xhat. -/
theorem runC_24 :
    ∀ f, arg24.view.read (Elt F) (arg24.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).2.2.2.2.2.2.2.1)
      = sumxStep x0 x1 x2 x3 x4 x5 x6 x12 x13 xs2 xs3 xs4 xs5 := by
  intro f
  unfold runC; dsimp only; sl_unfold_words; simp (disch := decide) only [View.readAt_eq_ld, Memref.IsWhole.read_unread, View.ld_unit_lit, View.canon_cons_unit_lit, View.readCov_unit_lit, View.readCov_cons_unit_lit', read_whole] <;> rfl

end

end Cert.Proj.Hand

end
-- ==== Proof.ProjBits.BodyC.lean ====
module

public import proofs.«01_k».proof.Proof.ProjBits.ReadsC

public import proofs.«01_k».proof.Proof.ProjBits.Data
public import Idealize.ShloMosaic.Lib.Claim

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the last point the scratch, the lane sums and the stores of `dx` are those of the whole `dxhat`. -/
theorem dx_eq (c : Dev nD) (t : Fin cfg0.N) (h7 : t.val = 7) (X : Vec F S1024x2048 .f32) (hX : Agree m c t.val X) :
    View.canon (dxPieces (iblk m c 10 t) (iblk m c 11 t) (iblk m c 14 t) (iblk m c 15 t) (cX m c)
      (upd (256 * (grid0.coords t 0).val) X (dxh0 (iblk m c 0 t) (iblk m c 1 t) (iblk m c 2 t) (iblk m c 3 t) (iblk m c 5 t) (iblk m c 6 t) (iblk m c 12 t) (iblk m c 13 t) (cA m c) (cQ m c)) (dxh1 (iblk m c 0 t) (iblk m c 1 t) (iblk m c 2 t) (iblk m c 3 t) (iblk m c 5 t) (iblk m c 6 t) (iblk m c 12 t) (iblk m c 13 t) (cA m c) (cQ m c)))
      (sumStep (iblk m c 0 t) (iblk m c 1 t) (iblk m c 2 t) (iblk m c 3 t) (iblk m c 5 t) (iblk m c 6 t) (iblk m c 12 t) (iblk m c 13 t) (SM m c t.val) (cA m c) (cQ m c))
      (sumxStep (iblk m c 0 t) (iblk m c 1 t) (iblk m c 2 t) (iblk m c 3 t) (iblk m c 4 t) (iblk m c 5 t) (iblk m c 6 t) (iblk m c 12 t) (iblk m c 13 t) (SMX m c t.val) (cA m c) (cQ m c) (cX m c)))
      = View.canon (dxPieces (iblk m c 10 t) (iblk m c 11 t) (iblk m c 14 t) (iblk m c 15 t) (cX m c) (DXH m c) (SM m c 8) (SMX m c 8)) := by
  have e1 := agree_upd m c t X hX
  have e2 := SM_succ m c t
  have e3 := SMX_succ m c t
  rw [h7] at e1
  have e4 := agree_all m c _ e1
  rw [← e2, ← e3, h7]
  exact congrArg (fun D => View.canon (dxPieces (iblk m c 10 t) (iblk m c 11 t) (iblk m c 14 t) (iblk m c 15 t) (cX m c) D (SM m c 8) (SMX m c 8))) e4

set_option maxHeartbeats 28800000 in
/-- The body at the last point: it takes the blocks and the scratch as the invariant states them and leaves what the data says. -/
theorem sound_C (c : Dev nD) (t : Fin cfg0.N) (h7 : t.val = 7) :
    bodyPre m c t ⊢ wp frame (wpE (defs₀ (F := F)) Variants.none c none) Set.univ (bodyAt0 t) (fun _ => bodyPost m c t) := by
  have hz : ¬t.val = 0 := by omega
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () (t).succ = (dats m 0 c).owesAt () (t).castSucc from rfl]
  rw [show (dats m 0 c).Φ (t).succ = PhiS m c ((t).val + 1) (t).isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 19 t = owns (c : Thread nD τ) (ms0_19 t) fullShare ((dats m 0 c).after 19 t) from by
    unfold Dat.leavesExact; rw [liveAt0_19 t], after0_19]
  rw [show (dats m 0 c).leavesExact 20 t = owns (c : Thread nD τ) (ms0_20 t) fullShare ((dats m 0 c).after 20 t) from by
    unfold Dat.leavesExact; rw [live20 t h7], after0_20]
  rw [PhiS_castSucc m c t, PhiS_pos m c _ _ hz]
  iintro ⟨⟨⟨⟨%X, %hX, HS0⟩, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((runC c (grid0.coords t) _ _ _ _ _ _ _ _ _ _ _ _ _ _ _ _ _ _ _ _ _ _ _ _ _ _ _ _ _ _ _ _ _ _ _ _ _ _ _ _ _ _ _ _ _ _ _ _ _ _ _ _ _ _ (fun h => hz ((hcond0 t).mp h)) ((hcond1 t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) X (SM m c t.val) (SMX m c t.val) (cA m c) (cQ m c) (cX m c)).2.2.2.2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexists _
    iexact H16
  isplitl [H17]
  · iexists _
    iexact H17
  isplitl [H18]
  · iexists _
    iexact H18
  isplitl [H19]
  · iexists _
    iexact H19
  isplitl [H20]
  · iexists _
    iexact H20
  isplitl [HS0]
  · iexact HS0
  isplitl [HS1]
  · iexact HS1
  isplitl [HS2]
  · iexact HS2
  isplitl [HS3]
  · iexact HS3
  isplitl [HS4]
  · iexact HS4
  isplitl [HS5]
  · iexact HS5
  iintro ⟨H0, H1, H2, H3, H4, H5, H6, H7, H8, H9, H10, H11, H12, H13, H14, H15, ⟨%e17, H16⟩, ⟨%e18, H17⟩, ⟨%e19, H18⟩, ⟨%e20, H19⟩, ⟨%e21, H20⟩, HS0, ⟨%e23, HS1⟩, ⟨%e24, HS2⟩, HS3, HS4, HS5⟩
  isplitl [HS0 HS1 HS2 HS3 HS4 HS5 Hg]
  · isplitl [HS0 HS1 HS2 HS3 HS4 HS5]
    · isplitl [HS0]
      · iexists _
        isplitr
        · ipureintro
          exact agree_upd m c t X hX
        unfold owns
        iexists _
        isplitr
        swap
        · iexact HS0
        ipureintro
        exact runC_22 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      isplitl [HS1]
      · unfold owns
        iexists _
        isplitr
        swap
        · iexact HS1
        ipureintro
        exact (runC_23 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (SM_succ m c t).symm
      isplitl [HS2]
      · unfold owns
        iexists _
        isplitr
        swap
        · iexact HS2
        ipureintro
        exact (runC_24 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (SMX_succ m c t).symm
      isplitl [HS3]
      · iexact HS3
      isplitl [HS4]
      · iexact HS4
      iexact HS5
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · unfold owns
    iexists _
    isplitr
    swap
    · iexact H16
    ipureintro
    exact runC_17 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H17]
  · unfold owns
    iexists _
    isplitr
    swap
    · iexact H17
    ipureintro
    exact runC_18 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H18]
  · unfold owns
    iexists _
    isplitr
    swap
    · iexact H18
    ipureintro
    exact runC_19 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H19]
  · unfold owns
    iexists _
    isplitr
    swap
    · iexact H19
    ipureintro
    exact runC_20 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  unfold owns
  iexists _
  isplitr
  swap
  · iexact H20
  ipureintro
  exact (runC_21 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (dx_eq m c t h7 X hX)

end Cert.Proj.Hand

end
-- ==== Proof.ProjBits.Run.lean ====
module

public import proofs.«01_k».proof.Proof.ProjBits.BodyA

public import proofs.«01_k».proof.Proof.ProjBits.BodyB
public import proofs.«01_k».proof.Proof.ProjBits.BodyC

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_A m c t hz
  by_cases h7 : t.val = 7
  · exact sound_C m c t h7
  exact sound_B m c t hz h7

theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨⟨%X, -, HS0⟩, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

set_option backward.isDefEq.respectTransparency.types false in
/-- The launch: every execution ends, each window's array at what the data names, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The frame: the program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Proj.Hand

end
-- ==== Proof.Proj.Conds.lean ====
module

public import proofs.«01_k».proof.Proof.Gen.ProjIdeal.Frame
public import proofs.«01_k».proof.Proof.Gen.ProjIdeal.Skeleton

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

/-- The condition of the body's first `if`, from the grid coordinates. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    rw [show t.val = 0 ↔ t.val % 8 = 0 by omega]
    simp only [cond0, e0]
    word_cmp
   : ∀ t : Fin grid0.N, cond0 (grid0.coords t) ↔ t.val = 0)

/-- The condition of the body's second `if`, from the grid coordinates. -/
abbrev cond1 (i : grid0.Coords) : Prop := k0_cond2 i = 1#1
/-- It holds at the last point only. -/
theorem hcond1 : ∀ t : Fin cfg0.N, cond1 (grid0.coords t) ↔ t.val = 7 :=
  (fun t => by
    have ht : t.val < 8 := Nat.lt_of_lt_of_eq t.isLt N_0
    have e0 : (grid0.coords t 0).val = t.val / 1 % 8 := Pipeline.Grid.coords_val t 0 (by decide) rfl
    rw [show t.val = 7 ↔ t.val % 8 = 7 by omega]
    simp only [cond1, k0_cond2, e0]
    word_cmp
   : ∀ t : Fin grid0.N, cond1 (grid0.coords t) ↔ t.val = 7)

end Cert.ProjIdeal.Hand

end
-- ==== Proof.Proj.RunA.lean ====
module

public import proofs.«01_k».proof.Proof.Proj.Conds

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

set_option maxHeartbeats 3200000 in
/-- The body at the first point: the five lane columns and the two running sums start here. The pieces each buffer ends with are the witness the run finds. -/
noncomputable def runA (c : Dev nD) (i : grid0.Coords) (arg1 : Memref sig .tc .vmem S1024x5632 .fp8e5m2) (harg1 : arg1.IsWhole) (arg2 : Memref sig .tc .vmem S1024x6144 .fp8e5m2) (harg2 : arg2.IsWhole) (arg3 : Memref sig .tc .vmem S256x5632 .fp8e4m3) (harg3 : arg3.IsWhole) (arg4 : Memref sig .tc .vmem S256x6144 .fp8e4m3) (harg4 : arg4.IsWhole) (arg5 : Memref sig .tc .vmem S1024x256 .fp8e4m3) (harg5 : arg5.IsWhole) (arg6 : Memref sig .tc .vmem S1x5632 .f32) (harg6 : arg6.IsWhole) (arg7 : Memref sig .tc .vmem S1x6144 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1024x2048 .fp8e5m2) (harg15 : arg15.IsWhole) (arg16 : Memref sig .tc .vmem S1024x2048 .fp8e4m3) (harg16 : arg16.IsWhole) (arg17 : Memref sig .tc .vmem S256x5632 .bf16) (harg17 : arg17.IsWhole) (arg18 : Memref sig .tc .vmem S256x6144 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S1024x2048 .bf16) (harg21 : arg21.IsWhole) (arg22 : Memref sig .tc .vmem S1024x2048 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x128 .f32) (harg27 : arg27.IsWhole) (hc0 : cond0 i) (hc1 : ¬cond1 i)
    (x0 : Vec F S1024x5632 .fp8e5m2) (x1 : Vec F S1024x6144 .fp8e5m2) (x2 : Vec F S256x5632 .fp8e4m3) (x3 : Vec F S256x6144 .fp8e4m3) (x4 : Vec F S1024x256 .fp8e4m3) (x5 : Vec F S1x5632 .f32) (x6 : Vec F S1x6144 .f32) (x7 : Vec F S1x1024 .f32) (x8 : Vec F S1x1024 .f32) (x9 : Vec F S1x1024 .f32) (x12 : Vec F S1x256 .f32) (x13 : Vec F S1x256 .f32) (xs0 : Vec F S1024x2048 .f32) :
    Σ' (L17 : List (View.Piece (Elt F) S256x5632 .bf16)), Σ' (L18 : List (View.Piece (Elt F) S256x6144 .bf16)), Σ' (L19 : List (View.Piece (Elt F) S1x256 .f32)), Σ' (L20 : List (View.Piece (Elt F) S1x256 .f32)), Σ' (L22 : List (View.Piece (Elt F) S1024x2048 .f32)), Σ' (L23 : List (View.Piece (Elt F) S1024x128 .f32)), Σ' (L24 : List (View.Piece (Elt F) S1024x128 .f32)), Σ' (L25 : List (View.Piece (Elt F) S1024x128 .f32)), Σ' (L26 : List (View.Piece (Elt F) S1024x128 .f32)), { L27 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x12 ∗ owns (c : Thread nD τ) arg14 fullShare x13 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg22 fullShare xs0 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x12 ∗ owns (c : Thread nD τ) arg14 fullShare x13 ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (arg22.view.loc (c : Thread nD τ) ↦[arg22.view.set]{fullShare} arg22.view.writes (Elt F) (harg22.unread xs0) L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25) ∗ (∃ f, arg26.view.loc (c : Thread nD τ) ↦[arg26.view.set]{fullShare} arg26.view.writes (Elt F) f L26) ∗ (∃ f, arg27.view.loc (c : Thread nD τ) ↦[arg27.view.set]{fullShare} arg27.view.writes (Elt F) f L27)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, fun E K => ?run⟩
  case run =>
    simp only [cc0_proj_eq_skeleton]; unfold cc0_proj_skel
    simp only [k0_part8_eq_skeleton, k0_part9_eq_skeleton, k0_part10_eq_skeleton, k0_part11_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f13, %hf13, H13⟩, ⟨%f14, %hf14, H14⟩, ⟨%d17, %f17, -, H17⟩, ⟨%d18, %f18, -, H18⟩, ⟨%d19, %f19, -, H19⟩, ⟨%d20, %f20, -, H20⟩, ⟨%f22, %hf22, H22⟩, ⟨%d23, %f23, -, H23⟩, ⟨%d24, %f24, -, H24⟩, ⟨%d25, %f25, -, H25⟩, ⟨%d26, %f26, -, H26⟩, ⟨%d27, %f27, -, H27⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13; obtain rfl := harg14.eq_unread hf14; obtain rfl := harg22.eq_unread hf22
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H13]
    · iexists _; isplitr; · ipureintro; exact harg13.read_unread _
      iexact H13
    isplitl [H14]
    · iexists _; isplitr; · ipureintro; exact harg14.read_unread _
      iexact H14
    isplitl [H17]
    · iexists _; iexact H17
    isplitl [H18]
    · iexists _; iexact H18
    isplitl [H19]
    · iexists _; iexact H19
    isplitl [H20]
    · iexists _; iexact H20
    isplitl [H22]
    · iexact H22
    isplitl [H23]
    · iexists _; iexact H23
    isplitl [H24]
    · iexists _; iexact H24
    isplitl [H25]
    · iexists _; iexact H25
    isplitl [H26]
    · iexists _; iexact H26
    iexists _; iexact H27

end Cert.ProjIdeal.Hand

end
-- ==== Proof.Proj.Point.lean ====
module

public import proofs.«01_k».proof.Proof.Proj.Conds

public import Idealize.ShloMosaic.Lib.Pipeline.ValueKit
public import Idealize.ShloMosaic.Lib.WritesUnit

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

/-- What a point stores in its block of `dw_in`. -/
def dwIn (x0 : Vec F S1024x5632 .fp8e5m2) (x4 : Vec F S1024x256 .fp8e4m3) (x7 : Vec F S1x1024 .f32) (x9 : Vec F S1x1024 .f32) (x13 : Vec F S1x256 .f32) : Vec F S256x5632 .bf16 := k0_pay55 (k0_pay53 x4) x9 x13 x7 x0
/-- What a point stores in its block of `dw_qkv`. -/
def dwQkv (x1 : Vec F S1024x6144 .fp8e5m2) (x4 : Vec F S1024x256 .fp8e4m3) (x8 : Vec F S1x1024 .f32) (x9 : Vec F S1x1024 .f32) (x12 : Vec F S1x256 .f32) : Vec F S256x6144 .bf16 := k0_pay56 (k0_pay53 x4) x9 x12 x8 x1
/-- A point's block of `dgamma_attn`, stored as two halves of 128 columns. -/
def dGa (x1 : Vec F S1024x6144 .fp8e5m2) (x3 : Vec F S256x6144 .fp8e4m3) (x4 : Vec F S1024x256 .fp8e4m3) (x6 : Vec F S1x6144 .f32) (xs4 : Vec F S1024x128 .f32) (xs5 : Vec F S1024x128 .f32) : Vec F S1x256 .f32 :=
  View.canon [⟨Rect.unit ![0, 128] ![1, 128] inb_S1x256_S1x128_0_128, k0_pay47 (k0_pay43 xs5 (View.ld x4 (Rect.unit ![0, 128] ![1024, 128] inb_S1024x256_S1024x128_0_128))) (k0_pay44 (k0_pay32 x1 x3 x6) xs4)⟩,
    ⟨Rect.unit ![0, 0] ![1, 128] inb_S1x256_S1x128_0_0, k0_pay37 (k0_pay32 x1 x3 x6) xs4 xs5 (View.ld x4 (Rect.unit ![0, 0] ![1024, 128] inb_S1024x256_S1024x128_0_0))⟩]
/-- A point's block of `dgamma_mlp`, stored as two halves of 128 columns. -/
def dGm (x0 : Vec F S1024x5632 .fp8e5m2) (x2 : Vec F S256x5632 .fp8e4m3) (x4 : Vec F S1024x256 .fp8e4m3) (x5 : Vec F S1x5632 .f32) (xs3 : Vec F S1024x128 .f32) (xs5 : Vec F S1024x128 .f32) : Vec F S1x256 .f32 :=
  View.canon [⟨Rect.unit ![0, 128] ![1, 128] inb_S1x256_S1x128_0_128, k0_pay48 xs3 (k0_pay43 xs5 (View.ld x4 (Rect.unit ![0, 128] ![1024, 128] inb_S1024x256_S1024x128_0_128))) (k0_pay45 (k0_pay33 x0 x2 x5))⟩,
    ⟨Rect.unit ![0, 0] ![1, 128] inb_S1x256_S1x128_0_0, k0_pay38 (k0_pay33 x0 x2 x5) xs3 xs5 (View.ld x4 (Rect.unit ![0, 0] ![1024, 128] inb_S1024x256_S1024x128_0_0))⟩]
/-- The first 128 columns of a point's block of `dxhat`. -/
def dxh0 (x0 : Vec F S1024x5632 .fp8e5m2) (x1 : Vec F S1024x6144 .fp8e5m2) (x2 : Vec F S256x5632 .fp8e4m3) (x3 : Vec F S256x6144 .fp8e4m3) (x5 : Vec F S1x5632 .f32) (x6 : Vec F S1x6144 .f32) (x12 : Vec F S1x256 .f32) (x13 : Vec F S1x256 .f32) (xs3 : Vec F S1024x128 .f32) (xs4 : Vec F S1024x128 .f32) : Vec F S1024x128 .f32 :=
  k0_pay42 (k0_pay32 x1 x3 x6) (k0_pay33 x0 x2 x5) xs3 xs4 (View.ld x12 (Rect.unit ![0, 0] ![1, 128] inb_S1x256_S1x128_0_0)) (View.ld x13 (Rect.unit ![0, 0] ![1, 128] inb_S1x256_S1x128_0_0))
/-- The last 128 columns of a point's block of `dxhat`. -/
def dxh1 (x0 : Vec F S1024x5632 .fp8e5m2) (x1 : Vec F S1024x6144 .fp8e5m2) (x2 : Vec F S256x5632 .fp8e4m3) (x3 : Vec F S256x6144 .fp8e4m3) (x5 : Vec F S1x5632 .f32) (x6 : Vec F S1x6144 .f32) (x12 : Vec F S1x256 .f32) (x13 : Vec F S1x256 .f32) (xs3 : Vec F S1024x128 .f32) (xs4 : Vec F S1024x128 .f32) : Vec F S1024x128 .f32 :=
  k0_pay50 xs3 (k0_pay44 (k0_pay32 x1 x3 x6) xs4) (k0_pay45 (k0_pay33 x0 x2 x5)) (View.ld x12 (Rect.unit ![0, 128] ![1, 128] inb_S1x256_S1x128_0_128)) (View.ld x13 (Rect.unit ![0, 128] ![1, 128] inb_S1x256_S1x128_0_128))
/-- The lane sums of `dxhat` after a point. -/
def sumStep (x0 : Vec F S1024x5632 .fp8e5m2) (x1 : Vec F S1024x6144 .fp8e5m2) (x2 : Vec F S256x5632 .fp8e4m3) (x3 : Vec F S256x6144 .fp8e4m3) (x5 : Vec F S1x5632 .f32) (x6 : Vec F S1x6144 .f32) (x12 : Vec F S1x256 .f32) (x13 : Vec F S1x256 .f32) (xs1 : Vec F S1024x128 .f32) (xs3 : Vec F S1024x128 .f32) (xs4 : Vec F S1024x128 .f32) : Vec F S1024x128 .f32 :=
  k0_pay51 xs3 (k0_pay40 (k0_pay32 x1 x3 x6) (k0_pay33 x0 x2 x5) xs1 xs3 xs4 (View.ld x12 (Rect.unit ![0, 0] ![1, 128] inb_S1x256_S1x128_0_0)) (View.ld x13 (Rect.unit ![0, 0] ![1, 128] inb_S1x256_S1x128_0_0))) (k0_pay44 (k0_pay32 x1 x3 x6) xs4) (k0_pay45 (k0_pay33 x0 x2 x5)) (View.ld x12 (Rect.unit ![0, 128] ![1, 128] inb_S1x256_S1x128_0_128)) (View.ld x13 (Rect.unit ![0, 128] ![1, 128] inb_S1x256_S1x128_0_128))
/-- The lane sums of `dxhat * xhat` after a point. -/
def sumxStep (x0 : Vec F S1024x5632 .fp8e5m2) (x1 : Vec F S1024x6144 .fp8e5m2) (x2 : Vec F S256x5632 .fp8e4m3) (x3 : Vec F S256x6144 .fp8e4m3) (x4 : Vec F S1024x256 .fp8e4m3) (x5 : Vec F S1x5632 .f32) (x6 : Vec F S1x6144 .f32) (x12 : Vec F S1x256 .f32) (x13 : Vec F S1x256 .f32) (xs2 : Vec F S1024x128 .f32) (xs3 : Vec F S1024x128 .f32) (xs4 : Vec F S1024x128 .f32) (xs5 : Vec F S1024x128 .f32) : Vec F S1024x128 .f32 :=
  k0_pay52 xs3 (k0_pay41 (k0_pay32 x1 x3 x6) (k0_pay33 x0 x2 x5) xs2 xs3 xs4 xs5 (View.ld x4 (Rect.unit ![0, 0] ![1024, 128] inb_S1024x256_S1024x128_0_0)) (View.ld x12 (Rect.unit ![0, 0] ![1, 128] inb_S1x256_S1x128_0_0)) (View.ld x13 (Rect.unit ![0, 0] ![1, 128] inb_S1x256_S1x128_0_0))) (k0_pay43 xs5 (View.ld x4 (Rect.unit ![0, 128] ![1024, 128] inb_S1024x256_S1024x128_0_128))) (k0_pay44 (k0_pay32 x1 x3 x6) xs4) (k0_pay45 (k0_pay33 x0 x2 x5)) (View.ld x12 (Rect.unit ![0, 128] ![1, 128] inb_S1x256_S1x128_0_128)) (View.ld x13 (Rect.unit ![0, 128] ![1, 128] inb_S1x256_S1x128_0_128))
/-- An array with the columns `[n, n + 256)` replaced by two blocks of 128 columns. -/
def upd (n : ℕ) (X : Vec F S1024x2048 .f32) (p0 p1 : Vec F S1024x128 .f32) : Vec F S1024x2048 .f32 := fun y =>
  if n + 128 ≤ (y 1).val ∧ (y 1).val < n + 256 then p1 (ix2 (y 0) ⟨((y 1).val - n) % 128, Nat.mod_lt _ (by decide)⟩)
  else if n ≤ (y 1).val ∧ (y 1).val < n + 128 then p0 (ix2 (y 0) ⟨((y 1).val - n) % 128, Nat.mod_lt _ (by decide)⟩)
  else X y
/-- The sixteen stores of the last point into `dx`, from the whole `dxhat` (`D`) and the lane sums `T` and `T2`. -/
def dxPieces (x10 : Vec F S1x1024 .f32) (x11 : Vec F S1x1024 .f32) (x14 : Vec F S1024x2048 .fp8e5m2) (x15 : Vec F S1024x2048 .fp8e4m3) (xs5 : Vec F S1024x128 .f32) (D : Vec F S1024x2048 .f32) (T T2 : Vec F S1024x128 .f32) :
    List (View.Piece (Elt F) S1024x2048 .bf16) :=
  [⟨Rect.unit ![0, 1920] ![1024, 128] inb_S1024x2048_S1024x128_0_1920, k0_pay26 (k0_pay1 T) (k0_pay2 x10) (k0_pay3 x11) (k0_pay4 T2 xs5) (View.ld D (Rect.unit ![0, 1920] ![1024, 128] inb_S1024x2048_S1024x128_0_1920)) (View.ld x15 (Rect.unit ![0, 1920] ![1024, 128] inb_S1024x2048_S1024x128_0_1920)) (View.ld x14 (Rect.unit ![0, 1920] ![1024, 128] inb_S1024x2048_S1024x128_0_1920))⟩,
    ⟨Rect.unit ![0, 1792] ![1024, 128] inb_S1024x2048_S1024x128_0_1792, k0_pay25 (k0_pay1 T) (k0_pay2 x10) (k0_pay3 x11) (k0_pay4 T2 xs5) (View.ld D (Rect.unit ![0, 1792] ![1024, 128] inb_S1024x2048_S1024x128_0_1792)) (View.ld x15 (Rect.unit ![0, 1792] ![1024, 128] inb_S1024x2048_S1024x128_0_1792)) (View.ld x14 (Rect.unit ![0, 1792] ![1024, 128] inb_S1024x2048_S1024x128_0_1792))⟩,
    ⟨Rect.unit ![0, 1664] ![1024, 128] inb_S1024x2048_S1024x128_0_1664, k0_pay24 (k0_pay2 x10) (k0_pay3 x11) (k0_pay22 (k0_pay1 T) (View.ld D (Rect.unit ![0, 1664] ![1024, 128] inb_S1024x2048_S1024x128_0_1664))) (k0_pay23 (k0_pay4 T2 xs5) (View.ld x15 (Rect.unit ![0, 1664] ![1024, 128] inb_S1024x2048_S1024x128_0_1664))) (View.ld x14 (Rect.unit ![0, 1664] ![1024, 128] inb_S1024x2048_S1024x128_0_1664))⟩,
    ⟨Rect.unit ![0, 1536] ![1024, 128] inb_S1024x2048_S1024x128_0_1536, k0_pay21 (k0_pay1 T) (k0_pay2 x10) (k0_pay3 x11) (k0_pay4 T2 xs5) (View.ld D (Rect.unit ![0, 1536] ![1024, 128] inb_S1024x2048_S1024x128_0_1536)) (View.ld x15 (Rect.unit ![0, 1536] ![1024, 128] inb_S1024x2048_S1024x128_0_1536)) (View.ld x14 (Rect.unit ![0, 1536] ![1024, 128] inb_S1024x2048_S1024x128_0_1536))⟩,
    ⟨Rect.unit ![0, 1408] ![1024, 128] inb_S1024x2048_S1024x128_0_1408, k0_pay20 (k0_pay1 T) (k0_pay2 x10) (k0_pay3 x11) (k0_pay4 T2 xs5) (View.ld D (Rect.unit ![0, 1408] ![1024, 128] inb_S1024x2048_S1024x128_0_1408)) (View.ld x15 (Rect.unit ![0, 1408] ![1024, 128] inb_S1024x2048_S1024x128_0_1408)) (View.ld x14 (Rect.unit ![0, 1408] ![1024, 128] inb_S1024x2048_S1024x128_0_1408))⟩,
    ⟨Rect.unit ![0, 1280] ![1024, 128] inb_S1024x2048_S1024x128_0_1280, k0_pay19 (k0_pay1 T) (k0_pay2 x10) (k0_pay3 x11) (k0_pay4 T2 xs5) (View.ld D (Rect.unit ![0, 1280] ![1024, 128] inb_S1024x2048_S1024x128_0_1280)) (View.ld x15 (Rect.unit ![0, 1280] ![1024, 128] inb_S1024x2048_S1024x128_0_1280)) (View.ld x14 (Rect.unit ![0, 1280] ![1024, 128] inb_S1024x2048_S1024x128_0_1280))⟩,
    ⟨Rect.unit ![0, 1152] ![1024, 128] inb_S1024x2048_S1024x128_0_1152, k0_pay18 (k0_pay1 T) (k0_pay2 x10) (k0_pay3 x11) (k0_pay4 T2 xs5) (View.ld D (Rect.unit ![0, 1152] ![1024, 128] inb_S1024x2048_S1024x128_0_1152)) (View.ld x15 (Rect.unit ![0, 1152] ![1024, 128] inb_S1024x2048_S1024x128_0_1152)) (View.ld x14 (Rect.unit ![0, 1152] ![1024, 128] inb_S1024x2048_S1024x128_0_1152))⟩,
    ⟨Rect.unit ![0, 1024] ![1024, 128] inb_S1024x2048_S1024x128_0_1024, k0_pay17 (k0_pay2 x10) (k0_pay3 x11) (k0_pay15 (k0_pay1 T) (View.ld D (Rect.unit ![0, 1024] ![1024, 128] inb_S1024x2048_S1024x128_0_1024))) (k0_pay16 (k0_pay4 T2 xs5) (View.ld x15 (Rect.unit ![0, 1024] ![1024, 128] inb_S1024x2048_S1024x128_0_1024))) (View.ld x14 (Rect.unit ![0, 1024] ![1024, 128] inb_S1024x2048_S1024x128_0_1024))⟩,
    ⟨Rect.unit ![0, 896] ![1024, 128] inb_S1024x2048_S1024x128_0_896, k0_pay14 (k0_pay1 T) (k0_pay2 x10) (k0_pay3 x11) (k0_pay4 T2 xs5) (View.ld D (Rect.unit ![0, 896] ![1024, 128] inb_S1024x2048_S1024x128_0_896)) (View.ld x15 (Rect.unit ![0, 896] ![1024, 128] inb_S1024x2048_S1024x128_0_896)) (View.ld x14 (Rect.unit ![0, 896] ![1024, 128] inb_S1024x2048_S1024x128_0_896))⟩,
    ⟨Rect.unit ![0, 768] ![1024, 128] inb_S1024x2048_S1024x128_0_768, k0_pay13 (k0_pay1 T) (k0_pay2 x10) (k0_pay3 x11) (k0_pay4 T2 xs5) (View.ld D (Rect.unit ![0, 768] ![1024, 128] inb_S1024x2048_S1024x128_0_768)) (View.ld x15 (Rect.unit ![0, 768] ![1024, 128] inb_S1024x2048_S1024x128_0_768)) (View.ld x14 (Rect.unit ![0, 768] ![1024, 128] inb_S1024x2048_S1024x128_0_768))⟩,
    ⟨Rect.unit ![0, 640] ![1024, 128] inb_S1024x2048_S1024x128_0_640, k0_pay12 (k0_pay1 T) (k0_pay2 x10) (k0_pay3 x11) (k0_pay4 T2 xs5) (View.ld D (Rect.unit ![0, 640] ![1024, 128] inb_S1024x2048_S1024x128_0_640)) (View.ld x15 (Rect.unit ![0, 640] ![1024, 128] inb_S1024x2048_S1024x128_0_640)) (View.ld x14 (Rect.unit ![0, 640] ![1024, 128] inb_S1024x2048_S1024x128_0_640))⟩,
    ⟨Rect.unit ![0, 512] ![1024, 128] inb_S1024x2048_S1024x128_0_512, k0_pay11 (k0_pay1 T) (k0_pay2 x10) (k0_pay3 x11) (k0_pay4 T2 xs5) (View.ld D (Rect.unit ![0, 512] ![1024, 128] inb_S1024x2048_S1024x128_0_512)) (View.ld x15 (Rect.unit ![0, 512] ![1024, 128] inb_S1024x2048_S1024x128_0_512)) (View.ld x14 (Rect.unit ![0, 512] ![1024, 128] inb_S1024x2048_S1024x128_0_512))⟩,
    ⟨Rect.unit ![0, 384] ![1024, 128] inb_S1024x2048_S1024x128_0_384, k0_pay10 (k0_pay2 x10) (k0_pay3 x11) (k0_pay8 (k0_pay1 T) (View.ld D (Rect.unit ![0, 384] ![1024, 128] inb_S1024x2048_S1024x128_0_384))) (k0_pay9 (k0_pay4 T2 xs5) (View.ld x15 (Rect.unit ![0, 384] ![1024, 128] inb_S1024x2048_S1024x128_0_384))) (View.ld x14 (Rect.unit ![0, 384] ![1024, 128] inb_S1024x2048_S1024x128_0_384))⟩,
    ⟨Rect.unit ![0, 256] ![1024, 128] inb_S1024x2048_S1024x128_0_256, k0_pay7 (k0_pay1 T) (k0_pay2 x10) (k0_pay3 x11) (k0_pay4 T2 xs5) (View.ld D (Rect.unit ![0, 256] ![1024, 128] inb_S1024x2048_S1024x128_0_256)) (View.ld x15 (Rect.unit ![0, 256] ![1024, 128] inb_S1024x2048_S1024x128_0_256)) (View.ld x14 (Rect.unit ![0, 256] ![1024, 128] inb_S1024x2048_S1024x128_0_256))⟩,
    ⟨Rect.unit ![0, 128] ![1024, 128] inb_S1024x2048_S1024x128_0_128, k0_pay6 (k0_pay1 T) (k0_pay2 x10) (k0_pay3 x11) (k0_pay4 T2 xs5) (View.ld D (Rect.unit ![0, 128] ![1024, 128] inb_S1024x2048_S1024x128_0_128)) (View.ld x15 (Rect.unit ![0, 128] ![1024, 128] inb_S1024x2048_S1024x128_0_128)) (View.ld x14 (Rect.unit ![0, 128] ![1024, 128] inb_S1024x2048_S1024x128_0_128))⟩,
    ⟨Rect.unit ![0, 0] ![1024, 128] inb_S1024x2048_S1024x128_0_0, k0_pay5 T T2 x10 x11 xs5 (View.ld D (Rect.unit ![0, 0] ![1024, 128] inb_S1024x2048_S1024x128_0_0)) (View.ld x15 (Rect.unit ![0, 0] ![1024, 128] inb_S1024x2048_S1024x128_0_0)) (View.ld x14 (Rect.unit ![0, 0] ![1024, 128] inb_S1024x2048_S1024x128_0_0))⟩]

/-- Two stores of 128 columns each, at `n` and `n + 128`, leave `upd`. -/
theorem read_two {sig' : RefSig} {κ : Kind} {sp : Space} (v : View sig' κ sp S1024x2048 .f32) (f : v.ty.Contents (Elt F)) (n : ℕ) (o0 o1 : Fin 2 → ℕ)
    (h0 : o0 = ![0, n]) (h1 : o1 = ![0, n + 128])
    (inb0 : ∀ a, o0 a + (![1024, 128] : Fin 2 → ℕ) a ≤ S1024x2048.size a) (inb1 : ∀ a, o1 a + (![1024, 128] : Fin 2 → ℕ) a ≤ S1024x2048.size a)
    (p0 p1 : Vec F S1024x128 .f32) :
    v.read (Elt F) (v.writes (Elt F) f [⟨Rect.unit (s := S1024x2048) o1 ![1024, 128] inb1, p1⟩, ⟨Rect.unit (s := S1024x2048) o0 ![1024, 128] inb0, p0⟩])
      = upd n (v.read (Elt F) f) p0 p1 := by
  funext y
  have hy0 : (y 0).val < 1024 := (y 0).isLt
  unfold upd
  by_cases c1 : n + 128 ≤ (y 1).val ∧ (y 1).val < n + 256
  · rw [if_pos c1]
    refine View.read_writes_cons_unit_of_mem v f inb1 p1 _ y _ h1 (Fin.forall_fin_two.mpr ⟨?_, ?_⟩)
    · show (y 0).val = 0 + (y 0).val
      omega
    · show (y 1).val = n + 128 + ((y 1).val - n) % 128
      omega
  rw [if_neg c1]
  rw [View.read_writes_cons_unit_of_not_mem v f inb1 p1 _ y h1 (1 : Fin 2) (by
    show (y 1).val < n + 128 ∨ n + 128 + 128 ≤ (y 1).val
    omega)]
  by_cases c0 : n ≤ (y 1).val ∧ (y 1).val < n + 128
  · rw [if_pos c0]
    refine View.read_writes_cons_unit_of_mem v f inb0 p0 _ y _ h0 (Fin.forall_fin_two.mpr ⟨?_, ?_⟩)
    · show (y 0).val = 0 + (y 0).val
      omega
    · show (y 1).val = n + ((y 1).val - n) % 128
      omega
  rw [if_neg c0]
  rw [View.read_writes_cons_unit_of_not_mem v f inb0 p0 _ y h0 (1 : Fin 2) (by
    show (y 1).val < n ∨ n + 128 ≤ (y 1).val
    omega)]
  rfl

/-- The columns at which a point stores the halves of its block. -/
theorem off0 (i : grid0.Coords) : (![0, BitVec.toNat (Scalar.indexCast (Scalar.addi (Scalar.muli (BitVec.ofNat 32 ↑(i 0)) 256#32) 0#32))] : Fin 2 → ℕ)
    = ![0, 256 * (i 0).val] :=
  congrArg (fun n => (![0, n] : Fin 2 → ℕ)) ((by decide +kernel : ∀ k : Fin 8, BitVec.toNat (Scalar.indexCast (Scalar.addi (Scalar.muli (BitVec.ofNat 32 k.val) 256#32) 0#32)) = 256 * k.val) (i 0))
theorem off1 (i : grid0.Coords) : (![0, BitVec.toNat (Scalar.indexCast (Scalar.addi (Scalar.muli (BitVec.ofNat 32 ↑(i 0)) 256#32) 128#32))] : Fin 2 → ℕ)
    = ![0, 256 * (i 0).val + 128] :=
  congrArg (fun n => (![0, n] : Fin 2 → ℕ)) ((by decide +kernel : ∀ k : Fin 8, BitVec.toNat (Scalar.indexCast (Scalar.addi (Scalar.muli (BitVec.ofNat 32 k.val) 256#32) 128#32)) = 256 * k.val + 128) (i 0))

/-- A store of the whole buffer leaves its payload. -/
theorem read_whole {sig' : RefSig} {κ : Kind} {sp : Space} {S : Shape} {e : EltTy} (v : View sig' κ sp S e) (f : v.ty.Contents (Elt F))
    {off : Fin S.rank → Nat} (inb : ∀ a, off a + S.size a ≤ S.size a) (w : S.Idx → Elt F e) (L : List (View.Piece (Elt F) S e)) (h : ∀ a, off a = 0) :
    v.read (Elt F) (v.writes (Elt F) f ((⟨Rect.unit off (no_index S.size) inb, w⟩ : View.Piece (Elt F) S e) :: L)) = w := by
  funext y
  exact View.read_writes_cons_unit_of_mem v f inb w L y y rfl (fun a => by rw [h a, Nat.zero_add])

end Cert.ProjIdeal.Hand

end
-- ==== Proof.Proj.ReadsA.lean ====
module

public import proofs.«01_k».proof.Proof.Proj.RunA

public import proofs.«01_k».proof.Proof.Proj.Point

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

section
variable (c : Dev nD) (i : grid0.Coords)
    (arg1 : Memref sig .tc .vmem S1024x5632 .fp8e5m2) (harg1 : arg1.IsWhole) (arg2 : Memref sig .tc .vmem S1024x6144 .fp8e5m2) (harg2 : arg2.IsWhole) (arg3 : Memref sig .tc .vmem S256x5632 .fp8e4m3) (harg3 : arg3.IsWhole) (arg4 : Memref sig .tc .vmem S256x6144 .fp8e4m3) (harg4 : arg4.IsWhole) (arg5 : Memref sig .tc .vmem S1024x256 .fp8e4m3) (harg5 : arg5.IsWhole) (arg6 : Memref sig .tc .vmem S1x5632 .f32) (harg6 : arg6.IsWhole) (arg7 : Memref sig .tc .vmem S1x6144 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1024x2048 .fp8e5m2) (harg15 : arg15.IsWhole) (arg16 : Memref sig .tc .vmem S1024x2048 .fp8e4m3) (harg16 : arg16.IsWhole) (arg17 : Memref sig .tc .vmem S256x5632 .bf16) (harg17 : arg17.IsWhole) (arg18 : Memref sig .tc .vmem S256x6144 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S1024x2048 .bf16) (harg21 : arg21.IsWhole) (arg22 : Memref sig .tc .vmem S1024x2048 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x128 .f32) (harg27 : arg27.IsWhole)
    (hc0 : cond0 i) (hc1 : ¬cond1 i)
    (x0 : Vec F S1024x5632 .fp8e5m2) (x1 : Vec F S1024x6144 .fp8e5m2) (x2 : Vec F S256x5632 .fp8e4m3) (x3 : Vec F S256x6144 .fp8e4m3) (x4 : Vec F S1024x256 .fp8e4m3) (x5 : Vec F S1x5632 .f32) (x6 : Vec F S1x6144 .f32) (x7 : Vec F S1x1024 .f32) (x8 : Vec F S1x1024 .f32) (x9 : Vec F S1x1024 .f32) (x12 : Vec F S1x256 .f32) (x13 : Vec F S1x256 .f32) (xs0 : Vec F S1024x2048 .f32)
/-- What the first point leaves in dw_in. -/
theorem runA_17 :
    ∀ f, arg17.view.read (Elt F) (arg17.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).1)
      = dwIn x0 x4 x7 x9 x13 := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in dw_qkv. -/
theorem runA_18 :
    ∀ f, arg18.view.read (Elt F) (arg18.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.1)
      = dwQkv x1 x4 x8 x9 x12 := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in dgamma_attn. -/
theorem runA_19 :
    ∀ f, arg19.view.read (Elt F) (arg19.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.1)
      = dGa x1 x3 x4 x6 (k0_pay30 x8) (k0_pay31 x9) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1, 128] (by rfl))]
  rfl

/-- What the first point leaves in dgamma_mlp. -/
theorem runA_20 :
    ∀ f, arg20.view.read (Elt F) (arg20.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.2.1)
      = dGm x0 x2 x4 x5 (k0_pay29 x7) (k0_pay31 x9) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1, 128] (by rfl))]
  rfl

/-- What the first point leaves in the scratch of dxhat. -/
theorem runA_22 :
    arg22.view.read (Elt F) (arg22.view.writes (Elt F) (harg22.unread xs0) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.2.2.1)
      = upd (256 * (i 0).val) xs0 (dxh0 x0 x1 x2 x3 x5 x6 x12 x13 (k0_pay29 x7) (k0_pay30 x8)) (dxh1 x0 x1 x2 x3 x5 x6 x12 x13 (k0_pay29 x7) (k0_pay30 x8)) := by
  unfold runA; dsimp only; sl_unfold_words; simp (disch := decide) only [View.readAt_eq_ld, Memref.IsWhole.read_unread, View.ld_unit_lit, View.canon_cons_unit_lit, View.readCov_unit_lit, View.readCov_cons_unit_lit', read_whole]
  exact (read_two arg22.view (harg22.unread xs0) (256 * (i 0).val) _ _ (off0 i) (off1 i) _ _ _ _).trans (by rw [harg22.read_unread]; rfl)

/-- What the first point leaves in the lane sums of dxhat. -/
theorem runA_23 :
    ∀ f, arg23.view.read (Elt F) (arg23.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.2.2.2.1)
      = sumStep x0 x1 x2 x3 x5 x6 x12 x13 k0_pay27 (k0_pay29 x7) (k0_pay30 x8) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the lane sums of dxhat * xhat. -/
theorem runA_24 :
    ∀ f, arg24.view.read (Elt F) (arg24.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.2.2.2.2.1)
      = sumxStep x0 x1 x2 x3 x4 x5 x6 x12 x13 k0_pay28 (k0_pay29 x7) (k0_pay30 x8) (k0_pay31 x9) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the column of da_scale. -/
theorem runA_25 :
    ∀ f, arg25.view.read (Elt F) (arg25.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.2.2.2.2.2.1)
      = (k0_pay29 x7) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the column of dqkv_scale. -/
theorem runA_26 :
    ∀ f, arg26.view.read (Elt F) (arg26.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.2.2.2.2.2.2.1)
      = (k0_pay30 x8) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

/-- What the first point leaves in the column of xhat_scale. -/
theorem runA_27 :
    ∀ f, arg27.view.read (Elt F) (arg27.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0).2.2.2.2.2.2.2.2.2.1)
      = (k0_pay31 x9) := by
  intro f
  unfold runA; dsimp only; sl_unfold_words; simp (disch := decide) only [View.readAt_eq_ld, Memref.IsWhole.read_unread, View.ld_unit_lit, View.canon_cons_unit_lit, View.readCov_unit_lit, View.readCov_cons_unit_lit', read_whole] <;> rfl

end

end Cert.ProjIdeal.Hand

end
-- ==== Proof.Proj.Data.lean ====
module

public import proofs.«01_k».proof.Proof.Proj.Point

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The column of `da_scale`, in 128 lanes. -/
def cA (c : Dev nD) : Vec F S1024x128 .f32 := k0_pay29 (iblk m c 7 t0_0)
/-- The column of `dqkv_scale`, in 128 lanes. -/
def cQ (c : Dev nD) : Vec F S1024x128 .f32 := k0_pay30 (iblk m c 8 t0_0)
/-- The column of `xhat_scale`, in 128 lanes. -/
def cX (c : Dev nD) : Vec F S1024x128 .f32 := k0_pay31 (iblk m c 9 t0_0)
/-- The two halves of point `t`'s block of `dxhat`. -/
def hA (c : Dev nD) (t : Fin cfg0.N) : Vec F S1024x128 .f32 := dxh0 (iblk m c 0 t) (iblk m c 1 t) (iblk m c 2 t) (iblk m c 3 t) (iblk m c 5 t) (iblk m c 6 t) (iblk m c 12 t) (iblk m c 13 t) (cA m c) (cQ m c)
def hB (c : Dev nD) (t : Fin cfg0.N) : Vec F S1024x128 .f32 := dxh1 (iblk m c 0 t) (iblk m c 1 t) (iblk m c 2 t) (iblk m c 3 t) (iblk m c 5 t) (iblk m c 6 t) (iblk m c 12 t) (iblk m c 13 t) (cA m c) (cQ m c)
/-- The lane sums of `dxhat` after `n` points. -/
def SM (c : Dev nD) : ℕ → Vec F S1024x128 .f32
  | 0 => k0_pay27
  | n + 1 => if h : n < cfg0.N then sumStep (iblk m c 0 ⟨n, h⟩) (iblk m c 1 ⟨n, h⟩) (iblk m c 2 ⟨n, h⟩) (iblk m c 3 ⟨n, h⟩) (iblk m c 5 ⟨n, h⟩) (iblk m c 6 ⟨n, h⟩) (iblk m c 12 ⟨n, h⟩) (iblk m c 13 ⟨n, h⟩) (SM c n) (cA m c) (cQ m c) else SM c n
/-- The lane sums of `dxhat * xhat` after `n` points. -/
def SMX (c : Dev nD) : ℕ → Vec F S1024x128 .f32
  | 0 => k0_pay28
  | n + 1 => if h : n < cfg0.N then sumxStep (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 12 ⟨n, h⟩) (iblk m c 13 ⟨n, h⟩) (SMX c n) (cA m c) (cQ m c) (cX m c) else SMX c n
theorem SM_succ (c : Dev nD) (t : Fin cfg0.N) : SM m c (t.val + 1) = sumStep (iblk m c 0 t) (iblk m c 1 t) (iblk m c 2 t) (iblk m c 3 t) (iblk m c 5 t) (iblk m c 6 t) (iblk m c 12 t) (iblk m c 13 t) (SM m c t.val) (cA m c) (cQ m c) := by
  rw [SM, dif_pos t.isLt]
theorem SMX_succ (c : Dev nD) (t : Fin cfg0.N) : SMX m c (t.val + 1) = sumxStep (iblk m c 0 t) (iblk m c 1 t) (iblk m c 2 t) (iblk m c 3 t) (iblk m c 4 t) (iblk m c 5 t) (iblk m c 6 t) (iblk m c 12 t) (iblk m c 13 t) (SMX m c t.val) (cA m c) (cQ m c) (cX m c) := by
  rw [SMX, dif_pos t.isLt]
/-- The point whose block holds a column. -/
def ptOf (y : S1024x2048.Idx) : Fin cfg0.N := ⟨(y 1).val / 256, by
  have h : (y 1).val < 2048 := (y 1).isLt
  rw [show cfg0.N = 8 from N_0]; omega⟩
/-- The whole `dxhat`: each point's two halves side by side. -/
def DXH (c : Dev nD) : Vec F S1024x2048 .f32 := fun y =>
  if 128 ≤ (y 1).val % 256 then hB m c (ptOf y) (ix2 (y 0) ⟨(y 1).val % 128, Nat.mod_lt _ (by decide)⟩)
  else hA m c (ptOf y) (ix2 (y 0) ⟨(y 1).val % 128, Nat.mod_lt _ (by decide)⟩)
/-- The scratch holds `dxhat` on the columns of the first `n` points. -/
def Agree (c : Dev nD) (n : ℕ) (X : Vec F S1024x2048 .f32) : Prop := ∀ y, (y 1).val < 256 * n → X y = DXH m c y

theorem coord (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- A point extends the agreement by its 256 columns. -/
theorem agree_upd (c : Dev nD) (t : Fin cfg0.N) (X : Vec F S1024x2048 .f32) (h : Agree m c t.val X) :
    Agree m c (t.val + 1) (upd (256 * (grid0.coords t 0).val) X (hA m c t) (hB m c t)) := by
  intro y hy
  rw [coord t]
  have ey : ∀ z : ℕ, z = (y 1).val % 128 → ∀ hz : z < 128, (⟨z, hz⟩ : Fin 128) = ⟨(y 1).val % 128, Nat.mod_lt _ (by decide)⟩ := fun z e _ => Fin.ext e
  have ep : 256 * t.val ≤ (y 1).val → ptOf y = t := fun hle => Fin.ext (by show (y 1).val / 256 = t.val; omega)
  unfold upd DXH
  by_cases c1 : 256 * t.val + 128 ≤ (y 1).val ∧ (y 1).val < 256 * t.val + 256
  · rw [if_pos c1, if_pos (by omega), ep (by omega), ey _ (by omega)]
  rw [if_neg c1]
  by_cases c0 : 256 * t.val ≤ (y 1).val ∧ (y 1).val < 256 * t.val + 128
  · rw [if_pos c0, if_neg (by omega), ep (by omega), ey _ (by omega)]
  rw [if_neg c0]
  exact h y (by omega)
/-- After the last point the scratch is the whole `dxhat`. -/
theorem agree_all (c : Dev nD) (X : Vec F S1024x2048 .f32) (h : Agree m c 8 X) : X = DXH m c :=
  funext fun y => h y (by have : (y 1).val < 2048 := (y 1).isLt; omega)

abbrev ms0_0 (t : Fin cfg0.N) : Memref sig .tc .vmem S1024x5632 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x6144 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x5632 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x6144 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5632 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x6144 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x2048 .fp8e5m2 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x2048 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x5632 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x6144 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x256 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1024x2048 .bf16 := win0_20.stage (cfg0.slots t 20)
abbrev hs0_20 (t : Fin cfg0.N) : (ms0_20 t).IsWhole := hstage0_20 ((cfg0.slots t 20).cast nbuf0_20)
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl
theorem liveAt0_17 : ∀ t : Fin cfg0.N, cfg0.idle 17 (grid0.coords t) = false := fun _ => rfl
theorem liveAt0_18 : ∀ t : Fin cfg0.N, cfg0.idle 18 (grid0.coords t) = false := fun _ => rfl
theorem liveAt0_19 : ∀ t : Fin cfg0.N, cfg0.idle 19 (grid0.coords t) = false := fun _ => rfl
/-- `dx` is stored at the last point only. -/
theorem idle20 (t : Fin cfg0.N) (h : ¬t.val = 7) : cfg0.idle 20 (grid0.coords t) = true := by
  show (!(k0_cond2 (grid0.coords t) == 1#1)) = true
  rw [beq_eq_false_iff_ne.mpr (fun e => h ((hcond1 t).mp e))]; rfl
theorem live20 (t : Fin cfg0.N) (h : t.val = 7) : cfg0.idle 20 (grid0.coords t) = false := by
  show (!(k0_cond2 (grid0.coords t) == 1#1)) = false
  rw [(hcond1 t).mpr h]; rfl
theorem noflush20 (t : Fin cfg0.N) (h : ¬t.val = 7) : (cfg0.win 20).flush t = false := by
  have ht : t.val < 8 := Nat.lt_of_lt_of_eq t.isLt N_0
  rw [← Bool.not_eq_true]
  exact fun e => by have := (flush0_20 t).mp e; omega
/-- Scratch operand 0. -/
abbrev scM0_0 : Memref sig .tc .vmem S1024x2048 .f32 := Memref.whole cc0_scratch0
/-- Scratch operand 1. -/
abbrev scM0_1 : Memref sig .tc .vmem S1024x128 .f32 := Memref.whole cc0_scratch1
/-- Scratch operand 2. -/
abbrev scM0_2 : Memref sig .tc .vmem S1024x128 .f32 := Memref.whole cc0_scratch2
/-- Scratch operand 3. -/
abbrev scM0_3 : Memref sig .tc .vmem S1024x128 .f32 := Memref.whole cc0_scratch3
/-- Scratch operand 4. -/
abbrev scM0_4 : Memref sig .tc .vmem S1024x128 .f32 := Memref.whole cc0_scratch4
/-- Scratch operand 5. -/
abbrev scM0_5 : Memref sig .tc .vmem S1024x128 .f32 := Memref.whole cc0_scratch5
/-- The region's invariant with the scratch as memrefs owned at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- What the scratch holds before point `n`: anything at first; later the columns of `dxhat` so far, the lane sums so far
    and the three columns of scales. -/
def PhiS (c : Dev nD) : (n : ℕ) → n ≤ cfg0.N → sProp 𝕄
  | 0, _ => Pipeline.ΦA spec0 c
  | n + 1, hn => iprop(iprop((∃ X, ⌜Agree m c (n + 1) X⌝ ∗ owns (c : Thread nD τ) scM0_0 fullShare X) ∗ owns (c : Thread nD τ) scM0_1 fullShare (SM m c (n + 1)) ∗ owns (c : Thread nD τ) scM0_2 fullShare (SMX m c (n + 1)) ∗ owns (c : Thread nD τ) scM0_3 fullShare (cA m c) ∗ owns (c : Thread nD τ) scM0_4 fullShare (cQ m c) ∗ owns (c : Thread nD τ) scM0_5 fullShare (cX m c)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ X, ⌜Agree m c (n + 1) X⌝ ∗ owns (c : Thread nD τ) scM0_0 fullShare X) ∗ owns (c : Thread nD τ) scM0_1 fullShare (SM m c (n + 1)) ∗ owns (c : Thread nD τ) scM0_2 fullShare (SMX m c (n + 1)) ∗ owns (c : Thread nD τ) scM0_3 fullShare (cA m c) ∗ owns (c : Thread nD τ) scM0_4 fullShare (cQ m c) ∗ owns (c : Thread nD τ) scM0_5 fullShare (cX m c)) ∗ (∃ r, prngReg c r)) := rfl
theorem PhiS_pos (c : Dev nD) (n : ℕ) (h : n ≤ cfg0.N) (hz : n ≠ 0) :
    PhiS m c n h = iprop(iprop((∃ X, ⌜Agree m c n X⌝ ∗ owns (c : Thread nD τ) scM0_0 fullShare X) ∗ owns (c : Thread nD τ) scM0_1 fullShare (SM m c n) ∗ owns (c : Thread nD τ) scM0_2 fullShare (SMX m c n) ∗ owns (c : Thread nD τ) scM0_3 fullShare (cA m c) ∗ owns (c : Thread nD τ) scM0_4 fullShare (cQ m c) ∗ owns (c : Thread nD τ) scM0_5 fullShare (cX m c)) ∗ (∃ r, prngReg c r)) := by
  cases n with
  | zero => exact absurd rfl hz
  | succ n => rfl

/-- The proof data of the pipeline on core `c`: the arrays as the region finds them, what each point leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => dwIn (iblk m c 0 t) (iblk m c 4 t) (iblk m c 7 t) (iblk m c 9 t) (iblk m c 13 t)
    | ⟨17, _⟩ => dwQkv (iblk m c 1 t) (iblk m c 4 t) (iblk m c 8 t) (iblk m c 9 t) (iblk m c 12 t)
    | ⟨18, _⟩ => dGa (iblk m c 1 t) (iblk m c 3 t) (iblk m c 4 t) (iblk m c 6 t) (cQ m c) (cX m c)
    | ⟨19, _⟩ => dGm (iblk m c 0 t) (iblk m c 2 t) (iblk m c 4 t) (iblk m c 5 t) (cA m c) (cX m c)
    | ⟨20, _⟩ => View.canon (dxPieces (iblk m c 10 t) (iblk m c 11 t) (iblk m c 14 t) (iblk m c 15 t) (cX m c) (DXH m c) (SM m c 8) (SMX m c 8))
    | ⟨_ + 21, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = dwIn (iblk m c 0 t) (iblk m c 4 t) (iblk m c 7 t) (iblk m c 9 t) (iblk m c 13 t) := by dsimp only [dats]
theorem after0_17 (c : Dev nD) (t : Fin cfg0.N) : (dats m 0 c).after 17 t = dwQkv (iblk m c 1 t) (iblk m c 4 t) (iblk m c 8 t) (iblk m c 9 t) (iblk m c 12 t) := by dsimp only [dats]
theorem after0_18 (c : Dev nD) (t : Fin cfg0.N) : (dats m 0 c).after 18 t = dGa (iblk m c 1 t) (iblk m c 3 t) (iblk m c 4 t) (iblk m c 6 t) (cQ m c) (cX m c) := by dsimp only [dats]
theorem after0_19 (c : Dev nD) (t : Fin cfg0.N) : (dats m 0 c).after 19 t = dGm (iblk m c 0 t) (iblk m c 2 t) (iblk m c 4 t) (iblk m c 5 t) (cA m c) (cX m c) := by dsimp only [dats]
theorem after0_20 (c : Dev nD) (t : Fin cfg0.N) : (dats m 0 c).after 20 t = View.canon (dxPieces (iblk m c 10 t) (iblk m c 11 t) (iblk m c 14 t) (iblk m c 15 t) (cX m c) (DXH m c) (SM m c 8) (SMX m c 8)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

end Cert.ProjIdeal.Hand

end
-- ==== Proof.Proj.BodyA.lean ====
module

public import proofs.«01_k».proof.Proof.Proj.ReadsA

public import proofs.«01_k».proof.Proof.Proj.Data
public import Idealize.ShloMosaic.Lib.Claim

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 28800000 in
/-- The body at first point: it takes the blocks and the scratch as the invariant states them and leaves what the data says. -/
theorem sound_A (c : Dev nD) (t : Fin cfg0.N) (hz : t.val = 0) :
    bodyPre m c t ⊢ wp frame (wpE (defs₀ (F := F)) Variants.none c none) Set.univ (bodyAt0 t) (fun _ => bodyPost m c t) := by
  obtain rfl : t = t0_0 := Fin.ext hz
  have h7 : ¬t0_0.val = 7 := by rw [hz]; decide
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () (t0_0).succ = (dats m 0 c).owesAt () (t0_0).castSucc from rfl]
  rw [show (dats m 0 c).Φ (t0_0).succ = PhiS m c ((t0_0).val + 1) (t0_0).isLt from rfl, PhiS_succ]
  rw [show (dats m 0 c).leavesExact 0 t0_0 = owns (c : Thread nD τ) (ms0_0 t0_0) fullShare ((dats m 0 c).after 0 t0_0) from by
    unfold Dat.leavesExact; rw [liveAt0_0 t0_0], after0_0]
  rw [show (dats m 0 c).leavesExact 1 t0_0 = owns (c : Thread nD τ) (ms0_1 t0_0) fullShare ((dats m 0 c).after 1 t0_0) from by
    unfold Dat.leavesExact; rw [liveAt0_1 t0_0], after0_1]
  rw [show (dats m 0 c).leavesExact 2 t0_0 = owns (c : Thread nD τ) (ms0_2 t0_0) fullShare ((dats m 0 c).after 2 t0_0) from by
    unfold Dat.leavesExact; rw [liveAt0_2 t0_0], after0_2]
  rw [show (dats m 0 c).leavesExact 3 t0_0 = owns (c : Thread nD τ) (ms0_3 t0_0) fullShare ((dats m 0 c).after 3 t0_0) from by
    unfold Dat.leavesExact; rw [liveAt0_3 t0_0], after0_3]
  rw [show (dats m 0 c).leavesExact 4 t0_0 = owns (c : Thread nD τ) (ms0_4 t0_0) fullShare ((dats m 0 c).after 4 t0_0) from by
    unfold Dat.leavesExact; rw [liveAt0_4 t0_0], after0_4]
  rw [show (dats m 0 c).leavesExact 5 t0_0 = owns (c : Thread nD τ) (ms0_5 t0_0) fullShare ((dats m 0 c).after 5 t0_0) from by
    unfold Dat.leavesExact; rw [liveAt0_5 t0_0], after0_5]
  rw [show (dats m 0 c).leavesExact 6 t0_0 = owns (c : Thread nD τ) (ms0_6 t0_0) fullShare ((dats m 0 c).after 6 t0_0) from by
    unfold Dat.leavesExact; rw [liveAt0_6 t0_0], after0_6]
  rw [show (dats m 0 c).leavesExact 7 t0_0 = owns (c : Thread nD τ) (ms0_7 t0_0) fullShare ((dats m 0 c).after 7 t0_0) from by
    unfold Dat.leavesExact; rw [liveAt0_7 t0_0], after0_7]
  rw [show (dats m 0 c).leavesExact 8 t0_0 = owns (c : Thread nD τ) (ms0_8 t0_0) fullShare ((dats m 0 c).after 8 t0_0) from by
    unfold Dat.leavesExact; rw [liveAt0_8 t0_0], after0_8]
  rw [show (dats m 0 c).leavesExact 9 t0_0 = owns (c : Thread nD τ) (ms0_9 t0_0) fullShare ((dats m 0 c).after 9 t0_0) from by
    unfold Dat.leavesExact; rw [liveAt0_9 t0_0], after0_9]
  rw [show (dats m 0 c).leavesExact 10 t0_0 = owns (c : Thread nD τ) (ms0_10 t0_0) fullShare ((dats m 0 c).after 10 t0_0) from by
    unfold Dat.leavesExact; rw [liveAt0_10 t0_0], after0_10]
  rw [show (dats m 0 c).leavesExact 11 t0_0 = owns (c : Thread nD τ) (ms0_11 t0_0) fullShare ((dats m 0 c).after 11 t0_0) from by
    unfold Dat.leavesExact; rw [liveAt0_11 t0_0], after0_11]
  rw [show (dats m 0 c).leavesExact 12 t0_0 = owns (c : Thread nD τ) (ms0_12 t0_0) fullShare ((dats m 0 c).after 12 t0_0) from by
    unfold Dat.leavesExact; rw [liveAt0_12 t0_0], after0_12]
  rw [show (dats m 0 c).leavesExact 13 t0_0 = owns (c : Thread nD τ) (ms0_13 t0_0) fullShare ((dats m 0 c).after 13 t0_0) from by
    unfold Dat.leavesExact; rw [liveAt0_13 t0_0], after0_13]
  rw [show (dats m 0 c).leavesExact 14 t0_0 = owns (c : Thread nD τ) (ms0_14 t0_0) fullShare ((dats m 0 c).after 14 t0_0) from by
    unfold Dat.leavesExact; rw [liveAt0_14 t0_0], after0_14]
  rw [show (dats m 0 c).leavesExact 15 t0_0 = owns (c : Thread nD τ) (ms0_15 t0_0) fullShare ((dats m 0 c).after 15 t0_0) from by
    unfold Dat.leavesExact; rw [liveAt0_15 t0_0], after0_15]
  rw [show (dats m 0 c).leavesExact 16 t0_0 = owns (c : Thread nD τ) (ms0_16 t0_0) fullShare ((dats m 0 c).after 16 t0_0) from by
    unfold Dat.leavesExact; rw [liveAt0_16 t0_0], after0_16]
  rw [show (dats m 0 c).leavesExact 17 t0_0 = owns (c : Thread nD τ) (ms0_17 t0_0) fullShare ((dats m 0 c).after 17 t0_0) from by
    unfold Dat.leavesExact; rw [liveAt0_17 t0_0], after0_17]
  rw [show (dats m 0 c).leavesExact 18 t0_0 = owns (c : Thread nD τ) (ms0_18 t0_0) fullShare ((dats m 0 c).after 18 t0_0) from by
    unfold Dat.leavesExact; rw [liveAt0_18 t0_0], after0_18]
  rw [show (dats m 0 c).leavesExact 19 t0_0 = owns (c : Thread nD τ) (ms0_19 t0_0) fullShare ((dats m 0 c).after 19 t0_0) from by
    unfold Dat.leavesExact; rw [liveAt0_19 t0_0], after0_19]
  rw [(dats m 0 c).leavesExact_idle 20 t0_0 (idle20 t0_0 h7) (noflush20 t0_0 h7)]
  rw [PhiS_castSucc m c t0_0, PhiS_zero m c _ _ hz, PhiA0_eq]
  iintro ⟨⟨⟨⟨%X, HS0⟩, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, H20⟩
  have hX : Agree m c t0_0.val X := fun y hy => absurd hy (by rw [hz]; exact Nat.not_lt_zero _)
  iapply ((runA c (grid0.coords t0_0) _ _ _ _ _ _ _ _ _ _ _ _ _ _ _ _ _ _ _ _ _ _ _ _ _ _ _ _ _ _ _ _ _ _ _ _ _ _ _ _ _ _ _ _ _ _ _ _ _ _ _ _ _ _ ((hcond0 t0_0).mpr hz) (fun h => h7 ((hcond1 t0_0).mp h)) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 12 t0_0) (iblk m c 13 t0_0) X).2.2.2.2.2.2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H12]
  · iexact H12
  isplitl [H13]
  · iexact H13
  isplitl [H16]
  · iexists _
    iexact H16
  isplitl [H17]
  · iexists _
    iexact H17
  isplitl [H18]
  · iexists _
    iexact H18
  isplitl [H19]
  · iexists _
    iexact H19
  isplitl [HS0]
  · iexact HS0
  isplitl [HS1]
  · iexact HS1
  isplitl [HS2]
  · iexact HS2
  isplitl [HS3]
  · iexact HS3
  isplitl [HS4]
  · iexact HS4
  isplitl [HS5]
  · iexact HS5
  iintro ⟨H0, H1, H2, H3, H4, H5, H6, H7, H8, H9, H12, H13, ⟨%e17, H16⟩, ⟨%e18, H17⟩, ⟨%e19, H18⟩, ⟨%e20, H19⟩, HS0, ⟨%e23, HS1⟩, ⟨%e24, HS2⟩, ⟨%e25, HS3⟩, ⟨%e26, HS4⟩, ⟨%e27, HS5⟩⟩
  isplitl [HS0 HS1 HS2 HS3 HS4 HS5 Hg]
  · isplitl [HS0 HS1 HS2 HS3 HS4 HS5]
    · isplitl [HS0]
      · iexists _
        isplitr
        · ipureintro
          exact agree_upd m c t0_0 X hX
        unfold owns
        iexists _
        isplitr
        swap
        · iexact HS0
        ipureintro
        exact runA_22 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      isplitl [HS1]
      · unfold owns
        iexists _
        isplitr
        swap
        · iexact HS1
        ipureintro
        exact (runA_23 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (SM_succ m c t0_0).symm
      isplitl [HS2]
      · unfold owns
        iexists _
        isplitr
        swap
        · iexact HS2
        ipureintro
        exact (runA_24 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (SMX_succ m c t0_0).symm
      isplitl [HS3]
      · unfold owns
        iexists _
        isplitr
        swap
        · iexact HS3
        ipureintro
        exact runA_25 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      isplitl [HS4]
      · unfold owns
        iexists _
        isplitr
        swap
        · iexact HS4
        ipureintro
        exact runA_26 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      unfold owns
      iexists _
      isplitr
      swap
      · iexact HS5
      ipureintro
      exact runA_27 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · unfold owns
    iexists _
    isplitr
    swap
    · iexact H16
    ipureintro
    exact runA_17 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H17]
  · unfold owns
    iexists _
    isplitr
    swap
    · iexact H17
    ipureintro
    exact runA_18 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H18]
  · unfold owns
    iexists _
    isplitr
    swap
    · iexact H18
    ipureintro
    exact runA_19 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H19]
  · unfold owns
    iexists _
    isplitr
    swap
    · iexact H19
    ipureintro
    exact runA_20 c (grid0.coords t0_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  iexact H20

end Cert.ProjIdeal.Hand

end
-- ==== Proof.Proj.RunB.lean ====
module

public import proofs.«01_k».proof.Proof.Proj.RunA

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

set_option maxHeartbeats 3200000 in
/-- The body at a point that is neither the first nor the last. The pieces each buffer ends with are the witness the run finds. -/
noncomputable def runB (c : Dev nD) (i : grid0.Coords) (arg1 : Memref sig .tc .vmem S1024x5632 .fp8e5m2) (harg1 : arg1.IsWhole) (arg2 : Memref sig .tc .vmem S1024x6144 .fp8e5m2) (harg2 : arg2.IsWhole) (arg3 : Memref sig .tc .vmem S256x5632 .fp8e4m3) (harg3 : arg3.IsWhole) (arg4 : Memref sig .tc .vmem S256x6144 .fp8e4m3) (harg4 : arg4.IsWhole) (arg5 : Memref sig .tc .vmem S1024x256 .fp8e4m3) (harg5 : arg5.IsWhole) (arg6 : Memref sig .tc .vmem S1x5632 .f32) (harg6 : arg6.IsWhole) (arg7 : Memref sig .tc .vmem S1x6144 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1024x2048 .fp8e5m2) (harg15 : arg15.IsWhole) (arg16 : Memref sig .tc .vmem S1024x2048 .fp8e4m3) (harg16 : arg16.IsWhole) (arg17 : Memref sig .tc .vmem S256x5632 .bf16) (harg17 : arg17.IsWhole) (arg18 : Memref sig .tc .vmem S256x6144 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S1024x2048 .bf16) (harg21 : arg21.IsWhole) (arg22 : Memref sig .tc .vmem S1024x2048 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x128 .f32) (harg27 : arg27.IsWhole) (hc0 : ¬cond0 i) (hc1 : ¬cond1 i)
    (x0 : Vec F S1024x5632 .fp8e5m2) (x1 : Vec F S1024x6144 .fp8e5m2) (x2 : Vec F S256x5632 .fp8e4m3) (x3 : Vec F S256x6144 .fp8e4m3) (x4 : Vec F S1024x256 .fp8e4m3) (x5 : Vec F S1x5632 .f32) (x6 : Vec F S1x6144 .f32) (x7 : Vec F S1x1024 .f32) (x8 : Vec F S1x1024 .f32) (x9 : Vec F S1x1024 .f32) (x12 : Vec F S1x256 .f32) (x13 : Vec F S1x256 .f32) (xs0 : Vec F S1024x2048 .f32) (xs1 : Vec F S1024x128 .f32) (xs2 : Vec F S1024x128 .f32) (xs3 : Vec F S1024x128 .f32) (xs4 : Vec F S1024x128 .f32) (xs5 : Vec F S1024x128 .f32) :
    Σ' (L17 : List (View.Piece (Elt F) S256x5632 .bf16)), Σ' (L18 : List (View.Piece (Elt F) S256x6144 .bf16)), Σ' (L19 : List (View.Piece (Elt F) S1x256 .f32)), Σ' (L20 : List (View.Piece (Elt F) S1x256 .f32)), Σ' (L22 : List (View.Piece (Elt F) S1024x2048 .f32)), Σ' (L23 : List (View.Piece (Elt F) S1024x128 .f32)), { L24 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x12 ∗ owns (c : Thread nD τ) arg14 fullShare x13 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg22 fullShare xs0 ∗ owns (c : Thread nD τ) arg23 fullShare xs1 ∗ owns (c : Thread nD τ) arg24 fullShare xs2 ∗ owns (c : Thread nD τ) arg25 fullShare xs3 ∗ owns (c : Thread nD τ) arg26 fullShare xs4 ∗ owns (c : Thread nD τ) arg27 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg13 fullShare x12 ∗ owns (c : Thread nD τ) arg14 fullShare x13 ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (arg22.view.loc (c : Thread nD τ) ↦[arg22.view.set]{fullShare} arg22.view.writes (Elt F) (harg22.unread xs0) L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ owns (c : Thread nD τ) arg25 fullShare xs3 ∗ owns (c : Thread nD τ) arg26 fullShare xs4 ∗ owns (c : Thread nD τ) arg27 fullShare xs5) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, fun E K => ?run⟩
  case run =>
    simp only [cc0_proj_eq_skeleton]; unfold cc0_proj_skel
    simp only [k0_part8_eq_skeleton, k0_part9_eq_skeleton, k0_part10_eq_skeleton, k0_part11_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f13, %hf13, H13⟩, ⟨%f14, %hf14, H14⟩, ⟨%d17, %f17, -, H17⟩, ⟨%d18, %f18, -, H18⟩, ⟨%d19, %f19, -, H19⟩, ⟨%d20, %f20, -, H20⟩, ⟨%f22, %hf22, H22⟩, ⟨%f23, %hf23, H23⟩, ⟨%f24, %hf24, H24⟩, ⟨%f25, %hf25, H25⟩, ⟨%f26, %hf26, H26⟩, ⟨%f27, %hf27, H27⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13; obtain rfl := harg14.eq_unread hf14; obtain rfl := harg22.eq_unread hf22; obtain rfl := harg23.eq_unread hf23; obtain rfl := harg24.eq_unread hf24; obtain rfl := harg25.eq_unread hf25; obtain rfl := harg26.eq_unread hf26; obtain rfl := harg27.eq_unread hf27
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H13]
    · iexists _; isplitr; · ipureintro; exact harg13.read_unread _
      iexact H13
    isplitl [H14]
    · iexists _; isplitr; · ipureintro; exact harg14.read_unread _
      iexact H14
    isplitl [H17]
    · iexists _; iexact H17
    isplitl [H18]
    · iexists _; iexact H18
    isplitl [H19]
    · iexists _; iexact H19
    isplitl [H20]
    · iexists _; iexact H20
    isplitl [H22]
    · iexact H22
    isplitl [H23]
    · iexists _; iexact H23
    isplitl [H24]
    · iexists _; iexact H24
    isplitl [H25]
    · iexists _; isplitr; · ipureintro; exact harg25.read_unread _
      iexact H25
    isplitl [H26]
    · iexists _; isplitr; · ipureintro; exact harg26.read_unread _
      iexact H26
    iexists _; isplitr; · ipureintro; exact harg27.read_unread _
    iexact H27

end Cert.ProjIdeal.Hand

end
-- ==== Proof.Proj.ReadsB.lean ====
module

public import proofs.«01_k».proof.Proof.Proj.RunB

public import proofs.«01_k».proof.Proof.Proj.Point

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

section
variable (c : Dev nD) (i : grid0.Coords)
    (arg1 : Memref sig .tc .vmem S1024x5632 .fp8e5m2) (harg1 : arg1.IsWhole) (arg2 : Memref sig .tc .vmem S1024x6144 .fp8e5m2) (harg2 : arg2.IsWhole) (arg3 : Memref sig .tc .vmem S256x5632 .fp8e4m3) (harg3 : arg3.IsWhole) (arg4 : Memref sig .tc .vmem S256x6144 .fp8e4m3) (harg4 : arg4.IsWhole) (arg5 : Memref sig .tc .vmem S1024x256 .fp8e4m3) (harg5 : arg5.IsWhole) (arg6 : Memref sig .tc .vmem S1x5632 .f32) (harg6 : arg6.IsWhole) (arg7 : Memref sig .tc .vmem S1x6144 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1024x2048 .fp8e5m2) (harg15 : arg15.IsWhole) (arg16 : Memref sig .tc .vmem S1024x2048 .fp8e4m3) (harg16 : arg16.IsWhole) (arg17 : Memref sig .tc .vmem S256x5632 .bf16) (harg17 : arg17.IsWhole) (arg18 : Memref sig .tc .vmem S256x6144 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S1024x2048 .bf16) (harg21 : arg21.IsWhole) (arg22 : Memref sig .tc .vmem S1024x2048 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x128 .f32) (harg27 : arg27.IsWhole)
    (hc0 : ¬cond0 i) (hc1 : ¬cond1 i)
    (x0 : Vec F S1024x5632 .fp8e5m2) (x1 : Vec F S1024x6144 .fp8e5m2) (x2 : Vec F S256x5632 .fp8e4m3) (x3 : Vec F S256x6144 .fp8e4m3) (x4 : Vec F S1024x256 .fp8e4m3) (x5 : Vec F S1x5632 .f32) (x6 : Vec F S1x6144 .f32) (x7 : Vec F S1x1024 .f32) (x8 : Vec F S1x1024 .f32) (x9 : Vec F S1x1024 .f32) (x12 : Vec F S1x256 .f32) (x13 : Vec F S1x256 .f32) (xs0 : Vec F S1024x2048 .f32) (xs1 : Vec F S1024x128 .f32) (xs2 : Vec F S1024x128 .f32) (xs3 : Vec F S1024x128 .f32) (xs4 : Vec F S1024x128 .f32) (xs5 : Vec F S1024x128 .f32)
/-- What the middle point leaves in dw_in. -/
theorem runB_17 :
    ∀ f, arg17.view.read (Elt F) (arg17.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0 xs1 xs2 xs3 xs4 xs5).1)
      = dwIn x0 x4 x7 x9 x13 := by
  intro f
  unfold runB; dsimp only; sl_unfold_words; simp (disch := decide) only [View.readAt_eq_ld, Memref.IsWhole.read_unread, View.ld_unit_lit, View.canon_cons_unit_lit, View.readCov_unit_lit, View.readCov_cons_unit_lit', read_whole] <;> rfl

/-- What the middle point leaves in dw_qkv. -/
theorem runB_18 :
    ∀ f, arg18.view.read (Elt F) (arg18.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0 xs1 xs2 xs3 xs4 xs5).2.1)
      = dwQkv x1 x4 x8 x9 x12 := by
  intro f
  unfold runB; dsimp only; sl_unfold_words; simp (disch := decide) only [View.readAt_eq_ld, Memref.IsWhole.read_unread, View.ld_unit_lit, View.canon_cons_unit_lit, View.readCov_unit_lit, View.readCov_cons_unit_lit', read_whole] <;> rfl

/-- What the middle point leaves in dgamma_attn. -/
theorem runB_19 :
    ∀ f, arg19.view.read (Elt F) (arg19.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0 xs1 xs2 xs3 xs4 xs5).2.2.1)
      = dGa x1 x3 x4 x6 xs4 xs5 := by
  intro f
  unfold runB; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1, 128] (by rfl))]
  rfl

/-- What the middle point leaves in dgamma_mlp. -/
theorem runB_20 :
    ∀ f, arg20.view.read (Elt F) (arg20.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0 xs1 xs2 xs3 xs4 xs5).2.2.2.1)
      = dGm x0 x2 x4 x5 xs3 xs5 := by
  intro f
  unfold runB; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1, 128] (by rfl))]
  rfl

/-- What the middle point leaves in the scratch of dxhat. -/
theorem runB_22 :
    arg22.view.read (Elt F) (arg22.view.writes (Elt F) (harg22.unread xs0) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0 xs1 xs2 xs3 xs4 xs5).2.2.2.2.1)
      = upd (256 * (i 0).val) xs0 (dxh0 x0 x1 x2 x3 x5 x6 x12 x13 xs3 xs4) (dxh1 x0 x1 x2 x3 x5 x6 x12 x13 xs3 xs4) := by
  unfold runB; dsimp only; sl_unfold_words; simp (disch := decide) only [View.readAt_eq_ld, Memref.IsWhole.read_unread, View.ld_unit_lit, View.canon_cons_unit_lit, View.readCov_unit_lit, View.readCov_cons_unit_lit', read_whole]
  exact (read_two arg22.view (harg22.unread xs0) (256 * (i 0).val) _ _ (off0 i) (off1 i) _ _ _ _).trans (by rw [harg22.read_unread]; rfl)

/-- What the middle point leaves in the lane sums of dxhat. -/
theorem runB_23 :
    ∀ f, arg23.view.read (Elt F) (arg23.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0 xs1 xs2 xs3 xs4 xs5).2.2.2.2.2.1)
      = sumStep x0 x1 x2 x3 x5 x6 x12 x13 xs1 xs3 xs4 := by
  intro f
  unfold runB; dsimp only; sl_unfold_words; simp (disch := decide) only [View.readAt_eq_ld, Memref.IsWhole.read_unread, View.ld_unit_lit, View.canon_cons_unit_lit, View.readCov_unit_lit, View.readCov_cons_unit_lit', read_whole] <;> rfl

/-- What the middle point leaves in the lane sums of dxhat * xhat. -/
theorem runB_24 :
    ∀ f, arg24.view.read (Elt F) (arg24.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x12 x13 xs0 xs1 xs2 xs3 xs4 xs5).2.2.2.2.2.2.1)
      = sumxStep x0 x1 x2 x3 x4 x5 x6 x12 x13 xs2 xs3 xs4 xs5 := by
  intro f
  unfold runB; dsimp only; sl_unfold_words; simp (disch := decide) only [View.readAt_eq_ld, Memref.IsWhole.read_unread, View.ld_unit_lit, View.canon_cons_unit_lit, View.readCov_unit_lit, View.readCov_cons_unit_lit', read_whole] <;> rfl

end

end Cert.ProjIdeal.Hand

end
-- ==== Proof.Proj.BodyB.lean ====
module

public import proofs.«01_k».proof.Proof.Proj.ReadsB

public import proofs.«01_k».proof.Proof.Proj.Data
public import Idealize.ShloMosaic.Lib.Claim

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 28800000 in
/-- The body at a middle point: it takes the blocks and the scratch as the invariant states them and leaves what the data says. -/
theorem sound_B (c : Dev nD) (t : Fin cfg0.N) (hz : ¬t.val = 0) (h7 : ¬t.val = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () (t).succ = (dats m 0 c).owesAt () (t).castSucc from rfl]
  rw [show (dats m 0 c).Φ (t).succ = PhiS m c ((t).val + 1) (t).isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 19 t = owns (c : Thread nD τ) (ms0_19 t) fullShare ((dats m 0 c).after 19 t) from by
    unfold Dat.leavesExact; rw [liveAt0_19 t], after0_19]
  rw [(dats m 0 c).leavesExact_idle 20 t (idle20 t h7) (noflush20 t h7)]
  rw [PhiS_castSucc m c t, PhiS_pos m c _ _ hz]
  iintro ⟨⟨⟨⟨%X, %hX, HS0⟩, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, H20⟩
  iapply ((runB c (grid0.coords t) _ _ _ _ _ _ _ _ _ _ _ _ _ _ _ _ _ _ _ _ _ _ _ _ _ _ _ _ _ _ _ _ _ _ _ _ _ _ _ _ _ _ _ _ _ _ _ _ _ _ _ _ _ _ (fun h => hz ((hcond0 t).mp h)) (fun h => h7 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 12 t) (iblk m c 13 t) X (SM m c t.val) (SMX m c t.val) (cA m c) (cQ m c) (cX m c)).2.2.2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H12]
  · iexact H12
  isplitl [H13]
  · iexact H13
  isplitl [H16]
  · iexists _
    iexact H16
  isplitl [H17]
  · iexists _
    iexact H17
  isplitl [H18]
  · iexists _
    iexact H18
  isplitl [H19]
  · iexists _
    iexact H19
  isplitl [HS0]
  · iexact HS0
  isplitl [HS1]
  · iexact HS1
  isplitl [HS2]
  · iexact HS2
  isplitl [HS3]
  · iexact HS3
  isplitl [HS4]
  · iexact HS4
  isplitl [HS5]
  · iexact HS5
  iintro ⟨H0, H1, H2, H3, H4, H5, H6, H7, H8, H9, H12, H13, ⟨%e17, H16⟩, ⟨%e18, H17⟩, ⟨%e19, H18⟩, ⟨%e20, H19⟩, HS0, ⟨%e23, HS1⟩, ⟨%e24, HS2⟩, HS3, HS4, HS5⟩
  isplitl [HS0 HS1 HS2 HS3 HS4 HS5 Hg]
  · isplitl [HS0 HS1 HS2 HS3 HS4 HS5]
    · isplitl [HS0]
      · iexists _
        isplitr
        · ipureintro
          exact agree_upd m c t X hX
        unfold owns
        iexists _
        isplitr
        swap
        · iexact HS0
        ipureintro
        exact runB_22 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      isplitl [HS1]
      · unfold owns
        iexists _
        isplitr
        swap
        · iexact HS1
        ipureintro
        exact (runB_23 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (SM_succ m c t).symm
      isplitl [HS2]
      · unfold owns
        iexists _
        isplitr
        swap
        · iexact HS2
        ipureintro
        exact (runB_24 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (SMX_succ m c t).symm
      isplitl [HS3]
      · iexact HS3
      isplitl [HS4]
      · iexact HS4
      iexact HS5
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · unfold owns
    iexists _
    isplitr
    swap
    · iexact H16
    ipureintro
    exact runB_17 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H17]
  · unfold owns
    iexists _
    isplitr
    swap
    · iexact H17
    ipureintro
    exact runB_18 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H18]
  · unfold owns
    iexists _
    isplitr
    swap
    · iexact H18
    ipureintro
    exact runB_19 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H19]
  · unfold owns
    iexists _
    isplitr
    swap
    · iexact H19
    ipureintro
    exact runB_20 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  iexact H20

end Cert.ProjIdeal.Hand

end
-- ==== Proof.Proj.RunC.lean ====
module

public import proofs.«01_k».proof.Proof.Proj.RunB

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

set_option maxHeartbeats 3200000 in
/-- The body at the last point, which also writes the whole of `dx`. The pieces each buffer ends with are the witness the run finds. -/
noncomputable def runC (c : Dev nD) (i : grid0.Coords) (arg1 : Memref sig .tc .vmem S1024x5632 .fp8e5m2) (harg1 : arg1.IsWhole) (arg2 : Memref sig .tc .vmem S1024x6144 .fp8e5m2) (harg2 : arg2.IsWhole) (arg3 : Memref sig .tc .vmem S256x5632 .fp8e4m3) (harg3 : arg3.IsWhole) (arg4 : Memref sig .tc .vmem S256x6144 .fp8e4m3) (harg4 : arg4.IsWhole) (arg5 : Memref sig .tc .vmem S1024x256 .fp8e4m3) (harg5 : arg5.IsWhole) (arg6 : Memref sig .tc .vmem S1x5632 .f32) (harg6 : arg6.IsWhole) (arg7 : Memref sig .tc .vmem S1x6144 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1024x2048 .fp8e5m2) (harg15 : arg15.IsWhole) (arg16 : Memref sig .tc .vmem S1024x2048 .fp8e4m3) (harg16 : arg16.IsWhole) (arg17 : Memref sig .tc .vmem S256x5632 .bf16) (harg17 : arg17.IsWhole) (arg18 : Memref sig .tc .vmem S256x6144 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S1024x2048 .bf16) (harg21 : arg21.IsWhole) (arg22 : Memref sig .tc .vmem S1024x2048 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x128 .f32) (harg27 : arg27.IsWhole) (hc0 : ¬cond0 i) (hc1 : cond1 i)
    (x0 : Vec F S1024x5632 .fp8e5m2) (x1 : Vec F S1024x6144 .fp8e5m2) (x2 : Vec F S256x5632 .fp8e4m3) (x3 : Vec F S256x6144 .fp8e4m3) (x4 : Vec F S1024x256 .fp8e4m3) (x5 : Vec F S1x5632 .f32) (x6 : Vec F S1x6144 .f32) (x7 : Vec F S1x1024 .f32) (x8 : Vec F S1x1024 .f32) (x9 : Vec F S1x1024 .f32) (x10 : Vec F S1x1024 .f32) (x11 : Vec F S1x1024 .f32) (x12 : Vec F S1x256 .f32) (x13 : Vec F S1x256 .f32) (x14 : Vec F S1024x2048 .fp8e5m2) (x15 : Vec F S1024x2048 .fp8e4m3) (xs0 : Vec F S1024x2048 .f32) (xs1 : Vec F S1024x128 .f32) (xs2 : Vec F S1024x128 .f32) (xs3 : Vec F S1024x128 .f32) (xs4 : Vec F S1024x128 .f32) (xs5 : Vec F S1024x128 .f32) :
    Σ' (L17 : List (View.Piece (Elt F) S256x5632 .bf16)), Σ' (L18 : List (View.Piece (Elt F) S256x6144 .bf16)), Σ' (L19 : List (View.Piece (Elt F) S1x256 .f32)), Σ' (L20 : List (View.Piece (Elt F) S1x256 .f32)), Σ' (L21 : List (View.Piece (Elt F) S1024x2048 .bf16)), Σ' (L22 : List (View.Piece (Elt F) S1024x2048 .f32)), Σ' (L23 : List (View.Piece (Elt F) S1024x128 .f32)), { L24 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs0 ∗ owns (c : Thread nD τ) arg23 fullShare xs1 ∗ owns (c : Thread nD τ) arg24 fullShare xs2 ∗ owns (c : Thread nD τ) arg25 fullShare xs3 ∗ owns (c : Thread nD τ) arg26 fullShare xs4 ∗ owns (c : Thread nD τ) arg27 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (arg22.view.loc (c : Thread nD τ) ↦[arg22.view.set]{fullShare} arg22.view.writes (Elt F) (harg22.unread xs0) L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ owns (c : Thread nD τ) arg25 fullShare xs3 ∗ owns (c : Thread nD τ) arg26 fullShare xs4 ∗ owns (c : Thread nD τ) arg27 fullShare xs5) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, fun E K => ?run⟩
  case run =>
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, ⟨%f24, %hf24, H24⟩, ⟨%f25, %hf25, H25⟩, ⟨%f26, %hf26, H26⟩, ⟨%f27, %hf27, H27⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg22.eq_unread hf22; obtain rfl := harg23.eq_unread hf23; obtain rfl := harg24.eq_unread hf24; obtain rfl := harg25.eq_unread hf25; obtain rfl := harg26.eq_unread hf26; obtain rfl := harg27.eq_unread hf27
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; iexact H17
    isplitl [H18]
    · iexists _; iexact H18
    isplitl [H19]
    · iexists _; iexact H19
    isplitl [H20]
    · iexists _; iexact H20
    isplitl [H21]
    · iexists _; iexact H21
    isplitl [H22]
    · iexact H22
    isplitl [H23]
    · iexists _; iexact H23
    isplitl [H24]
    · iexists _; iexact H24
    isplitl [H25]
    · iexists _; isplitr; · ipureintro; exact harg25.read_unread _
      iexact H25
    isplitl [H26]
    · iexists _; isplitr; · ipureintro; exact harg26.read_unread _
      iexact H26
    iexists _; isplitr; · ipureintro; exact harg27.read_unread _
    iexact H27

end Cert.ProjIdeal.Hand

end
-- ==== Proof.Proj.ReadsC.lean ====
module

public import proofs.«01_k».proof.Proof.Proj.RunC

public import proofs.«01_k».proof.Proof.Proj.Point

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

section
variable (c : Dev nD) (i : grid0.Coords)
    (arg1 : Memref sig .tc .vmem S1024x5632 .fp8e5m2) (harg1 : arg1.IsWhole) (arg2 : Memref sig .tc .vmem S1024x6144 .fp8e5m2) (harg2 : arg2.IsWhole) (arg3 : Memref sig .tc .vmem S256x5632 .fp8e4m3) (harg3 : arg3.IsWhole) (arg4 : Memref sig .tc .vmem S256x6144 .fp8e4m3) (harg4 : arg4.IsWhole) (arg5 : Memref sig .tc .vmem S1024x256 .fp8e4m3) (harg5 : arg5.IsWhole) (arg6 : Memref sig .tc .vmem S1x5632 .f32) (harg6 : arg6.IsWhole) (arg7 : Memref sig .tc .vmem S1x6144 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1024x2048 .fp8e5m2) (harg15 : arg15.IsWhole) (arg16 : Memref sig .tc .vmem S1024x2048 .fp8e4m3) (harg16 : arg16.IsWhole) (arg17 : Memref sig .tc .vmem S256x5632 .bf16) (harg17 : arg17.IsWhole) (arg18 : Memref sig .tc .vmem S256x6144 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S1024x2048 .bf16) (harg21 : arg21.IsWhole) (arg22 : Memref sig .tc .vmem S1024x2048 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x128 .f32) (harg27 : arg27.IsWhole)
    (hc0 : ¬cond0 i) (hc1 : cond1 i)
    (x0 : Vec F S1024x5632 .fp8e5m2) (x1 : Vec F S1024x6144 .fp8e5m2) (x2 : Vec F S256x5632 .fp8e4m3) (x3 : Vec F S256x6144 .fp8e4m3) (x4 : Vec F S1024x256 .fp8e4m3) (x5 : Vec F S1x5632 .f32) (x6 : Vec F S1x6144 .f32) (x7 : Vec F S1x1024 .f32) (x8 : Vec F S1x1024 .f32) (x9 : Vec F S1x1024 .f32) (x10 : Vec F S1x1024 .f32) (x11 : Vec F S1x1024 .f32) (x12 : Vec F S1x256 .f32) (x13 : Vec F S1x256 .f32) (x14 : Vec F S1024x2048 .fp8e5m2) (x15 : Vec F S1024x2048 .fp8e4m3) (xs0 : Vec F S1024x2048 .f32) (xs1 : Vec F S1024x128 .f32) (xs2 : Vec F S1024x128 .f32) (xs3 : Vec F S1024x128 .f32) (xs4 : Vec F S1024x128 .f32) (xs5 : Vec F S1024x128 .f32)
/-- What the last point leaves in dw_in. -/
theorem runC_17 :
    ∀ f, arg17.view.read (Elt F) (arg17.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).1)
      = dwIn x0 x4 x7 x9 x13 := by
  intro f
  unfold runC; dsimp only; sl_unfold_words; simp (disch := decide) only [View.readAt_eq_ld, Memref.IsWhole.read_unread, View.ld_unit_lit, View.canon_cons_unit_lit, View.readCov_unit_lit, View.readCov_cons_unit_lit', read_whole] <;> rfl

/-- What the last point leaves in dw_qkv. -/
theorem runC_18 :
    ∀ f, arg18.view.read (Elt F) (arg18.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).2.1)
      = dwQkv x1 x4 x8 x9 x12 := by
  intro f
  unfold runC; dsimp only; sl_unfold_words; simp (disch := decide) only [View.readAt_eq_ld, Memref.IsWhole.read_unread, View.ld_unit_lit, View.canon_cons_unit_lit, View.readCov_unit_lit, View.readCov_cons_unit_lit', read_whole] <;> rfl

/-- What the last point leaves in dgamma_attn. -/
theorem runC_19 :
    ∀ f, arg19.view.read (Elt F) (arg19.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).2.2.1)
      = dGa x1 x3 x4 x6 xs4 xs5 := by
  intro f
  unfold runC; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1, 128] (by rfl))]
  rfl

/-- What the last point leaves in dgamma_mlp. -/
theorem runC_20 :
    ∀ f, arg20.view.read (Elt F) (arg20.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).2.2.2.1)
      = dGm x0 x2 x4 x5 xs3 xs5 := by
  intro f
  unfold runC; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1, 128] (by rfl))]
  rfl

/-- What the last point leaves in dx. -/
theorem runC_21 :
    ∀ f, arg21.view.read (Elt F) (arg21.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).2.2.2.2.1)
      = View.canon (dxPieces x10 x11 x14 x15 xs5 (upd (256 * (i 0).val) xs0 (dxh0 x0 x1 x2 x3 x5 x6 x12 x13 xs3 xs4) (dxh1 x0 x1 x2 x3 x5 x6 x12 x13 xs3 xs4)) (sumStep x0 x1 x2 x3 x5 x6 x12 x13 xs1 xs3 xs4) (sumxStep x0 x1 x2 x3 x4 x5 x6 x12 x13 xs2 xs3 xs4 xs5)) := by
  intro f
  unfold runC; dsimp only; sl_unfold_words; simp (disch := decide) only [View.readAt_eq_ld, Memref.IsWhole.read_unread, View.ld_unit_lit, View.canon_cons_unit_lit, View.readCov_unit_lit, View.readCov_cons_unit_lit', read_whole]
  rw [View.read_writes_eq_canon _ _ _ (View.cover_of_tiledL _ ![1024, 128] (by rfl))]
  exact congrArg (fun D => View.canon (dxPieces x10 x11 x14 x15 xs5 D (sumStep x0 x1 x2 x3 x5 x6 x12 x13 xs1 xs3 xs4) (sumxStep x0 x1 x2 x3 x4 x5 x6 x12 x13 xs2 xs3 xs4 xs5)))
    ((read_two arg22.view (harg22.unread xs0) (256 * (i 0).val) _ _ (off0 i) (off1 i) _ _ _ _).trans (by rw [harg22.read_unread]; rfl))

/-- What the last point leaves in the scratch of dxhat. -/
theorem runC_22 :
    arg22.view.read (Elt F) (arg22.view.writes (Elt F) (harg22.unread xs0) (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).2.2.2.2.2.1)
      = upd (256 * (i 0).val) xs0 (dxh0 x0 x1 x2 x3 x5 x6 x12 x13 xs3 xs4) (dxh1 x0 x1 x2 x3 x5 x6 x12 x13 xs3 xs4) := by
  unfold runC; dsimp only; sl_unfold_words; simp (disch := decide) only [View.readAt_eq_ld, Memref.IsWhole.read_unread, View.ld_unit_lit, View.canon_cons_unit_lit, View.readCov_unit_lit, View.readCov_cons_unit_lit', read_whole]
  exact (read_two arg22.view (harg22.unread xs0) (256 * (i 0).val) _ _ (off0 i) (off1 i) _ _ _ _).trans (by rw [harg22.read_unread]; rfl)

/-- What the last point leaves in the lane sums of dxhat. -/
theorem runC_23 :
    ∀ f, arg23.view.read (Elt F) (arg23.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).2.2.2.2.2.2.1)
      = sumStep x0 x1 x2 x3 x5 x6 x12 x13 xs1 xs3 xs4 := by
  intro f
  unfold runC; dsimp only; sl_unfold_words; simp (disch := decide) only [View.readAt_eq_ld, Memref.IsWhole.read_unread, View.ld_unit_lit, View.canon_cons_unit_lit, View.readCov_unit_lit, View.readCov_cons_unit_lit', read_whole] <;> rfl

/-- What the last point leaves in the lane sums of dxhat * xhat. -/
theorem runC_24 :
    ∀ f, arg24.view.read (Elt F) (arg24.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xs0 xs1 xs2 xs3 xs4 xs5).2.2.2.2.2.2.2.1)
      = sumxStep x0 x1 x2 x3 x4 x5 x6 x12 x13 xs2 xs3 xs4 xs5 := by
  intro f
  unfold runC; dsimp only; sl_unfold_words; simp (disch := decide) only [View.readAt_eq_ld, Memref.IsWhole.read_unread, View.ld_unit_lit, View.canon_cons_unit_lit, View.readCov_unit_lit, View.readCov_cons_unit_lit', read_whole] <;> rfl

end

end Cert.ProjIdeal.Hand

end
-- ==== Proof.Proj.BodyC.lean ====
module

public import proofs.«01_k».proof.Proof.Proj.ReadsC

public import proofs.«01_k».proof.Proof.Proj.Data
public import Idealize.ShloMosaic.Lib.Claim

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the last point the scratch, the lane sums and the stores of `dx` are those of the whole `dxhat`. -/
theorem dx_eq (c : Dev nD) (t : Fin cfg0.N) (h7 : t.val = 7) (X : Vec F S1024x2048 .f32) (hX : Agree m c t.val X) :
    View.canon (dxPieces (iblk m c 10 t) (iblk m c 11 t) (iblk m c 14 t) (iblk m c 15 t) (cX m c)
      (upd (256 * (grid0.coords t 0).val) X (dxh0 (iblk m c 0 t) (iblk m c 1 t) (iblk m c 2 t) (iblk m c 3 t) (iblk m c 5 t) (iblk m c 6 t) (iblk m c 12 t) (iblk m c 13 t) (cA m c) (cQ m c)) (dxh1 (iblk m c 0 t) (iblk m c 1 t) (iblk m c 2 t) (iblk m c 3 t) (iblk m c 5 t) (iblk m c 6 t) (iblk m c 12 t) (iblk m c 13 t) (cA m c) (cQ m c)))
      (sumStep (iblk m c 0 t) (iblk m c 1 t) (iblk m c 2 t) (iblk m c 3 t) (iblk m c 5 t) (iblk m c 6 t) (iblk m c 12 t) (iblk m c 13 t) (SM m c t.val) (cA m c) (cQ m c))
      (sumxStep (iblk m c 0 t) (iblk m c 1 t) (iblk m c 2 t) (iblk m c 3 t) (iblk m c 4 t) (iblk m c 5 t) (iblk m c 6 t) (iblk m c 12 t) (iblk m c 13 t) (SMX m c t.val) (cA m c) (cQ m c) (cX m c)))
      = View.canon (dxPieces (iblk m c 10 t) (iblk m c 11 t) (iblk m c 14 t) (iblk m c 15 t) (cX m c) (DXH m c) (SM m c 8) (SMX m c 8)) := by
  have e1 := agree_upd m c t X hX
  have e2 := SM_succ m c t
  have e3 := SMX_succ m c t
  rw [h7] at e1
  have e4 := agree_all m c _ e1
  rw [← e2, ← e3, h7]
  exact congrArg (fun D => View.canon (dxPieces (iblk m c 10 t) (iblk m c 11 t) (iblk m c 14 t) (iblk m c 15 t) (cX m c) D (SM m c 8) (SMX m c 8))) e4

set_option maxHeartbeats 28800000 in
/-- The body at the last point: it takes the blocks and the scratch as the invariant states them and leaves what the data says. -/
theorem sound_C (c : Dev nD) (t : Fin cfg0.N) (h7 : t.val = 7) :
    bodyPre m c t ⊢ wp frame (wpE (defs₀ (F := F)) Variants.none c none) Set.univ (bodyAt0 t) (fun _ => bodyPost m c t) := by
  have hz : ¬t.val = 0 := by omega
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () (t).succ = (dats m 0 c).owesAt () (t).castSucc from rfl]
  rw [show (dats m 0 c).Φ (t).succ = PhiS m c ((t).val + 1) (t).isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 19 t = owns (c : Thread nD τ) (ms0_19 t) fullShare ((dats m 0 c).after 19 t) from by
    unfold Dat.leavesExact; rw [liveAt0_19 t], after0_19]
  rw [show (dats m 0 c).leavesExact 20 t = owns (c : Thread nD τ) (ms0_20 t) fullShare ((dats m 0 c).after 20 t) from by
    unfold Dat.leavesExact; rw [live20 t h7], after0_20]
  rw [PhiS_castSucc m c t, PhiS_pos m c _ _ hz]
  iintro ⟨⟨⟨⟨%X, %hX, HS0⟩, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((runC c (grid0.coords t) _ _ _ _ _ _ _ _ _ _ _ _ _ _ _ _ _ _ _ _ _ _ _ _ _ _ _ _ _ _ _ _ _ _ _ _ _ _ _ _ _ _ _ _ _ _ _ _ _ _ _ _ _ _ (fun h => hz ((hcond0 t).mp h)) ((hcond1 t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) X (SM m c t.val) (SMX m c t.val) (cA m c) (cQ m c) (cX m c)).2.2.2.2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexists _
    iexact H16
  isplitl [H17]
  · iexists _
    iexact H17
  isplitl [H18]
  · iexists _
    iexact H18
  isplitl [H19]
  · iexists _
    iexact H19
  isplitl [H20]
  · iexists _
    iexact H20
  isplitl [HS0]
  · iexact HS0
  isplitl [HS1]
  · iexact HS1
  isplitl [HS2]
  · iexact HS2
  isplitl [HS3]
  · iexact HS3
  isplitl [HS4]
  · iexact HS4
  isplitl [HS5]
  · iexact HS5
  iintro ⟨H0, H1, H2, H3, H4, H5, H6, H7, H8, H9, H10, H11, H12, H13, H14, H15, ⟨%e17, H16⟩, ⟨%e18, H17⟩, ⟨%e19, H18⟩, ⟨%e20, H19⟩, ⟨%e21, H20⟩, HS0, ⟨%e23, HS1⟩, ⟨%e24, HS2⟩, HS3, HS4, HS5⟩
  isplitl [HS0 HS1 HS2 HS3 HS4 HS5 Hg]
  · isplitl [HS0 HS1 HS2 HS3 HS4 HS5]
    · isplitl [HS0]
      · iexists _
        isplitr
        · ipureintro
          exact agree_upd m c t X hX
        unfold owns
        iexists _
        isplitr
        swap
        · iexact HS0
        ipureintro
        exact runC_22 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      isplitl [HS1]
      · unfold owns
        iexists _
        isplitr
        swap
        · iexact HS1
        ipureintro
        exact (runC_23 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (SM_succ m c t).symm
      isplitl [HS2]
      · unfold owns
        iexists _
        isplitr
        swap
        · iexact HS2
        ipureintro
        exact (runC_24 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (SMX_succ m c t).symm
      isplitl [HS3]
      · iexact HS3
      isplitl [HS4]
      · iexact HS4
      iexact HS5
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · unfold owns
    iexists _
    isplitr
    swap
    · iexact H16
    ipureintro
    exact runC_17 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H17]
  · unfold owns
    iexists _
    isplitr
    swap
    · iexact H17
    ipureintro
    exact runC_18 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H18]
  · unfold owns
    iexists _
    isplitr
    swap
    · iexact H18
    ipureintro
    exact runC_19 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H19]
  · unfold owns
    iexists _
    isplitr
    swap
    · iexact H19
    ipureintro
    exact runC_20 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  unfold owns
  iexists _
  isplitr
  swap
  · iexact H20
  ipureintro
  exact (runC_21 c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (dx_eq m c t h7 X hX)

end Cert.ProjIdeal.Hand

end
-- ==== Proof.Proj.Run.lean ====
module

public import proofs.«01_k».proof.Proof.Proj.BodyA

public import proofs.«01_k».proof.Proof.Proj.BodyB
public import proofs.«01_k».proof.Proof.Proj.BodyC

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_A m c t hz
  by_cases h7 : t.val = 7
  · exact sound_C m c t h7
  exact sound_B m c t hz h7

theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨⟨%X, -, HS0⟩, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

set_option backward.isDefEq.respectTransparency.types false in
/-- The launch: every execution ends, each window's array at what the data names, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The frame: the program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.ProjIdeal.Hand

end
-- ==== Proof.Proj.ValueBase.lean ====
module
public import proofs.«01_k».proof.Proof.Proj.Data
public import proofs.«01_k».proof.Proof.Gen.ProjRefIdeal.Frame
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.ProjIdeal.Value
open Cert.ProjIdeal Cert.ProjIdeal.Gen Cert.ProjIdeal.Hand
variable (m : (ℓ : Loc nD τ sig) → Buf (Elt Ideal) ℓ)

/-- A column scale applied inside a contraction and a row scale outside it, in either order. -/
theorem dw_sum {K : ℕ} (A B C D : Fin K → EReal) (g : EReal) :
    (∑ x, A x * B x * C x * D x) * g = g * ∑ x, A x * B x * (D x * C x) := by
  rw [mul_comm]
  exact congrArg (g * ·) (Finset.sum_congr rfl fun x _ => by rw [mul_assoc, mul_comm (C x)])

/-- The block every window reads or writes at a grid point. -/
theorem idx : ∀ t : Fin cfg0.N, win0_0.index t = ![0, 0] ∧ win0_1.index t = ![0, 0] ∧ win0_2.index t = ![t.val, 0] ∧ win0_3.index t = ![t.val, 0]
    ∧ win0_4.index t = ![0, t.val] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, t.val] ∧ win0_13.index t = ![0, t.val]
    ∧ win0_14.index t = ![0, 0] ∧ win0_15.index t = ![0, 0] ∧ win0_16.index t = ![t.val, 0] ∧ win0_17.index t = ![t.val, 0] ∧ win0_18.index t = ![0, t.val]
    ∧ win0_19.index t = ![0, t.val] ∧ win0_20.index t = ![0, 0] :=
  (by decide +kernel : ∀ t : Fin grid0.N, _)

end Cert.ProjIdeal.Value

end
-- ==== Proof.Proj.ValueDw.lean ====
module
public import proofs.«01_k».proof.Proof.Proj.ValueBase
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.ProjIdeal.Value
open Cert.ProjIdeal Cert.ProjIdeal.Gen Cert.ProjIdeal.Hand
variable (m : (ℓ : Loc nD τ sig) → Buf (Elt Ideal) ℓ)

/-- The reference's `dw_in`, of whole arrays. -/
abbrev REF16 (codes : FVec Ideal S1024x5632 .fp8e5m2) (das : FVec Ideal S1x1024 .f32) (xh : FVec Ideal S1024x2048 .fp8e4m3) (xs : FVec Ideal S1x1024 .f32) (gm : FVec Ideal S1x2048 .f32) : FVec Ideal Cert.ProjRefIdeal.S2048x5632 .bf16 :=
  Cert.ProjRefIdeal.Gen.k0_pay1 (Cert.ProjRefIdeal.Gen.k0_pay12 xh codes das xs gm)

/-- What a point stores in its block is the reference at the place the block has in the array. -/
theorem point16 (c : Dev nD) (t : Fin cfg0.N) (y) : dwIn (iblk m c 0 t) (iblk m c 4 t) (iblk m c 7 t) (iblk m c 9 t) (iblk m c 13 t) y
    = REF16 (V m c main_arg0) (V m c main_arg1) (V m c main_v1) (V m c main_arg7) (V m c main_v7) (((cfg0.win 16).blk t).view.emb y) := by
  pointwise [dwIn, k0_pay53, k0_pay54, k0_pay55, REF16, Cert.ProjRefIdeal.Gen.k0_pay1, Cert.ProjRefIdeal.Gen.k0_pay12, Cert.ProjRefIdeal.Gen.k0_pay11, Cert.ProjRefIdeal.Gen.k0_pay5, Cert.ProjRefIdeal.Gen.k0_pay6, Cert.ProjRefIdeal.Gen.k0_pay8]
  refine (dw_sum _ _ _ _ _).trans ?_
  blk_point [iblk, idx t]
/-- The result array after the run is the reference's. -/
theorem final16 (c : Dev nD) : (dats m 0 c).arrAt 16 (cfgs 0).N
    = REF16 (V m c main_arg0) (V m c main_arg1) (V m c main_v1) (V m c main_arg7) (V m c main_v7) := by
  refine (dats m 0 c).arrAt_eq_of_covers 16 _ (by decide +kernel) fun t _ y => ?_
  blk_simp
  rw [after0_16]
  exact point16 m c t y

/-- The reference's `dw_qkv`, of whole arrays. -/
abbrev REF17 (dqkv : FVec Ideal S1024x6144 .fp8e5m2) (dqs : FVec Ideal S1x1024 .f32) (xh : FVec Ideal S1024x2048 .fp8e4m3) (xs : FVec Ideal S1x1024 .f32) (ga : FVec Ideal S1x2048 .f32) : FVec Ideal Cert.ProjRefIdeal.S2048x6144 .bf16 :=
  Cert.ProjRefIdeal.Gen.k0_pay2 (Cert.ProjRefIdeal.Gen.k0_pay15 (Cert.ProjRefIdeal.Gen.k0_pay13 dqkv xh dqs xs) (Cert.ProjRefIdeal.Gen.k0_pay14 ga))

/-- What a point stores in its block is the reference at the place the block has in the array. -/
theorem point17 (c : Dev nD) (t : Fin cfg0.N) (y) : dwQkv (iblk m c 1 t) (iblk m c 4 t) (iblk m c 8 t) (iblk m c 9 t) (iblk m c 12 t) y
    = REF17 (V m c main_v2) (V m c main_arg5) (V m c main_v1) (V m c main_arg7) (V m c main_v6) (((cfg0.win 17).blk t).view.emb y) := by
  pointwise [dwQkv, k0_pay53, k0_pay54, k0_pay56, REF17, Cert.ProjRefIdeal.Gen.k0_pay2, Cert.ProjRefIdeal.Gen.k0_pay15, Cert.ProjRefIdeal.Gen.k0_pay13, Cert.ProjRefIdeal.Gen.k0_pay14, Cert.ProjRefIdeal.Gen.k0_pay11, Cert.ProjRefIdeal.Gen.k0_pay4, Cert.ProjRefIdeal.Gen.k0_pay7, Cert.ProjRefIdeal.Gen.k0_pay8]
  refine (dw_sum _ _ _ _ _).trans ?_
  blk_point [iblk, idx t]
/-- The result array after the run is the reference's. -/
theorem final17 (c : Dev nD) : (dats m 0 c).arrAt 17 (cfgs 0).N
    = REF17 (V m c main_v2) (V m c main_arg5) (V m c main_v1) (V m c main_arg7) (V m c main_v6) := by
  refine (dats m 0 c).arrAt_eq_of_covers 17 _ (by decide +kernel) fun t _ y => ?_
  blk_simp
  rw [after0_17]
  exact point17 m c t y

end Cert.ProjIdeal.Value

end
-- ==== Proof.Proj.ValueDg.lean ====
module
public import proofs.«01_k».proof.Proof.Proj.ValueBase
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.ProjIdeal.Value
open Cert.ProjIdeal Cert.ProjIdeal.Gen Cert.ProjIdeal.Hand
variable (m : (ℓ : Loc nD τ sig) → Buf (Elt Ideal) ℓ)

/-- The reference's `dgamma_attn`, of whole arrays. -/
abbrev REF18 (dqkv : FVec Ideal S1024x6144 .fp8e5m2) (dqs : FVec Ideal S1x1024 .f32) (wq : FVec Ideal Cert.ProjRefIdeal.S2048x6144 .fp8e4m3) (sq : FVec Ideal S1x6144 .f32) (xh : FVec Ideal S1024x2048 .fp8e4m3) (xs : FVec Ideal S1x1024 .f32) : FVec Ideal S1x2048 .f32 :=
  Cert.ProjRefIdeal.Gen.k0_pay19 (Cert.ProjRefIdeal.Gen.k0_pay4 dqkv) (Cert.ProjRefIdeal.Gen.k0_pay7 dqs) (Cert.ProjRefIdeal.Gen.k0_pay8 xs) wq sq xh

/-- What a point stores in its block is the reference at the place the block has in the array. -/
theorem point18 (c : Dev nD) (t : Fin cfg0.N) (y) : dGa (iblk m c 1 t) (iblk m c 3 t) (iblk m c 4 t) (iblk m c 6 t) (cQ m c) (cX m c) y
    = REF18 (V m c main_v2) (V m c main_arg5) (V m c main_v3) (V m c main_v5) (V m c main_v1) (V m c main_arg7) (((cfg0.win 18).blk t).view.emb y) := by
  unfold dGa
  canon_tiles x h
  all_goals (
    pointwise [cQ, cX, k0_pay30, k0_pay31, k0_pay32, k0_pay34, k0_pay35, k0_pay37, k0_pay43, k0_pay44, k0_pay47, REF18, Cert.ProjRefIdeal.Gen.k0_pay19, Cert.ProjRefIdeal.Gen.k0_pay18, Cert.ProjRefIdeal.Gen.k0_pay17, Cert.ProjRefIdeal.Gen.k0_pay4, Cert.ProjRefIdeal.Gen.k0_pay7, Cert.ProjRefIdeal.Gen.k0_pay8]
    blk_point [iblk, idx t, idx t0_0])
/-- The result array after the run is the reference's. -/
theorem final18 (c : Dev nD) : (dats m 0 c).arrAt 18 (cfgs 0).N
    = REF18 (V m c main_v2) (V m c main_arg5) (V m c main_v3) (V m c main_v5) (V m c main_v1) (V m c main_arg7) := by
  refine (dats m 0 c).arrAt_eq_of_covers 18 _ (by decide +kernel) fun t _ y => ?_
  blk_simp
  rw [after0_18]
  exact point18 m c t y

/-- The reference's `dgamma_mlp`, of whole arrays. -/
abbrev REF19 (codes : FVec Ideal S1024x5632 .fp8e5m2) (das : FVec Ideal S1x1024 .f32) (wi : FVec Ideal Cert.ProjRefIdeal.S2048x5632 .fp8e4m3) (si : FVec Ideal S1x5632 .f32) (xh : FVec Ideal S1024x2048 .fp8e4m3) (xs : FVec Ideal S1x1024 .f32) : FVec Ideal S1x2048 .f32 :=
  Cert.ProjRefIdeal.Gen.k0_pay20 (Cert.ProjRefIdeal.Gen.k0_pay5 codes) (Cert.ProjRefIdeal.Gen.k0_pay6 das) (Cert.ProjRefIdeal.Gen.k0_pay8 xs) wi si xh

/-- What a point stores in its block is the reference at the place the block has in the array. -/
theorem point19 (c : Dev nD) (t : Fin cfg0.N) (y) : dGm (iblk m c 0 t) (iblk m c 2 t) (iblk m c 4 t) (iblk m c 5 t) (cA m c) (cX m c) y
    = REF19 (V m c main_arg0) (V m c main_arg1) (V m c main_arg11) (V m c main_v4) (V m c main_v1) (V m c main_arg7) (((cfg0.win 19).blk t).view.emb y) := by
  unfold dGm
  canon_tiles x h
  all_goals (
    pointwise [cA, cX, k0_pay29, k0_pay31, k0_pay33, k0_pay34, k0_pay36, k0_pay38, k0_pay43, k0_pay45, k0_pay46, k0_pay48, REF19, Cert.ProjRefIdeal.Gen.k0_pay20, Cert.ProjRefIdeal.Gen.k0_pay18, Cert.ProjRefIdeal.Gen.k0_pay16, Cert.ProjRefIdeal.Gen.k0_pay5, Cert.ProjRefIdeal.Gen.k0_pay6, Cert.ProjRefIdeal.Gen.k0_pay8]
    blk_point [iblk, idx t, idx t0_0])

/-- The result array after the run is the reference's. -/
theorem final19 (c : Dev nD) : (dats m 0 c).arrAt 19 (cfgs 0).N
    = REF19 (V m c main_arg0) (V m c main_arg1) (V m c main_arg11) (V m c main_v4) (V m c main_v1) (V m c main_arg7) := by
  refine (dats m 0 c).arrAt_eq_of_covers 19 _ (by decide +kernel) fun t _ y => ?_
  blk_simp
  rw [after0_19]
  exact point19 m c t y

end Cert.ProjIdeal.Value

end
-- ==== Proof.Proj.ValueDxh.lean ====
module
public import proofs.«01_k».proof.Proof.Proj.ValueBase
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.ProjIdeal.Value
open Cert.ProjIdeal Cert.ProjIdeal.Gen Cert.ProjIdeal.Hand
variable (m : (ℓ : Loc nD τ sig) → Buf (Elt Ideal) ℓ)

/-- The reference's `dh_mlp`, of whole arrays. -/
abbrev RHM (codes : FVec Ideal S1024x5632 .fp8e5m2) (das : FVec Ideal S1x1024 .f32) (wi : FVec Ideal Cert.ProjRefIdeal.S2048x5632 .fp8e4m3) (si : FVec Ideal S1x5632 .f32) : FVec Ideal S1024x2048 .f32 :=
  Cert.ProjRefIdeal.Gen.k0_pay16 (Cert.ProjRefIdeal.Gen.k0_pay5 codes) (Cert.ProjRefIdeal.Gen.k0_pay6 das) wi si
/-- The reference's `dh_attn`, of whole arrays. -/
abbrev RHA (dqkv : FVec Ideal S1024x6144 .fp8e5m2) (dqs : FVec Ideal S1x1024 .f32) (wq : FVec Ideal Cert.ProjRefIdeal.S2048x6144 .fp8e4m3) (sq : FVec Ideal S1x6144 .f32) : FVec Ideal S1024x2048 .f32 :=
  Cert.ProjRefIdeal.Gen.k0_pay17 (Cert.ProjRefIdeal.Gen.k0_pay4 dqkv) (Cert.ProjRefIdeal.Gen.k0_pay7 dqs) wq sq
/-- The reference's dequantised `xhat`. -/
abbrev RXH (xh : FVec Ideal S1024x2048 .fp8e4m3) (xs : FVec Ideal S1x1024 .f32) : FVec Ideal S1024x2048 .f32 :=
  Cert.ProjRefIdeal.Gen.k0_pay18 (Cert.ProjRefIdeal.Gen.k0_pay8 xs) xh
/-- The reference's `dxhat`, of whole arrays. -/
def RDX (codes : FVec Ideal S1024x5632 .fp8e5m2) (das : FVec Ideal S1x1024 .f32) (wi : FVec Ideal Cert.ProjRefIdeal.S2048x5632 .fp8e4m3) (si : FVec Ideal S1x5632 .f32) (gm : FVec Ideal S1x2048 .f32)
    (dqkv : FVec Ideal S1024x6144 .fp8e5m2) (dqs : FVec Ideal S1x1024 .f32) (wq : FVec Ideal Cert.ProjRefIdeal.S2048x6144 .fp8e4m3) (sq : FVec Ideal S1x6144 .f32) (ga : FVec Ideal S1x2048 .f32) : FVec Ideal S1024x2048 .f32 :=
  addf (mulf (RHA dqkv dqs wq sq) (Cert.ProjRefIdeal.Gen.k0_pay21 ga)) (mulf (RHM codes das wi si) (Cert.ProjRefIdeal.Gen.k0_pay21 gm))

/-- `dxhat` of this launch's arrays. -/
def rdx (c : Dev nD) : FVec Ideal S1024x2048 .f32 :=
  RDX (V m c main_arg0) (V m c main_arg1) (V m c main_arg11) (V m c main_v4) (V m c main_v7) (V m c main_v2) (V m c main_arg5) (V m c main_v3) (V m c main_v5) (V m c main_v6)
/-- The dequantised `xhat` of this launch's arrays. -/
def rxh (c : Dev nD) : FVec Ideal S1024x2048 .f32 := RXH (V m c main_v1) (V m c main_arg7)

/-- The first half of a point's block of `dxhat` is the reference's at its columns. -/
theorem hA_at (c : Dev nD) (t : Fin cfg0.N) (i : S1024x128.Idx) (j : S1024x2048.Idx) (h0 : (j 0 : ℕ) = i 0) (h1 : (j 1 : ℕ) = t.val * 256 + i 1) :
    hA m c t i = rdx m c j := by
  pointwise [hA, dxh0, cA, cQ, k0_pay29, k0_pay30, k0_pay32, k0_pay33, k0_pay35, k0_pay36, k0_pay39, k0_pay42, rdx, RDX, RHA, RHM, Cert.ProjRefIdeal.Gen.k0_pay4, Cert.ProjRefIdeal.Gen.k0_pay5, Cert.ProjRefIdeal.Gen.k0_pay6, Cert.ProjRefIdeal.Gen.k0_pay7, Cert.ProjRefIdeal.Gen.k0_pay16, Cert.ProjRefIdeal.Gen.k0_pay17, Cert.ProjRefIdeal.Gen.k0_pay21]
  blk_point [iblk, idx t, idx t0_0]

/-- The second half of a point's block of `dxhat` is the reference's at its columns. -/
theorem hB_at (c : Dev nD) (t : Fin cfg0.N) (i : S1024x128.Idx) (j : S1024x2048.Idx) (h0 : (j 0 : ℕ) = i 0) (h1 : (j 1 : ℕ) = t.val * 256 + 128 + i 1) :
    hB m c t i = rdx m c j := by
  pointwise [hB, dxh1, cA, cQ, k0_pay29, k0_pay30, k0_pay32, k0_pay33, k0_pay44, k0_pay45, k0_pay46, k0_pay49, k0_pay50, rdx, RDX, RHA, RHM, Cert.ProjRefIdeal.Gen.k0_pay4, Cert.ProjRefIdeal.Gen.k0_pay5, Cert.ProjRefIdeal.Gen.k0_pay6, Cert.ProjRefIdeal.Gen.k0_pay7, Cert.ProjRefIdeal.Gen.k0_pay16, Cert.ProjRefIdeal.Gen.k0_pay17, Cert.ProjRefIdeal.Gen.k0_pay21]
  blk_point [iblk, idx t, idx t0_0]

/-- The scratch holds the reference's `dxhat`. -/
theorem DXH_eq (c : Dev nD) : DXH m c = rdx m c := by
  funext y
  have hy : (y 1).val < 2048 := (y 1).isLt
  unfold DXH
  split
  · refine hB_at m c _ _ _ rfl ?_
    show (y 1).val = (y 1).val / 256 * 256 + 128 + (y 1).val % 128
    omega
  · refine hA_at m c _ _ _ rfl ?_
    show (y 1).val = (y 1).val / 256 * 256 + (y 1).val % 128
    omega

/-- A point adds its two halves to the lane sums. -/
theorem SM_step (c : Dev nD) (t : Fin cfg0.N) (i : S1024x128.Idx) : SM m c (t.val + 1) i = SM m c t.val i + hA m c t i + hB m c t i := by
  rw [SM_succ]
  pointwise [sumStep, hA, hB, dxh0, dxh1, k0_pay40, k0_pay42, k0_pay50, k0_pay51]

/-- The dequantised `xhat` at a point's block and the reference's. -/
theorem SMX_step (c : Dev nD) (t : Fin cfg0.N) (i : S1024x128.Idx) (j0 j1 : S1024x2048.Idx) (h0 : (j0 0 : ℕ) = i 0) (h1 : (j0 1 : ℕ) = t.val * 256 + i 1)
    (k0 : (j1 0 : ℕ) = i 0) (k1 : (j1 1 : ℕ) = t.val * 256 + 128 + i 1) :
    SMX m c (t.val + 1) i = SMX m c t.val i + hA m c t i * rxh m c j0 + hB m c t i * rxh m c j1 := by
  rw [SMX_succ]
  pointwise [sumxStep, hA, hB, dxh0, dxh1, cX, k0_pay31, k0_pay34, k0_pay41, k0_pay42, k0_pay43, k0_pay50, k0_pay52, rxh, RXH, Cert.ProjRefIdeal.Gen.k0_pay8, Cert.ProjRefIdeal.Gen.k0_pay18]
  blk_point [iblk, idx t, idx t0_0]

end Cert.ProjIdeal.Value

end
-- ==== Proof.Proj.ValueDx.lean ====
module
public import proofs.«01_k».proof.Proof.Proj.ValueDxh
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.ProjIdeal.Value
open Cert.ProjIdeal Cert.ProjIdeal.Gen Cert.ProjIdeal.Hand
variable (m : (ℓ : Loc nD τ sig) → Buf (Elt Ideal) ℓ)

/-- The kernel's factor `1 / 2048`. -/
theorem recip_eq : Ideal.ofBits .f32 973078528#32 = (((1 : ℝ) / 2048 : ℝ) : EReal) := by
  simp [Ideal.ofBits, Ideal.ieee, -EReal.coe_mul]; norm_num

/-- The reference's divisor `2048`. -/
theorem divisor_eq : Ideal.ofBits .f32 1157627904#32 = ((2048 : ℝ) : EReal) := by
  simp [Ideal.ofBits, Ideal.ieee, -EReal.coe_mul]; norm_num

/-- Dividing by the number of columns is multiplying by its reciprocal. -/
theorem div_columns (x : EReal) : Ideal.div x (Ideal.ofBits .f32 1157627904#32) = x * Ideal.ofBits .f32 973078528#32 := by
  rw [divisor_eq, recip_eq, Ideal.div_coe (by norm_num)]

/-- Lane sums over eight points of two halves of 128 columns, added up over the lanes, are the sum over 2048 columns. -/
theorem lane_sums (T : ℕ → Fin 128 → EReal) (f : Fin 2048 → EReal) (h0 : ∀ l, T 0 l = 0)
    (hs : ∀ (p : ℕ) (hp : p < 8) (l : Fin 128), T (p + 1) l = T p l + f ⟨p * 256 + l, by omega⟩ + f ⟨p * 256 + 128 + l, by omega⟩) :
    ∑ l, T 8 l = ∑ d, f d := by
  let g : ℕ → EReal := fun d => if h : d < 2048 then f ⟨d, h⟩ else 0
  have hg : ∀ d (h : d < 2048), f ⟨d, h⟩ = g d := fun d h => by show f ⟨d, h⟩ = dite (d < 2048) _ _; rw [dif_pos h]
  have key : ∀ n, n ≤ 8 → ∀ l : Fin 128, T n l = ∑ q ∈ Finset.range (2 * n), g (q * 128 + l) := by
    intro n
    induction n with
    | zero => intro _ l; simpa using h0 l
    | succ n ih =>
      intro hn l
      rw [hs n (by omega) l, ih (by omega) l, show 2 * (n + 1) = 2 * n + 1 + 1 by ring, Finset.sum_range_succ, Finset.sum_range_succ, hg, hg,
        show 2 * n * 128 + (l : ℕ) = n * 256 + l by ring, show (2 * n + 1) * 128 + (l : ℕ) = n * 256 + 128 + l by ring]
  have e : ∑ d, f d = ∑ d ∈ Finset.range (16 * 128), g d := by
    rw [← Fin.sum_univ_eq_sum_range]
    exact Finset.sum_congr rfl fun d _ => hg d.val d.isLt
  rw [e, Finset.sum_range_mul_split, Finset.sum_congr rfl fun l _ => key 8 le_rfl l, Finset.sum_comm]
  exact Finset.sum_congr rfl fun q _ => Fin.sum_univ_eq_sum_range (fun l => g (q * 128 + l)) 128

/-- What the last point stores in `dx`, at an index, from the whole `dxhat` (`D`) and its lane sums `T` and `T2`. -/
def lnAt (x9 x10 x11 : FVec Ideal S1x1024 .f32) (x14 : FVec Ideal S1024x2048 .fp8e5m2) (x15 : FVec Ideal S1024x2048 .fp8e4m3) (D : FVec Ideal S1024x2048 .f32) (T T2 : FVec Ideal S1024x128 .f32) : FVec Ideal S1024x2048 .bf16 := fun y =>
  x14 y * x11 (ix2 0 (y 0)) + x10 (ix2 0 (y 0)) * (D y - (∑ l, T (ix2 (y 0) l)) * Ideal.ofBits .f32 973078528#32 - x15 y * ((∑ l, T2 (ix2 (y 0) l)) * Ideal.ofBits .f32 973078528#32 * x9 (ix2 0 (y 0))))

/-- The sixteen stores are one function of the index. -/
theorem pieces (x9 x10 x11 : FVec Ideal S1x1024 .f32) (x14 : FVec Ideal S1024x2048 .fp8e5m2) (x15 : FVec Ideal S1024x2048 .fp8e4m3) (D : FVec Ideal S1024x2048 .f32) (T T2 : FVec Ideal S1024x128 .f32) (y : S1024x2048.Idx) :
    View.canon (dxPieces (F := Ideal) x10 x11 x14 x15 (k0_pay31 (F := Ideal) x9) D T T2) y = (show Elt Ideal .bf16 from lnAt x9 x10 x11 x14 x15 D T T2 y) := by
  unfold dxPieces
  canon_tiles x h
  all_goals (
    pointwise [k0_pay1, k0_pay2, k0_pay3, k0_pay4, k0_pay31, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, lnAt]
    blk_point [])

/-- The reference's `dx`, of whole arrays. -/
abbrev REF20 (codes : FVec Ideal S1024x5632 .fp8e5m2) (das : FVec Ideal S1x1024 .f32) (wi : FVec Ideal Cert.ProjRefIdeal.S2048x5632 .fp8e4m3) (si : FVec Ideal S1x5632 .f32) (gm : FVec Ideal S1x2048 .f32)
    (dqkv : FVec Ideal S1024x6144 .fp8e5m2) (dqs : FVec Ideal S1x1024 .f32) (wq : FVec Ideal Cert.ProjRefIdeal.S2048x6144 .fp8e4m3) (sq : FVec Ideal S1x6144 .f32) (ga : FVec Ideal S1x2048 .f32)
    (xh : FVec Ideal S1024x2048 .fp8e4m3) (xs : FVec Ideal S1x1024 .f32) (rstd : FVec Ideal S1x1024 .f32) (dys : FVec Ideal S1x1024 .f32) (dy : FVec Ideal S1024x2048 .fp8e5m2) : FVec Ideal S1024x2048 .bf16 :=
  Cert.ProjRefIdeal.Gen.k0_pay3 (Cert.ProjRefIdeal.Gen.k0_pay9 rstd) (Cert.ProjRefIdeal.Gen.k0_pay10 dys) (RHM codes das wi si) (RHA dqkv dqs wq sq) (RXH xh xs) (Cert.ProjRefIdeal.Gen.k0_pay21 ga) gm dy

/-- The last arithmetic of the reference's `dx`, from its `dxhat` and its `xhat`. -/
def lnRef (rstd : FVec Ideal S1x1024 .f32) (dys : FVec Ideal S1x1024 .f32) (dy : FVec Ideal S1024x2048 .fp8e5m2) (D X : FVec Ideal S1024x2048 .f32) : FVec Ideal S1024x2048 .bf16 := fun y =>
  dy y * dys (ix2 0 (y 0)) + rstd (ix2 0 (y 0)) * (D y - Ideal.div (∑ d, D (ix2 (y 0) d)) (Ideal.ofBits .f32 1157627904#32)
    - X y * Ideal.div (∑ d, D (ix2 (y 0) d) * X (ix2 (y 0) d)) (Ideal.ofBits .f32 1157627904#32))

/-- The reference's `dx` is that arithmetic. -/
theorem REF20_eq (codes : FVec Ideal S1024x5632 .fp8e5m2) (das : FVec Ideal S1x1024 .f32) (wi : FVec Ideal Cert.ProjRefIdeal.S2048x5632 .fp8e4m3) (si : FVec Ideal S1x5632 .f32) (gm : FVec Ideal S1x2048 .f32)
    (dqkv : FVec Ideal S1024x6144 .fp8e5m2) (dqs : FVec Ideal S1x1024 .f32) (wq : FVec Ideal Cert.ProjRefIdeal.S2048x6144 .fp8e4m3) (sq : FVec Ideal S1x6144 .f32) (ga : FVec Ideal S1x2048 .f32)
    (xh : FVec Ideal S1024x2048 .fp8e4m3) (xs : FVec Ideal S1x1024 .f32) (rstd : FVec Ideal S1x1024 .f32) (dys : FVec Ideal S1x1024 .f32) (dy : FVec Ideal S1024x2048 .fp8e5m2) (y : S1024x2048.Idx) :
    REF20 codes das wi si gm dqkv dqs wq sq ga xh xs rstd dys dy y = lnRef rstd dys dy (RDX codes das wi si gm dqkv dqs wq sq ga) (RXH xh xs) y := by
  pointwise [REF20, lnRef, RDX, Cert.ProjRefIdeal.Gen.k0_pay3, Cert.ProjRefIdeal.Gen.k0_pay9, Cert.ProjRefIdeal.Gen.k0_pay10, Cert.ProjRefIdeal.Gen.k0_pay21]

/-- The lane sums of `dxhat`, added up. -/
theorem SM_sum (c : Dev nD) (s : Fin 1024) : ∑ l : Fin 128, (SM m c 8 (ix2 s l) : EReal) = ∑ d : Fin 2048, (rdx m c (ix2 s d) : EReal) := by
  refine lane_sums (fun n l => SM m c n (ix2 s l)) (fun d => rdx m c (ix2 s d)) (fun l => ?_) fun p hp l => ?_
  · show (k0_pay27 (F := Ideal)) (ix2 s l) = (0 : EReal)
    pointwise [k0_pay27]
  · have hp' : p < cfg0.N := by rw [show cfg0.N = 8 from N_0]; exact hp
    refine (SM_step m c ⟨p, hp'⟩ (ix2 s l)).trans ?_
    rw [hA_at m c ⟨p, hp'⟩ (ix2 s l) (ix2 s ⟨p * 256 + l, by omega⟩) rfl rfl, hB_at m c ⟨p, hp'⟩ (ix2 s l) (ix2 s ⟨p * 256 + 128 + l, by omega⟩) rfl rfl]

/-- The lane sums of `dxhat * xhat`, added up. -/
theorem SMX_sum (c : Dev nD) (s : Fin 1024) : ∑ l : Fin 128, (SMX m c 8 (ix2 s l) : EReal) = ∑ d : Fin 2048, (rdx m c (ix2 s d) * rxh m c (ix2 s d) : EReal) := by
  refine lane_sums (fun n l => SMX m c n (ix2 s l)) (fun d => (rdx m c (ix2 s d) * rxh m c (ix2 s d) : EReal)) (fun l => ?_) fun p hp l => ?_
  · show (k0_pay28 (F := Ideal)) (ix2 s l) = (0 : EReal)
    pointwise [k0_pay28]
  · have hp' : p < cfg0.N := by rw [show cfg0.N = 8 from N_0]; exact hp
    refine (SMX_step m c ⟨p, hp'⟩ (ix2 s l) (ix2 s ⟨p * 256 + l, by omega⟩) (ix2 s ⟨p * 256 + 128 + l, by omega⟩) rfl rfl rfl rfl).trans ?_
    rw [hA_at m c ⟨p, hp'⟩ (ix2 s l) (ix2 s ⟨p * 256 + l, by omega⟩) rfl rfl, hB_at m c ⟨p, hp'⟩ (ix2 s l) (ix2 s ⟨p * 256 + 128 + l, by omega⟩) rfl rfl]

/-- The last point's arithmetic is the reference's. -/
theorem ln_eq (x9 x10 x11 : FVec Ideal S1x1024 .f32) (x14 : FVec Ideal S1024x2048 .fp8e5m2) (x15 : FVec Ideal S1024x2048 .fp8e4m3) (D : FVec Ideal S1024x2048 .f32) (T T2 : FVec Ideal S1024x128 .f32)
    (hT : ∀ s : Fin 1024, ∑ l : Fin 128, (T (ix2 s l) : EReal) = ∑ d : Fin 2048, (D (ix2 s d) : EReal))
    (hT2 : ∀ s : Fin 1024, ∑ l : Fin 128, (T2 (ix2 s l) : EReal) = ∑ d : Fin 2048, (D (ix2 s d) * RXH x15 x9 (ix2 s d) : EReal)) (y : S1024x2048.Idx) :
    lnAt x9 x10 x11 x14 x15 D T T2 y = lnRef x10 x11 x14 D (RXH x15 x9) y := by
  have hX : RXH x15 x9 y = (x15 y * x9 (ix2 0 (y 0)) : EReal) := by
    pointwise [RXH, Cert.ProjRefIdeal.Gen.k0_pay18, Cert.ProjRefIdeal.Gen.k0_pay8]
  unfold lnAt lnRef
  rw [div_columns, div_columns, hX]
  have e1 := hT (y 0)
  have e2 := hT2 (y 0)
  rw [← e1, ← e2]
  refine congrArg (fun z : EReal => x14 y * x11 (ix2 0 (y 0)) + x10 (ix2 0 (y 0)) * (D y - (∑ l, T (ix2 (y 0) l)) * Ideal.ofBits .f32 973078528#32 - z)) ?_
  rw [mul_assoc (x15 y : EReal), mul_comm (x9 _ : EReal)]

/-- The result array after the run is the reference's. -/
theorem final20 (c : Dev nD) : (dats m 0 c).arrAt 20 (cfgs 0).N
    = REF20 (V m c main_arg0) (V m c main_arg1) (V m c main_arg11) (V m c main_v4) (V m c main_v7) (V m c main_v2) (V m c main_arg5) (V m c main_v3) (V m c main_v5) (V m c main_v6)
        (V m c main_v1) (V m c main_arg7) (V m c main_arg8) (V m c main_arg3) (V m c main_v0) := by
  refine (dats m 0 c).arrAt_eq_of_after_last 20 t0_7 (by decide +kernel) _ fun j => ?_
  blk_simp
  rw [after0_20]
  have e9 : iblk m c 9 t0_0 = V m c main_arg7 := by blk_ext! [iblk, idx t0_0]
  have e10 : iblk m c 10 t0_7 = V m c main_arg8 := by blk_ext! [iblk, idx t0_7]
  have e11 : iblk m c 11 t0_7 = V m c main_arg3 := by blk_ext! [iblk, idx t0_7]
  have e14 : iblk m c 14 t0_7 = V m c main_v0 := by blk_ext! [iblk, idx t0_7]
  have e15 : iblk m c 15 t0_7 = V m c main_v1 := by blk_ext! [iblk, idx t0_7]
  rw [DXH_eq, cX, e9, e10, e11, e14, e15]
  refine (pieces _ _ _ _ _ _ _ _ j).trans ((ln_eq _ _ _ _ _ _ _ _ (SM_sum m c) (SMX_sum m c) j).trans (REF20_eq _ _ _ _ _ _ _ _ _ _ _ _ _ _ _ j).symm)

end Cert.ProjIdeal.Value

end
-- ==== Proof.Proj.RefValue.lean ====
module
public import proofs.«01_k».proof.Proof.Proj.ValueDx
public import proofs.«01_k».proof.Proof.Proj.ValueDw
public import proofs.«01_k».proof.Proof.Proj.ValueDg
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjRefIdeal.Whole
open Cert.ProjRefIdeal Cert.ProjRefIdeal.Gen
open Cert.ProjIdeal.Value (REF16 REF17 REF18 REF19 REF20)
variable (m : (ℓ : Loc nD τ sig) → Buf (Elt Ideal) ℓ)

/-- The one grid point's block of every window starts at the array's origin. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![0, 0] ∧ win0_18.index t = ![0, 0]
    ∧ win0_19.index t = ![0, 0] :=
  (by decide +kernel : ∀ t : Fin grid0.N, _)

theorem b0 (c : Dev nD) : iblk m c 0 t0_0 = V m c main_arg0 := by blk_ext! [iblk, idx t0_0]
theorem b1 (c : Dev nD) : iblk m c 1 t0_0 = V m c main_arg1 := by blk_ext! [iblk, idx t0_0]
theorem b2 (c : Dev nD) : iblk m c 2 t0_0 = V m c main_v0 := by blk_ext! [iblk, idx t0_0]
theorem b3 (c : Dev nD) : iblk m c 3 t0_0 = V m c main_arg3 := by blk_ext! [iblk, idx t0_0]
theorem b4 (c : Dev nD) : iblk m c 4 t0_0 = V m c main_v1 := by blk_ext! [iblk, idx t0_0]
theorem b5 (c : Dev nD) : iblk m c 5 t0_0 = V m c main_arg5 := by blk_ext! [iblk, idx t0_0]
theorem b6 (c : Dev nD) : iblk m c 6 t0_0 = V m c main_v2 := by blk_ext! [iblk, idx t0_0]
theorem b7 (c : Dev nD) : iblk m c 7 t0_0 = V m c main_arg7 := by blk_ext! [iblk, idx t0_0]
theorem b8 (c : Dev nD) : iblk m c 8 t0_0 = V m c main_arg8 := by blk_ext! [iblk, idx t0_0]
theorem b9 (c : Dev nD) : iblk m c 9 t0_0 = V m c main_v3 := by blk_ext! [iblk, idx t0_0]
theorem b10 (c : Dev nD) : iblk m c 10 t0_0 = V m c main_v4 := by blk_ext! [iblk, idx t0_0]
theorem b11 (c : Dev nD) : iblk m c 11 t0_0 = V m c main_arg11 := by blk_ext! [iblk, idx t0_0]
theorem b12 (c : Dev nD) : iblk m c 12 t0_0 = V m c main_v5 := by blk_ext! [iblk, idx t0_0]
theorem b13 (c : Dev nD) : iblk m c 13 t0_0 = V m c main_v6 := by blk_ext! [iblk, idx t0_0]
theorem b14 (c : Dev nD) : iblk m c 14 t0_0 = V m c main_v7 := by blk_ext! [iblk, idx t0_0]

theorem ld0 (X : Vec Ideal S1024x6144 .fp8e5m2) : View.ld X r0_0 = X := View.ld_unit_zero (funext fun a => match a with | ⟨0, _⟩ => rfl | ⟨1, _⟩ => rfl) _ X
theorem ld2 (X : Vec Ideal S1024x5632 .fp8e5m2) : View.ld X r0_2 = X := View.ld_unit_zero (funext fun a => match a with | ⟨0, _⟩ => rfl | ⟨1, _⟩ => rfl) _ X
theorem ld3 (X : Vec Ideal S1x1024 .f32) : View.ld X r0_3 = X := View.ld_unit_zero (funext fun a => match a with | ⟨0, _⟩ => rfl | ⟨1, _⟩ => rfl) _ X

/-- `dw_in` after the run. -/
theorem final15 (c : Dev nD) : (dats m 0 c).arrAt 15 (cfgs 0).N = REF16 (V m c main_arg0) (V m c main_arg1) (V m c main_v2) (V m c main_arg7) (V m c main_v4) := by
  refine (dats m 0 c).arrAt_eq_of_after_last 15 t0_0 (by decide +kernel) _ fun j => ?_
  blk_simp; rw [after0_15]; frame_out
  rw [b0, b1, b6, b7, b10]
/-- `dw_qkv` after the run. -/
theorem final16 (c : Dev nD) : (dats m 0 c).arrAt 16 (cfgs 0).N = REF17 (V m c main_v1) (V m c main_arg5) (V m c main_v2) (V m c main_arg7) (V m c main_v3) := by
  refine (dats m 0 c).arrAt_eq_of_after_last 16 t0_0 (by decide +kernel) _ fun j => ?_
  blk_simp; rw [after0_16]; frame_out
  rw [b4, b5, b6, b7, b9]
/-- `dgamma_attn` after the run. -/
theorem final17 (c : Dev nD) : (dats m 0 c).arrAt 17 (cfgs 0).N = REF18 (V m c main_v1) (V m c main_arg5) (V m c main_v6) (V m c main_v7) (V m c main_v2) (V m c main_arg7) := by
  refine (dats m 0 c).arrAt_eq_of_after_last 17 t0_0 (by decide +kernel) _ fun j => ?_
  blk_simp; rw [after0_17]; frame_out
  rw [b4, b5, b13, b14, b6, b7]; simp only [REF18, REF19, k0_pay22, k0_pay23, k0_pay24, k0_pay25, k0_pay26]; rw [ld0, ld3, ld3]
/-- `dgamma_mlp` after the run. -/
theorem final18 (c : Dev nD) : (dats m 0 c).arrAt 18 (cfgs 0).N = REF19 (V m c main_arg0) (V m c main_arg1) (V m c main_arg11) (V m c main_v5) (V m c main_v2) (V m c main_arg7) := by
  refine (dats m 0 c).arrAt_eq_of_after_last 18 t0_0 (by decide +kernel) _ fun j => ?_
  blk_simp; rw [after0_18]; frame_out
  rw [b0, b1, b11, b12, b6, b7]; simp only [REF18, REF19, k0_pay22, k0_pay23, k0_pay24, k0_pay25, k0_pay26]; rw [ld2, ld3, ld3]
/-- `dx` after the run. -/
theorem final19 (c : Dev nD) : (dats m 0 c).arrAt 19 (cfgs 0).N
    = REF20 (V m c main_arg0) (V m c main_arg1) (V m c main_arg11) (V m c main_v5) (V m c main_v4) (V m c main_v1) (V m c main_arg5) (V m c main_v6) (V m c main_v7) (V m c main_v3)
        (V m c main_v2) (V m c main_arg7) (V m c main_arg8) (V m c main_arg3) (V m c main_v0) := by
  refine (dats m 0 c).arrAt_eq_of_after_last 19 t0_0 (by decide +kernel) _ fun j => ?_
  blk_simp; rw [after0_19]; frame_out
  rw [b0, b1, b2, b3, b4, b5, b6, b7, b8, b9, b10, b11, b12, b13, b14]; simp only [REF20, Cert.ProjIdeal.Value.RHM, Cert.ProjIdeal.Value.RHA, Cert.ProjIdeal.Value.RXH, k0_pay22, k0_pay23, k0_pay24, k0_pay25, k0_pay26]; rw [ld2, ld3, ld0, ld3, ld3]

end Cert.ProjRefIdeal.Whole
end
-- ==== Proof.Proj.Entry.lean ====
module
public import proofs.«01_k».proof.Proof.Proj.RefValue
@[expose] public section
set_option maxRecDepth 16384
noncomputable section
open Idealize.ShloMosaic Idealize.ShloMosaic.TcCoe Idealize.SL.Sem
/-! The two programs' arrays when the pallas_call starts. Given the same arguments they are equal: each is an argument, or an
    argument reshaped. -/
namespace Cert.Entry
variable (m : (ℓ : Loc Cert.ProjIdeal.nD Cert.ProjIdeal.τ Cert.ProjIdeal.sig) → Buf (Elt Ideal) ℓ)
variable (m' : (ℓ : Loc Cert.ProjRefIdeal.nD Cert.ProjRefIdeal.τ Cert.ProjRefIdeal.sig) → Buf (Elt Ideal) ℓ)
variable (c : Dev Cert.ProjIdeal.nD)

theorem arg0 (h : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)) :
    Cert.ProjRefIdeal.Gen.V m' c Cert.ProjRefIdeal.main_arg0 = Cert.ProjIdeal.Gen.V m c Cert.ProjIdeal.main_arg0 :=
  (Cert.ProjRefIdeal.Gen.V_main_arg0 m' c).trans (h.trans (Cert.ProjIdeal.Gen.V_main_arg0 m c).symm)
theorem arg1 (h : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) :
    Cert.ProjRefIdeal.Gen.V m' c Cert.ProjRefIdeal.main_arg1 = Cert.ProjIdeal.Gen.V m c Cert.ProjIdeal.main_arg1 :=
  (Cert.ProjRefIdeal.Gen.V_main_arg1 m' c).trans (h.trans (Cert.ProjIdeal.Gen.V_main_arg1 m c).symm)
theorem arg3 (h : m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) :
    Cert.ProjRefIdeal.Gen.V m' c Cert.ProjRefIdeal.main_arg3 = Cert.ProjIdeal.Gen.V m c Cert.ProjIdeal.main_arg3 :=
  (Cert.ProjRefIdeal.Gen.V_main_arg3 m' c).trans (h.trans (Cert.ProjIdeal.Gen.V_main_arg3 m c).symm)
theorem arg5 (h : m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) :
    Cert.ProjRefIdeal.Gen.V m' c Cert.ProjRefIdeal.main_arg5 = Cert.ProjIdeal.Gen.V m c Cert.ProjIdeal.main_arg5 :=
  (Cert.ProjRefIdeal.Gen.V_main_arg5 m' c).trans (h.trans (Cert.ProjIdeal.Gen.V_main_arg5 m c).symm)
theorem arg7 (h : m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) :
    Cert.ProjRefIdeal.Gen.V m' c Cert.ProjRefIdeal.main_arg7 = Cert.ProjIdeal.Gen.V m c Cert.ProjIdeal.main_arg7 :=
  (Cert.ProjRefIdeal.Gen.V_main_arg7 m' c).trans (h.trans (Cert.ProjIdeal.Gen.V_main_arg7 m c).symm)
theorem arg8 (h : m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) :
    Cert.ProjRefIdeal.Gen.V m' c Cert.ProjRefIdeal.main_arg8 = Cert.ProjIdeal.Gen.V m c Cert.ProjIdeal.main_arg8 :=
  (Cert.ProjRefIdeal.Gen.V_main_arg8 m' c).trans (h.trans (Cert.ProjIdeal.Gen.V_main_arg8 m c).symm)
theorem arg11 (h : m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)) :
    Cert.ProjRefIdeal.Gen.V m' c Cert.ProjRefIdeal.main_arg11 = Cert.ProjIdeal.Gen.V m c Cert.ProjIdeal.main_arg11 :=
  (Cert.ProjRefIdeal.Gen.V_main_arg11 m' c).trans (h.trans (Cert.ProjIdeal.Gen.V_main_arg11 m c).symm)
theorem arg2 (h : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) :
    Cert.ProjRefIdeal.Gen.V m' c Cert.ProjRefIdeal.main_v0 = Cert.ProjIdeal.Gen.V m c Cert.ProjIdeal.main_v0 := by
  entry_read; exact congrArg (fun x => shapeCast Cert.ProjRefIdeal.main_v0.ty.shape x _) h
theorem arg6 (h : m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) :
    Cert.ProjRefIdeal.Gen.V m' c Cert.ProjRefIdeal.main_v2 = Cert.ProjIdeal.Gen.V m c Cert.ProjIdeal.main_v1 := by
  entry_read; exact congrArg (fun x => shapeCast Cert.ProjRefIdeal.main_v2.ty.shape x _) h
theorem arg4 (h : m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Gen.V m' c Cert.ProjRefIdeal.main_v1 = Cert.ProjIdeal.Gen.V m c Cert.ProjIdeal.main_v2 := by
  entry_read; exact congrArg (fun x => shapeCast Cert.ProjRefIdeal.main_v1.ty.shape x _) h
theorem arg13 (h : m' ((c.tc : Thread Cert.ProjRefIdeal.nD Cert.ProjRefIdeal.τ).loc Cert.ProjRefIdeal.main_arg13) = m ((c.tc : Thread Cert.ProjIdeal.nD Cert.ProjIdeal.τ).loc Cert.ProjIdeal.main_arg13)) :
    Cert.ProjRefIdeal.Gen.V m' c Cert.ProjRefIdeal.main_v6 = Cert.ProjIdeal.Gen.V m c Cert.ProjIdeal.main_v3 := by
  entry_read; exact congrArg (fun x => shapeCast Cert.ProjRefIdeal.main_v6.ty.shape x _) h
theorem arg12 (h : m' ((c.tc : Thread Cert.ProjRefIdeal.nD Cert.ProjRefIdeal.τ).loc Cert.ProjRefIdeal.main_arg12) = m ((c.tc : Thread Cert.ProjIdeal.nD Cert.ProjIdeal.τ).loc Cert.ProjIdeal.main_arg12)) :
    Cert.ProjRefIdeal.Gen.V m' c Cert.ProjRefIdeal.main_v5 = Cert.ProjIdeal.Gen.V m c Cert.ProjIdeal.main_v4 := by
  entry_read; exact congrArg (fun x => shapeCast Cert.ProjRefIdeal.main_v5.ty.shape x _) h
theorem arg14 (h : m' ((c.tc : Thread Cert.ProjRefIdeal.nD Cert.ProjRefIdeal.τ).loc Cert.ProjRefIdeal.main_arg14) = m ((c.tc : Thread Cert.ProjIdeal.nD Cert.ProjIdeal.τ).loc Cert.ProjIdeal.main_arg14)) :
    Cert.ProjRefIdeal.Gen.V m' c Cert.ProjRefIdeal.main_v7 = Cert.ProjIdeal.Gen.V m c Cert.ProjIdeal.main_v5 := by
  entry_read; exact congrArg (fun x => shapeCast Cert.ProjRefIdeal.main_v7.ty.shape x _) h
theorem arg9 (h : m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)) :
    Cert.ProjRefIdeal.Gen.V m' c Cert.ProjRefIdeal.main_v3 = Cert.ProjIdeal.Gen.V m c Cert.ProjIdeal.main_v6 := by
  entry_read; exact congrArg (fun x => shapeCast Cert.ProjRefIdeal.main_v3.ty.shape x _) h
theorem arg10 (h : m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)) :
    Cert.ProjRefIdeal.Gen.V m' c Cert.ProjRefIdeal.main_v4 = Cert.ProjIdeal.Gen.V m c Cert.ProjIdeal.main_v7 := by
  entry_read; exact congrArg (fun x => shapeCast Cert.ProjRefIdeal.main_v4.ty.shape x _) h
end Cert.Entry
end
-- ==== Proof.lean ====
/- The proof of the certificate's claims, for the two pallas_calls `mlp_out` and `proj`: the kernel and its ideal program end
   without fault, their arguments unchanged; so does the reference; and the ideal kernel and the reference leave the same arrays. -/
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Skeleton
public import proofs.«01_k».proof.Proof.Gen.MlpRefIdeal.Launch
public import proofs.«01_k».proof.Proof.Gen.MlpRefIdeal.Points
public import proofs.«01_k».proof.Proof.Gen.MlpRefIdeal.Frame
public import proofs.«01_k».proof.Proof.MlpBits.Run
public import proofs.«01_k».proof.Proof.Mlp.Run
public import proofs.«01_k».proof.Proof.Mlp.ValueOut
public import proofs.«01_k».proof.Proof.Mlp.RefValue
public import proofs.«01_k».proof.Proof.Mlp.Entry
public import proofs.«01_k».proof.Proof.ProjBits.Run
public import proofs.«01_k».proof.Proof.Proj.Run
public import proofs.«01_k».proof.Proof.Proj.ValueDw
public import proofs.«01_k».proof.Proof.Proj.ValueDg
public import proofs.«01_k».proof.Proof.Proj.ValueDx
public import proofs.«01_k».proof.Proof.Proj.RefValue
public import proofs.«01_k».proof.Proof.Proj.Entry
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-! `mlp_out`: given the same arguments, the reference's array of each result is the kernel's. -/
section
variable (m : (ℓ : Loc Cert.MlpIdeal.nD Cert.MlpIdeal.τ Cert.MlpIdeal.sig) → Buf (Elt Ideal) ℓ)
variable (m' : (ℓ : Loc Cert.MlpRefIdeal.nD Cert.MlpRefIdeal.τ Cert.MlpRefIdeal.sig) → Buf (Elt Ideal) ℓ)
variable (c : Dev Cert.MlpIdeal.nD)
variable (hagree : ∀ c : Dev Cert.MlpIdeal.nD, m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0) ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1) ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2) ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3) ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4) ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5) ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6) ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7))
include hagree
/-- `dw_out`. -/
theorem mlp8 : (Cert.MlpRefIdeal.Gen.dats m' 0 c).arrAt 8 (Cert.MlpRefIdeal.cfgs 0).N = (Cert.MlpIdeal.Hand.dats m 0 c).arrAt 8 (Cert.MlpIdeal.cfgs 0).N :=
  (Cert.MlpRefIdeal.Whole.final8 m' c).trans (Eq.trans
    (congr (congr (congr (congrArg Cert.MlpIdeal.Value.REF8 (Cert.MlpEntry.arg0 m m' c (hagree c).1)) (Cert.MlpEntry.arg1 m m' c (hagree c).2.1)) (Cert.MlpEntry.arg4 m m' c (hagree c).2.2.2.2.1)) (Cert.MlpEntry.arg5 m m' c (hagree c).2.2.2.2.2.1))
    (Cert.MlpIdeal.Value.final8 m c).symm)
/-- The codes of `da`. -/
theorem mlp9 : (Cert.MlpRefIdeal.Gen.dats m' 0 c).arrAt 9 (Cert.MlpRefIdeal.cfgs 0).N = (Cert.MlpIdeal.Hand.dats m 0 c).arrAt 9 (Cert.MlpIdeal.cfgs 0).N :=
  (Cert.MlpRefIdeal.Whole.final9 m' c).trans (Eq.trans
    (congr (congr (congr (congr (congr (congrArg Cert.MlpIdeal.Value.REF9 (Cert.MlpEntry.arg0 m m' c (hagree c).1)) (Cert.MlpEntry.arg1 m m' c (hagree c).2.1)) (Cert.MlpEntry.arg2 m m' c (hagree c).2.2.1)) (Cert.MlpEntry.arg3 m m' c (hagree c).2.2.2.1)) (Cert.MlpEntry.arg6 m m' c (hagree c).2.2.2.2.2.2.1)) (Cert.MlpEntry.arg7 m m' c (hagree c).2.2.2.2.2.2.2))
    (Cert.MlpIdeal.Value.final9 m c).symm)
/-- The scales of the codes. -/
theorem mlp10 : (Cert.MlpRefIdeal.Gen.dats m' 0 c).arrAt 10 (Cert.MlpRefIdeal.cfgs 0).N = (Cert.MlpIdeal.Hand.dats m 0 c).arrAt 10 (Cert.MlpIdeal.cfgs 0).N :=
  (Cert.MlpRefIdeal.Whole.final10 m' c).trans (Eq.trans
    (congr (congr (congr (congr (congr (congrArg Cert.MlpIdeal.Value.REF10 (Cert.MlpEntry.arg0 m m' c (hagree c).1)) (Cert.MlpEntry.arg1 m m' c (hagree c).2.1)) (Cert.MlpEntry.arg2 m m' c (hagree c).2.2.1)) (Cert.MlpEntry.arg3 m m' c (hagree c).2.2.2.1)) (Cert.MlpEntry.arg6 m m' c (hagree c).2.2.2.2.2.2.1)) (Cert.MlpEntry.arg7 m m' c (hagree c).2.2.2.2.2.2.2))
    (Cert.MlpIdeal.Value.final10 m c).symm)
end

/-- The ideal kernel and the reference, on the same arguments, leave the same `dw_out`, codes and scales. -/
theorem algebraic_mlp : Cert.algebraic_MlpIdeal_MlpRefIdeal (hMlpIdeal := Cert.MlpIdeal.Gen.facts) (hMlpRefIdeal := Cert.MlpRefIdeal.Gen.facts) := by
  intro m g m' g' hpre hagree
  refine ⟨fun c => (Cert.MlpIdeal.Hand.dats m 0 c).arrAt 8 (Cert.MlpIdeal.cfgs 0).N, fun c => (Cert.MlpIdeal.Hand.dats m 0 c).arrAt 9 (Cert.MlpIdeal.cfgs 0).N,
    fun c => (Cert.MlpIdeal.Hand.dats m 0 c).arrAt 10 (Cert.MlpIdeal.cfgs 0).N, ?_, ?_⟩
  · refine (θ_run _ _ _).mono (fun r h c => ?_) (θ_run_and (Cert.MlpIdeal.Hand.run_main m g) (Cert.MlpIdeal.Hand.unchanged m g))
    exact ⟨(h.1 c).1 8, (h.1 c).1 9, (h.1 c).1 10, h.2 c⟩
  · refine (θ_run _ _ _).mono (fun r h c => ?_) (θ_run_and (Cert.MlpRefIdeal.Gen.run_main m' g') (Cert.MlpRefIdeal.Gen.frame m' g'))
    refine ⟨((h.1 c).1 8).trans ?_, ((h.1 c).1 9).trans ?_, ((h.1 c).1 10).trans ?_, h.2.1 c⟩
    · exact mlp8 m m' c hagree
    · exact mlp9 m m' c hagree
    · exact mlp10 m m' c hagree

/-- The two constants of `mlp_out` whose exact values the ideal program names. -/
theorem preserves : Cert.preserves_Mlp_MlpIdeal :=
  ⟨IdealRules.named_const.statement Cert.MlpIdeal.κ "gelu_c" .f32 0x3F4C422A#32 ((3989422804014327 / 5000000000000000 : ℝ) : EReal) rfl,
   IdealRules.named_const.statement Cert.MlpIdeal.κ "gelu_a_c2" .f32 0x3D8FD906#32 ((372625000000000000000000000000 / 5305164769729845112342007087643 : ℝ) : EReal) rfl⟩

/-! `proj`: given the same arguments, the reference's array of each result is the kernel's. -/
section
variable (m : (ℓ : Loc Cert.ProjIdeal.nD Cert.ProjIdeal.τ Cert.ProjIdeal.sig) → Buf (Elt Ideal) ℓ)
variable (m' : (ℓ : Loc Cert.ProjRefIdeal.nD Cert.ProjRefIdeal.τ Cert.ProjRefIdeal.sig) → Buf (Elt Ideal) ℓ)
variable (c : Dev Cert.ProjIdeal.nD)
variable (hagree : ∀ c : Dev Cert.ProjIdeal.nD, m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0) ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1) ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2) ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3) ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4) ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5) ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6) ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7) ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8) ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9) ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10) ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11) ∧ m' ((c.tc : Thread Cert.ProjRefIdeal.nD Cert.ProjRefIdeal.τ).loc Cert.ProjRefIdeal.main_arg12) = m ((c.tc : Thread Cert.ProjIdeal.nD Cert.ProjIdeal.τ).loc Cert.ProjIdeal.main_arg12) ∧ m' ((c.tc : Thread Cert.ProjRefIdeal.nD Cert.ProjRefIdeal.τ).loc Cert.ProjRefIdeal.main_arg13) = m ((c.tc : Thread Cert.ProjIdeal.nD Cert.ProjIdeal.τ).loc Cert.ProjIdeal.main_arg13) ∧ m' ((c.tc : Thread Cert.ProjRefIdeal.nD Cert.ProjRefIdeal.τ).loc Cert.ProjRefIdeal.main_arg14) = m ((c.tc : Thread Cert.ProjIdeal.nD Cert.ProjIdeal.τ).loc Cert.ProjIdeal.main_arg14))
include hagree
/-- `dw_in`. -/
theorem same16 : (Cert.ProjRefIdeal.Gen.dats m' 0 c).arrAt 15 (Cert.ProjRefIdeal.cfgs 0).N = (Cert.ProjIdeal.Hand.dats m 0 c).arrAt 16 (Cert.ProjIdeal.cfgs 0).N :=
  (Cert.ProjRefIdeal.Whole.final15 m' c).trans (Eq.trans
    (congr (congr (congr (congr (congrArg Cert.ProjIdeal.Value.REF16 (Cert.Entry.arg0 m m' c (hagree c).1)) (Cert.Entry.arg1 m m' c (hagree c).2.1)) (Cert.Entry.arg6 m m' c (hagree c).2.2.2.2.2.2.1)) (Cert.Entry.arg7 m m' c (hagree c).2.2.2.2.2.2.2.1)) (Cert.Entry.arg10 m m' c (hagree c).2.2.2.2.2.2.2.2.2.2.1))
    (Cert.ProjIdeal.Value.final16 m c).symm)
/-- `dw_qkv`. -/
theorem same17 : (Cert.ProjRefIdeal.Gen.dats m' 0 c).arrAt 16 (Cert.ProjRefIdeal.cfgs 0).N = (Cert.ProjIdeal.Hand.dats m 0 c).arrAt 17 (Cert.ProjIdeal.cfgs 0).N :=
  (Cert.ProjRefIdeal.Whole.final16 m' c).trans (Eq.trans
    (congr (congr (congr (congr (congrArg Cert.ProjIdeal.Value.REF17 (Cert.Entry.arg4 m m' c (hagree c).2.2.2.2.1)) (Cert.Entry.arg5 m m' c (hagree c).2.2.2.2.2.1)) (Cert.Entry.arg6 m m' c (hagree c).2.2.2.2.2.2.1)) (Cert.Entry.arg7 m m' c (hagree c).2.2.2.2.2.2.2.1)) (Cert.Entry.arg9 m m' c (hagree c).2.2.2.2.2.2.2.2.2.1))
    (Cert.ProjIdeal.Value.final17 m c).symm)
/-- `dgamma_attn`. -/
theorem same18 : (Cert.ProjRefIdeal.Gen.dats m' 0 c).arrAt 17 (Cert.ProjRefIdeal.cfgs 0).N = (Cert.ProjIdeal.Hand.dats m 0 c).arrAt 18 (Cert.ProjIdeal.cfgs 0).N :=
  (Cert.ProjRefIdeal.Whole.final17 m' c).trans (Eq.trans
    (congr (congr (congr (congr (congr (congrArg Cert.ProjIdeal.Value.REF18 (Cert.Entry.arg4 m m' c (hagree c).2.2.2.2.1)) (Cert.Entry.arg5 m m' c (hagree c).2.2.2.2.2.1)) (Cert.Entry.arg13 m m' c (hagree c).2.2.2.2.2.2.2.2.2.2.2.2.2.1)) (Cert.Entry.arg14 m m' c (hagree c).2.2.2.2.2.2.2.2.2.2.2.2.2.2)) (Cert.Entry.arg6 m m' c (hagree c).2.2.2.2.2.2.1)) (Cert.Entry.arg7 m m' c (hagree c).2.2.2.2.2.2.2.1))
    (Cert.ProjIdeal.Value.final18 m c).symm)
/-- `dgamma_mlp`. -/
theorem same19 : (Cert.ProjRefIdeal.Gen.dats m' 0 c).arrAt 18 (Cert.ProjRefIdeal.cfgs 0).N = (Cert.ProjIdeal.Hand.dats m 0 c).arrAt 19 (Cert.ProjIdeal.cfgs 0).N :=
  (Cert.ProjRefIdeal.Whole.final18 m' c).trans (Eq.trans
    (congr (congr (congr (congr (congr (congrArg Cert.ProjIdeal.Value.REF19 (Cert.Entry.arg0 m m' c (hagree c).1)) (Cert.Entry.arg1 m m' c (hagree c).2.1)) (Cert.Entry.arg11 m m' c (hagree c).2.2.2.2.2.2.2.2.2.2.2.1)) (Cert.Entry.arg12 m m' c (hagree c).2.2.2.2.2.2.2.2.2.2.2.2.1)) (Cert.Entry.arg6 m m' c (hagree c).2.2.2.2.2.2.1)) (Cert.Entry.arg7 m m' c (hagree c).2.2.2.2.2.2.2.1))
    (Cert.ProjIdeal.Value.final19 m c).symm)
/-- `dx`. -/
theorem same20 : (Cert.ProjRefIdeal.Gen.dats m' 0 c).arrAt 19 (Cert.ProjRefIdeal.cfgs 0).N = (Cert.ProjIdeal.Hand.dats m 0 c).arrAt 20 (Cert.ProjIdeal.cfgs 0).N :=
  (Cert.ProjRefIdeal.Whole.final19 m' c).trans (Eq.trans
    (congr (congr (congr (congr (congr (congr (congr (congr (congr (congr (congr (congr (congr (congr (congrArg Cert.ProjIdeal.Value.REF20 (Cert.Entry.arg0 m m' c (hagree c).1)) (Cert.Entry.arg1 m m' c (hagree c).2.1)) (Cert.Entry.arg11 m m' c (hagree c).2.2.2.2.2.2.2.2.2.2.2.1)) (Cert.Entry.arg12 m m' c (hagree c).2.2.2.2.2.2.2.2.2.2.2.2.1)) (Cert.Entry.arg10 m m' c (hagree c).2.2.2.2.2.2.2.2.2.2.1)) (Cert.Entry.arg4 m m' c (hagree c).2.2.2.2.1)) (Cert.Entry.arg5 m m' c (hagree c).2.2.2.2.2.1)) (Cert.Entry.arg13 m m' c (hagree c).2.2.2.2.2.2.2.2.2.2.2.2.2.1)) (Cert.Entry.arg14 m m' c (hagree c).2.2.2.2.2.2.2.2.2.2.2.2.2.2)) (Cert.Entry.arg9 m m' c (hagree c).2.2.2.2.2.2.2.2.2.1)) (Cert.Entry.arg6 m m' c (hagree c).2.2.2.2.2.2.1)) (Cert.Entry.arg7 m m' c (hagree c).2.2.2.2.2.2.2.1)) (Cert.Entry.arg8 m m' c (hagree c).2.2.2.2.2.2.2.2.1)) (Cert.Entry.arg3 m m' c (hagree c).2.2.2.1)) (Cert.Entry.arg2 m m' c (hagree c).2.2.1))
    (Cert.ProjIdeal.Value.final20 m c).symm)
end

/-- The ideal kernel and the reference, on the same arguments, leave the same `dw_in`, `dw_qkv`, `dgamma_attn`, `dgamma_mlp` and `dx`. -/
theorem algebraic : Cert.algebraic_ProjIdeal_ProjRefIdeal (hProjIdeal := Cert.ProjIdeal.Gen.facts) (hProjRefIdeal := Cert.ProjRefIdeal.Gen.facts) := by
  intro m g m' g' hpre hagree
  refine ⟨fun c => (Cert.ProjIdeal.Hand.dats m 0 c).arrAt 16 (Cert.ProjIdeal.cfgs 0).N, fun c => (Cert.ProjIdeal.Hand.dats m 0 c).arrAt 17 (Cert.ProjIdeal.cfgs 0).N,
    fun c => (Cert.ProjIdeal.Hand.dats m 0 c).arrAt 18 (Cert.ProjIdeal.cfgs 0).N, fun c => (Cert.ProjIdeal.Hand.dats m 0 c).arrAt 19 (Cert.ProjIdeal.cfgs 0).N,
    fun c => (Cert.ProjIdeal.Hand.dats m 0 c).arrAt 20 (Cert.ProjIdeal.cfgs 0).N, ?_, ?_⟩
  · refine (θ_run _ _ _).mono (fun r h c => ?_) (θ_run_and (Cert.ProjIdeal.Hand.run_main m g) (Cert.ProjIdeal.Hand.unchanged m g))
    exact ⟨(h.1 c).1 16, (h.1 c).1 17, (h.1 c).1 18, (h.1 c).1 19, (h.1 c).1 20, h.2 c⟩
  · refine (θ_run _ _ _).mono (fun r h c => ?_) (θ_run_and (Cert.ProjRefIdeal.Gen.run_main m' g') (Cert.ProjRefIdeal.Gen.frame m' g'))
    obtain ⟨h0, h1, h2, h3, h4, h5, h6, h7, h8, h9, h10, h11, h12, h13, h14⟩ := hagree c
    refine ⟨((h.1 c).1 15).trans ?_, ((h.1 c).1 16).trans ?_, ((h.1 c).1 17).trans ?_, ((h.1 c).1 18).trans ?_, ((h.1 c).1 19).trans ?_, h.2.1 c⟩
    · exact same16 m m' c hagree
    · exact same17 m m' c hagree
    · exact same18 m m' c hagree
    · exact same19 m m' c hagree
    · exact same20 m m' c hagree

theorem claim : Cert.Claim := ⟨Cert.Mlp.Gen.facts, Cert.MlpIdeal.Gen.facts, Cert.MlpRefIdeal.Gen.facts, Cert.Proj.Gen.facts, Cert.ProjIdeal.Gen.facts, Cert.ProjRefIdeal.Gen.facts,
  fun m ρ _ => Cert.Mlp.Hand.frame m ρ, fun m ρ _ => Cert.MlpIdeal.Hand.frame m ρ, fun m ρ _ => Cert.MlpRefIdeal.Gen.frame m ρ,
  fun m ρ _ => Cert.Proj.Hand.frame m ρ, fun m ρ _ => Cert.ProjIdeal.Hand.frame m ρ, fun m ρ _ => Cert.ProjRefIdeal.Gen.frame m ρ,
  preserves, algebraic_mlp, trivial, algebraic⟩

end Cert.Proof

end
